-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_rows_in_range_finite [hPre_rows_in_range_finite : Cert.Pre_rows_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_rows_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_rows_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_rows_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_rows_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range_finite [hPre_rows_in_range_finite : Cert.Pre_rows_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_rows_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_rows_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_rows_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_rows_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_in_range_finite [hKernelIdeal : Cert.KernelIdeal.Facts] [hPre_rows_in_range_finite : Cert.Pre_rows_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_in_range_finite [hReferenceIdeal : Cert.ReferenceIdeal.Facts] [hPre_rows_in_range_finite : Cert.Pre_rows_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_rows_in_range_finite [hKernelIdeal : Cert.KernelIdeal.Facts] [hReferenceIdeal : Cert.ReferenceIdeal.Facts] [hPre_rows_in_range_finite : Cert.Pre_rows_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v7_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v136) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_in_range : Cert.Pre_rows_in_range.Facts) (hPre_rows_in_range_finite : Cert.Pre_rows_in_range_finite.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_rows_in_range_finite (hKernelIdeal := hKernelIdeal) (hPre_rows_in_range_finite := hPre_rows_in_range_finite)
    ∧ quiescent_ReferenceIdeal (hReferenceIdeal := hReferenceIdeal)
    ∧ quiescent_ReferenceIdeal_pre_rows_in_range_finite (hReferenceIdeal := hReferenceIdeal) (hPre_rows_in_range_finite := hPre_rows_in_range_finite)
    ∧ preserves_Kernel_KernelIdeal
    ∧ algebraic_KernelIdeal_ReferenceIdeal_pre_rows_in_range_finite (hKernelIdeal := hKernelIdeal) (hReferenceIdeal := hReferenceIdeal) (hPre_rows_in_range_finite := hPre_rows_in_range_finite)
-- ==== Pre_rows_in_range.lean ====
abbrev S16x3 : Shape := ⟨2, ![16, 3]⟩
abbrev S16x32768 : Shape := ⟨2, ![16, 32768]⟩
abbrev S32768x64 : Shape := ⟨2, ![32768, 64]⟩
abbrev S500x64 : Shape := ⟨2, ![500, 64]⟩
abbrev S_ : Shape := ⟨0, ![]⟩

class Facts : Prop where
  bcast_S_S16x3 : S_.BroadcastsInDim S16x3 (![] : Fin 0 → Fin S16x3.rank)

variable [Facts]

def fn {F : FTy → Type} [FloatOps F] (main_arg0 : IVec S16x3 32) (main_arg1 : IVec S16x32768 1) (main_arg2 : IVec S16x32768 1) (main_arg3 : IVec S16x32768 1) (main_arg4 : FVec F S32768x64 .f32) (main_arg5 : FVec F S32768x64 .f32) (main_arg6 : FVec F S500x64 .f32) (main_arg7 : FVec F S500x64 .f32) : IVec S16x3 1 :=
  let main_c : IVec S_ 32 := constantI S_ 32 0#32
  let main_v0 : IVec S16x3 32 := broadcastInDim S16x3 ![] bcast_S_S16x3 main_c
  let main_v1 : IVec S16x3 1 := cmpi .sge main_arg0 main_v0
  let main_c_0 : IVec S_ 32 := constantI S_ 32 500#32
  let main_v2 : IVec S16x3 32 := broadcastInDim S16x3 ![] bcast_S_S16x3 main_c_0
  let main_v3 : IVec S16x3 1 := cmpi .slt main_arg0 main_v2
  let main_v4 : IVec S16x3 1 := andi main_v1 main_v3
  main_v4
-- ==== Pre_rows_in_range_finite.lean ====
abbrev S16x3 : Shape := ⟨2, ![16, 3]⟩
abbrev S16x32768 : Shape := ⟨2, ![16, 32768]⟩
abbrev S32768x64 : Shape := ⟨2, ![32768, 64]⟩
abbrev S500x64 : Shape := ⟨2, ![500, 64]⟩
abbrev S_ : Shape := ⟨0, ![]⟩

class Facts : Prop where
  bcast_S_S16x3 : S_.BroadcastsInDim S16x3 (![] : Fin 0 → Fin S16x3.rank)
  bcast_S_S32768x64 : S_.BroadcastsInDim S32768x64 (![] : Fin 0 → Fin S32768x64.rank)
  bcast_S_S500x64 : S_.BroadcastsInDim S500x64 (![] : Fin 0 → Fin S500x64.rank)

variable [Facts]

def fn {F : FTy → Type} [FloatOps F] (main_arg0 : IVec S16x3 32) (main_arg1 : IVec S16x32768 1) (main_arg2 : IVec S16x32768 1) (main_arg3 : IVec S16x32768 1) (main_arg4 : FVec F S32768x64 .f32) (main_arg5 : FVec F S32768x64 .f32) (main_arg6 : FVec F S500x64 .f32) (main_arg7 : FVec F S500x64 .f32) : IVec S16x3 1 × IVec S32768x64 1 × IVec S32768x64 1 × IVec S500x64 1 × IVec S500x64 1 :=
  let main_c : IVec S_ 32 := constantI S_ 32 0#32
  let main_v0 : IVec S16x3 32 := broadcastInDim S16x3 ![] bcast_S_S16x3 main_c
  let main_v1 : IVec S16x3 1 := cmpi .sge main_arg0 main_v0
  let main_c_0 : IVec S_ 32 := constantI S_ 32 500#32
  let main_v2 : IVec S16x3 32 := broadcastInDim S16x3 ![] bcast_S_S16x3 main_c_0
  let main_v3 : IVec S16x3 1 := cmpi .slt main_arg0 main_v2
  let main_v4 : IVec S16x3 1 := andi main_v1 main_v3
  let main_v5 : FVec F S32768x64 .f32 := Host.absf main_arg4
  let main_cst : FVec F S_ .f32 := constant S_ .f32 0x7F800000#32
  let main_v6 : FVec F S32768x64 .f32 := broadcastInDim S32768x64 ![] bcast_S_S32768x64 main_cst
  let main_v7 : IVec S32768x64 1 := cmpf .olt main_v5 main_v6
  let main_v8 : FVec F S32768x64 .f32 := Host.absf main_arg5
  let main_cst_1 : FVec F S_ .f32 := constant S_ .f32 0x7F800000#32
  let main_v9 : FVec F S32768x64 .f32 := broadcastInDim S32768x64 ![] bcast_S_S32768x64 main_cst_1
  let main_v10 : IVec S32768x64 1 := cmpf .olt main_v8 main_v9
  let main_v11 : FVec F S500x64 .f32 := Host.absf main_arg6
  let main_cst_2 : FVec F S_ .f32 := constant S_ .f32 0x7F800000#32
  let main_v12 : FVec F S500x64 .f32 := broadcastInDim S500x64 ![] bcast_S_S500x64 main_cst_2
  let main_v13 : IVec S500x64 1 := cmpf .olt main_v11 main_v12
  let main_v14 : FVec F S500x64 .f32 := Host.absf main_arg7
  let main_cst_3 : FVec F S_ .f32 := constant S_ .f32 0x7F800000#32
  let main_v15 : FVec F S500x64 .f32 := broadcastInDim S500x64 ![] bcast_S_S500x64 main_cst_3
  let main_v16 : IVec S500x64 1 := cmpf .olt main_v14 main_v15
  (main_v4, main_v7, main_v10, main_v13, main_v16)
-- ==== Kernel.lean ====
abbrev S16x3 : Shape := ⟨2, ![16, 3]⟩
abbrev S16x32768 : Shape := ⟨2, ![16, 32768]⟩
abbrev S32768x64 : Shape := ⟨2, ![32768, 64]⟩
abbrev S500x64 : Shape := ⟨2, ![500, 64]⟩
abbrev S500x128 : Shape := ⟨2, ![500, 128]⟩
abbrev S_ : Shape := ⟨0, ![]⟩
abbrev S16x128 : Shape := ⟨2, ![16, 128]⟩
abbrev S3x5 : Shape := ⟨2, ![3, 5]⟩
abbrev S8192x64 : Shape := ⟨2, ![8192, 64]⟩
abbrev S16x8192 : Shape := ⟨2, ![16, 8192]⟩
abbrev S16x64 : Shape := ⟨2, ![16, 64]⟩
abbrev S1x1 : Shape := ⟨2, ![1, 1]⟩
abbrev S1x64 : Shape := ⟨2, ![1, 64]⟩
abbrev S1x128 : Shape := ⟨2, ![1, 128]⟩
abbrev S16x1 : Shape := ⟨2, ![16, 1]⟩
abbrev S16 : Shape := ⟨1, ![16]⟩
abbrev S16x5 : Shape := ⟨2, ![16, 5]⟩
abbrev S5 : Shape := ⟨1, ![5]⟩
abbrev S1x5 : Shape := ⟨2, ![1, 5]⟩

abbrev nBuf : Space → Nat
  | .hbm => 25
  | .vmem => 15
  | .smem => 1
  | _ => 0

abbrev bufTy : (tb : Table) → Fin (tcTables nBuf tb) → BufTy
  | .hbm, ⟨0, _⟩ => ⟨S16x3, .i32⟩
  | .hbm, ⟨1, _⟩ => ⟨S16x32768, .i1⟩
  | .hbm, ⟨2, _⟩ => ⟨S16x32768, .i1⟩
  | .hbm, ⟨3, _⟩ => ⟨S16x32768, .i1⟩
  | .hbm, ⟨4, _⟩ => ⟨S32768x64, .f32⟩
  | .hbm, ⟨5, _⟩ => ⟨S32768x64, .f32⟩
  | .hbm, ⟨6, _⟩ => ⟨S500x64, .f32⟩
  | .hbm, ⟨7, _⟩ => ⟨S500x64, .f32⟩
  | .hbm, ⟨8, _⟩ => ⟨S500x128, .f32⟩
  | .hbm, ⟨9, _⟩ => ⟨S16x32768, .i32⟩
  | .hbm, ⟨10, _⟩ => ⟨S16x32768, .i32⟩
  | .hbm, ⟨11, _⟩ => ⟨S_, .i32⟩
  | .hbm, ⟨12, _⟩ => ⟨S16x32768, .i32⟩
  | .hbm, ⟨13, _⟩ => ⟨S16x32768, .i32⟩
  | .hbm, ⟨14, _⟩ => ⟨S16x32768, .i32⟩
  | .hbm, ⟨15, _⟩ => ⟨S16x32768, .i8⟩
  | .hbm, ⟨16, _⟩ => ⟨S16x32768, .f32⟩
  | .hbm, ⟨17, _⟩ => ⟨S16x128, .i32⟩
  | .hbm, ⟨18, _⟩ => ⟨S3x5, .f32⟩
  | .hbm, ⟨19, _⟩ => ⟨S16x1, .i32⟩
  | .hbm, ⟨20, _⟩ => ⟨S16, .i32⟩
  | .hbm, ⟨21, _⟩ => ⟨S16x1, .i32⟩
  | .hbm, ⟨22, _⟩ => ⟨S16, .i32⟩
  | .hbm, ⟨23, _⟩ => ⟨S16x1, .i32⟩
  | .hbm, ⟨24, _⟩ => ⟨S16, .i32⟩
  | .local _ .vmem, ⟨0, _⟩ => ⟨S500x128, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S16x8192, .i8⟩
  | .local _ .vmem, ⟨6, _⟩ => ⟨S16x8192, .i8⟩
  | .local _ .vmem, ⟨7, _⟩ => ⟨S16x8192, .f32⟩
  | .local _ .vmem, ⟨8, _⟩ => ⟨S16x8192, .f32⟩
  | .local _ .vmem, ⟨9, _⟩ => ⟨S16x128, .i32⟩
  | .local _ .vmem, ⟨10, _⟩ => ⟨S3x5, .f32⟩
  | .local _ .vmem, ⟨11, _⟩ => ⟨S16x64, .f32⟩
  | .local _ .vmem, ⟨12, _⟩ => ⟨S16x64, .f32⟩
  | .local _ .vmem, ⟨13, _⟩ => ⟨S16x128, .f32⟩
  | .local _ .vmem, ⟨14, _⟩ => ⟨S16x128, .i32⟩
  | .local _ .smem, ⟨0, _⟩ => ⟨S16x3, .i32⟩
  | _, _ => ⟨S16x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v92 : BitVec 32) : Fin 2 → Nat :=
  let v95 : Index := Scalar.indexCast v92
  let c0_49 : Index := 0#32
  ![v95.toNat, 0]

def k0_chk1 (i : grid0.Coords) (v92 : BitVec 32) : Prop :=
  (∀ (k0_h1 : k0_cond1 i = 1#1), ∀ a, (k0_off1 v92) a + S1x64.size a ≤ S8192x64.size a)
theorem k0_off1_inb : ∀ (i : grid0.Coords) (v92 : BitVec 32) (k0_hw1 : k0_chk1 i v92), ∀ (k0_h1 : k0_cond1 i = 1#1), ∀ a, (k0_off1 v92) a + S1x64.size a ≤ S8192x64.size a := fun i v92 k0_hw1 k0_h1 => k0_hw1 k0_h1

def k0_off2 (v93 : BitVec 32) : Fin 2 → Nat :=
  let v99 : Index := Scalar.indexCast v93
  let c0_51 : Index := 0#32
  ![v99.toNat, 0]

def k0_chk2 (i : grid0.Coords) (v93 : BitVec 32) : Prop :=
  (∀ (k0_h1 : k0_cond1 i = 1#1), ∀ a, (k0_off2 v93) a + S1x128.size a ≤ S500x128.size a)
theorem k0_off2_inb : ∀ (i : grid0.Coords) (v93 : BitVec 32) (k0_hw2 : k0_chk2 i v93), ∀ (k0_h1 : k0_cond1 i = 1#1), ∀ a, (k0_off2 v93) a + S1x128.size a ≤ S500x128.size a := fun i v93 k0_hw2 k0_h1 => k0_hw2 k0_h1

def k0_off3 (v120 : BitVec 32) : Fin 2 → Nat :=
  let v123 : Index := Scalar.indexCast v120
  let c0_64 : Index := 0#32
  ![v123.toNat, 0]

def k0_chk3 (i : grid0.Coords) (v120 : BitVec 32) : Prop :=
  (∀ (k0_h1 : k0_cond1 i = 1#1), ∀ a, (k0_off3 v120) a + S1x64.size a ≤ S8192x64.size a)
theorem k0_off3_inb : ∀ (i : grid0.Coords) (v120 : BitVec 32) (k0_hw3 : k0_chk3 i v120), ∀ (k0_h1 : k0_cond1 i = 1#1), ∀ a, (k0_off3 v120) a + S1x64.size a ≤ S8192x64.size a := fun i v120 k0_hw3 k0_h1 => k0_hw3 k0_h1

def k0_off4 (v121 : BitVec 32) : Fin 2 → Nat :=
  let v127 : Index := Scalar.indexCast v121
  let c0_66 : Index := 0#32
  ![v127.toNat, 0]

def k0_chk4 (i : grid0.Coords) (v121 : BitVec 32) : Prop :=
  (∀ (k0_h1 : k0_cond1 i = 1#1), ∀ a, (k0_off4 v121) a + S1x128.size a ≤ S500x128.size a)
theorem k0_off4_inb : ∀ (i : grid0.Coords) (v121 : BitVec 32) (k0_hw4 : k0_chk4 i v121), ∀ (k0_h1 : k0_cond1 i = 1#1), ∀ a, (k0_off4 v121) a + S1x128.size a ≤ S500x128.size a := fun i v121 k0_hw4 k0_h1 => k0_hw4 k0_h1

def k0_off5 (v148 : BitVec 32) : Fin 2 → Nat :=
  let v151 : Index := Scalar.indexCast v148
  let c0_79 : Index := 0#32
  ![v151.toNat, 0]

def k0_chk5 (i : grid0.Coords) (v148 : BitVec 32) : Prop :=
  (∀ (k0_h1 : k0_cond1 i = 1#1), ∀ a, (k0_off5 v148) a + S1x64.size a ≤ S8192x64.size a)
theorem k0_off5_inb : ∀ (i : grid0.Coords) (v148 : BitVec 32) (k0_hw5 : k0_chk5 i v148), ∀ (k0_h1 : k0_cond1 i = 1#1), ∀ a, (k0_off5 v148) a + S1x64.size a ≤ S8192x64.size a := fun i v148 k0_hw5 k0_h1 => k0_hw5 k0_h1

def k0_off6 (v149 : BitVec 32) : Fin 2 → Nat :=
  let v155 : Index := Scalar.indexCast v149
  let c0_81 : Index := 0#32
  ![v155.toNat, 0]

def k0_chk6 (i : grid0.Coords) (v149 : BitVec 32) : Prop :=
  (∀ (k0_h1 : k0_cond1 i = 1#1), ∀ a, (k0_off6 v149) a + S1x128.size a ≤ S500x128.size a)
theorem k0_off6_inb : ∀ (i : grid0.Coords) (v149 : BitVec 32) (k0_hw6 : k0_chk6 i v149), ∀ (k0_h1 : k0_cond1 i = 1#1), ∀ a, (k0_off6 v149) a + S1x128.size a ≤ S500x128.size a := fun i v149 k0_hw6 k0_h1 => k0_hw6 k0_h1

def k0_off7 (v176 : BitVec 32) : Fin 2 → Nat :=
  let v179 : Index := Scalar.indexCast v176
  let c0_93 : Index := 0#32
  ![v179.toNat, 0]

def k0_chk7 (i : grid0.Coords) (v176 : BitVec 32) : Prop :=
  (∀ (k0_h1 : k0_cond1 i = 1#1), ∀ a, (k0_off7 v176) a + S1x64.size a ≤ S8192x64.size a)
theorem k0_off7_inb : ∀ (i : grid0.Coords) (v176 : BitVec 32) (k0_hw7 : k0_chk7 i v176), ∀ (k0_h1 : k0_cond1 i = 1#1), ∀ a, (k0_off7 v176) a + S1x64.size a ≤ S8192x64.size a := fun i v176 k0_hw7 k0_h1 => k0_hw7 k0_h1

def k0_off8 (v177 : BitVec 32) : Fin 2 → Nat :=
  let v183 : Index := Scalar.indexCast v177
  let c0_95 : Index := 0#32
  ![v183.toNat, 0]

def k0_chk8 (i : grid0.Coords) (v177 : BitVec 32) : Prop :=
  (∀ (k0_h1 : k0_cond1 i = 1#1), ∀ a, (k0_off8 v177) a + S1x128.size a ≤ S500x128.size a)
theorem k0_off8_inb : ∀ (i : grid0.Coords) (v177 : BitVec 32) (k0_hw8 : k0_chk8 i v177), ∀ (k0_h1 : k0_cond1 i = 1#1), ∀ a, (k0_off8 v177) a + S1x128.size a ≤ S500x128.size a := fun i v177 k0_hw8 k0_h1 => k0_hw8 k0_h1

def k0_off9 (v204 : BitVec 32) : Fin 2 → Nat :=
  let v207 : Index := Scalar.indexCast v204
  let c0_107 : Index := 0#32
  ![v207.toNat, 0]

def k0_chk9 (i : grid0.Coords) (v204 : BitVec 32) : Prop :=
  (∀ (k0_h1 : k0_cond1 i = 1#1), ∀ a, (k0_off9 v204) a + S1x64.size a ≤ S8192x64.size a)
theorem k0_off9_inb : ∀ (i : grid0.Coords) (v204 : BitVec 32) (k0_hw9 : k0_chk9 i v204), ∀ (k0_h1 : k0_cond1 i = 1#1), ∀ a, (k0_off9 v204) a + S1x64.size a ≤ S8192x64.size a := fun i v204 k0_hw9 k0_h1 => k0_hw9 k0_h1

def k0_off10 (v205 : BitVec 32) : Fin 2 → Nat :=
  let v211 : Index := Scalar.indexCast v205
  let c0_109 : Index := 0#32
  ![v211.toNat, 0]

def k0_chk10 (i : grid0.Coords) (v205 : BitVec 32) : Prop :=
  (∀ (k0_h1 : k0_cond1 i = 1#1), ∀ a, (k0_off10 v205) a + S1x128.size a ≤ S500x128.size a)
theorem k0_off10_inb : ∀ (i : grid0.Coords) (v205 : BitVec 32) (k0_hw10 : k0_chk10 i v205), ∀ (k0_h1 : k0_cond1 i = 1#1), ∀ a, (k0_off10 v205) a + S1x128.size a ≤ S500x128.size a := fun i v205 k0_hw10 k0_h1 => k0_hw10 k0_h1

def k0_off11 (v232 : BitVec 32) : Fin 2 → Nat :=
  let v235 : Index := Scalar.indexCast v232
  let c0_121 : Index := 0#32
  ![v235.toNat, 0]

def k0_chk11 (i : grid0.Coords) (v232 : BitVec 32) : Prop :=
  (∀ (k0_h1 : k0_cond1 i = 1#1), ∀ a, (k0_off11 v232) a + S1x64.size a ≤ S8192x64.size a)
theorem k0_off11_inb : ∀ (i : grid0.Coords) (v232 : BitVec 32) (k0_hw11 : k0_chk11 i v232), ∀ (k0_h1 : k0_cond1 i = 1#1), ∀ a, (k0_off11 v232) a + S1x64.size a ≤ S8192x64.size a := fun i v232 k0_hw11 k0_h1 => k0_hw11 k0_h1

def k0_off12 (v233 : BitVec 32) : Fin 2 → Nat :=
  let v239 : Index := Scalar.indexCast v233
  let c0_123 : Index := 0#32
  ![v239.toNat, 0]

def k0_chk12 (i : grid0.Coords) (v233 : BitVec 32) : Prop :=
  (∀ (k0_h1 : k0_cond1 i = 1#1), ∀ a, (k0_off12 v233) a + S1x128.size a ≤ S500x128.size a)
theorem k0_off12_inb : ∀ (i : grid0.Coords) (v233 : BitVec 32) (k0_hw12 : k0_chk12 i v233), ∀ (k0_h1 : k0_cond1 i = 1#1), ∀ a, (k0_off12 v233) a + S1x128.size a ≤ S500x128.size a := fun i v233 k0_hw12 k0_h1 => k0_hw12 k0_h1

def k0_off13 (v260 : BitVec 32) : Fin 2 → Nat :=
  let v263 : Index := Scalar.indexCast v260
  let c0_135 : Index := 0#32
  ![v263.toNat, 0]

def k0_chk13 (i : grid0.Coords) (v260 : BitVec 32) : Prop :=
  (∀ (k0_h1 : k0_cond1 i = 1#1), ∀ a, (k0_off13 v260) a + S1x64.size a ≤ S8192x64.size a)
theorem k0_off13_inb : ∀ (i : grid0.Coords) (v260 : BitVec 32) (k0_hw13 : k0_chk13 i v260), ∀ (k0_h1 : k0_cond1 i = 1#1), ∀ a, (k0_off13 v260) a + S1x64.size a ≤ S8192x64.size a := fun i v260 k0_hw13 k0_h1 => k0_hw13 k0_h1

def k0_off14 (v261 : BitVec 32) : Fin 2 → Nat :=
  let v267 : Index := Scalar.indexCast v261
  let c0_137 : Index := 0#32
  ![v267.toNat, 0]

def k0_chk14 (i : grid0.Coords) (v261 : BitVec 32) : Prop :=
  (∀ (k0_h1 : k0_cond1 i = 1#1), ∀ a, (k0_off14 v261) a + S1x128.size a ≤ S500x128.size a)
theorem k0_off14_inb : ∀ (i : grid0.Coords) (v261 : BitVec 32) (k0_hw14 : k0_chk14 i v261), ∀ (k0_h1 : k0_cond1 i = 1#1), ∀ a, (k0_off14 v261) a + S1x128.size a ≤ S500x128.size a := fun i v261 k0_hw14 k0_h1 => k0_hw14 k0_h1

def k0_off15 (v288 : BitVec 32) : Fin 2 → Nat :=
  let v291 : Index := Scalar.indexCast v288
  let c0_149 : Index := 0#32
  ![v291.toNat, 0]

def k0_chk15 (i : grid0.Coords) (v288 : BitVec 32) : Prop :=
  (∀ (k0_h1 : k0_cond1 i = 1#1), ∀ a, (k0_off15 v288) a + S1x64.size a ≤ S8192x64.size a)
theorem k0_off15_inb : ∀ (i : grid0.Coords) (v288 : BitVec 32) (k0_hw15 : k0_chk15 i v288), ∀ (k0_h1 : k0_cond1 i = 1#1), ∀ a, (k0_off15 v288) a + S1x64.size a ≤ S8192x64.size a := fun i v288 k0_hw15 k0_h1 => k0_hw15 k0_h1

def k0_off16 (v289 : BitVec 32) : Fin 2 → Nat :=
  let v295 : Index := Scalar.indexCast v289
  let c0_151 : Index := 0#32
  ![v295.toNat, 0]

def k0_chk16 (i : grid0.Coords) (v289 : BitVec 32) : Prop :=
  (∀ (k0_h1 : k0_cond1 i = 1#1), ∀ a, (k0_off16 v289) a + S1x128.size a ≤ S500x128.size a)
theorem k0_off16_inb : ∀ (i : grid0.Coords) (v289 : BitVec 32) (k0_hw16 : k0_chk16 i v289), ∀ (k0_h1 : k0_cond1 i = 1#1), ∀ a, (k0_off16 v289) a + S1x128.size a ≤ S500x128.size a := fun i v289 k0_hw16 k0_h1 => k0_hw16 k0_h1

def k0_off17 (v316 : BitVec 32) : Fin 2 → Nat :=
  let v319 : Index := Scalar.indexCast v316
  let c0_164 : Index := 0#32
  ![v319.toNat, 0]

def k0_chk17 (i : grid0.Coords) (v316 : BitVec 32) : Prop :=
  (∀ (k0_h1 : k0_cond1 i = 1#1), ∀ a, (k0_off17 v316) a + S1x64.size a ≤ S8192x64.size a)
theorem k0_off17_inb : ∀ (i : grid0.Coords) (v316 : BitVec 32) (k0_hw17 : k0_chk17 i v316), ∀ (k0_h1 : k0_cond1 i = 1#1), ∀ a, (k0_off17 v316) a + S1x64.size a ≤ S8192x64.size a := fun i v316 k0_hw17 k0_h1 => k0_hw17 k0_h1

def k0_off18 (v317 : BitVec 32) : Fin 2 → Nat :=
  let v323 : Index := Scalar.indexCast v317
  let c0_166 : Index := 0#32
  ![v323.toNat, 0]

def k0_chk18 (i : grid0.Coords) (v317 : BitVec 32) : Prop :=
  (∀ (k0_h1 : k0_cond1 i = 1#1), ∀ a, (k0_off18 v317) a + S1x128.size a ≤ S500x128.size a)
theorem k0_off18_inb : ∀ (i : grid0.Coords) (v317 : BitVec 32) (k0_hw18 : k0_chk18 i v317), ∀ (k0_h1 : k0_cond1 i = 1#1), ∀ a, (k0_off18 v317) a + S1x128.size a ≤ S500x128.size a := fun i v317 k0_hw18 k0_h1 => k0_hw18 k0_h1

def k0_off19 (v344 : BitVec 32) : Fin 2 → Nat :=
  let v347 : Index := Scalar.indexCast v344
  let c0_179 : Index := 0#32
  ![v347.toNat, 0]

def k0_chk19 (i : grid0.Coords) (v344 : BitVec 32) : Prop :=
  (∀ (k0_h1 : k0_cond1 i = 1#1), ∀ a, (k0_off19 v344) a + S1x64.size a ≤ S8192x64.size a)
theorem k0_off19_inb : ∀ (i : grid0.Coords) (v344 : BitVec 32) (k0_hw19 : k0_chk19 i v344), ∀ (k0_h1 : k0_cond1 i = 1#1), ∀ a, (k0_off19 v344) a + S1x64.size a ≤ S8192x64.size a := fun i v344 k0_hw19 k0_h1 => k0_hw19 k0_h1

def k0_off20 (v345 : BitVec 32) : Fin 2 → Nat :=
  let v351 : Index := Scalar.indexCast v345
  let c0_181 : Index := 0#32
  ![v351.toNat, 0]

def k0_chk20 (i : grid0.Coords) (v345 : BitVec 32) : Prop :=
  (∀ (k0_h1 : k0_cond1 i = 1#1), ∀ a, (k0_off20 v345) a + S1x128.size a ≤ S500x128.size a)
theorem k0_off20_inb : ∀ (i : grid0.Coords) (v345 : BitVec 32) (k0_hw20 : k0_chk20 i v345), ∀ (k0_h1 : k0_cond1 i = 1#1), ∀ a, (k0_off20 v345) a + S1x128.size a ≤ S500x128.size a := fun i v345 k0_hw20 k0_h1 => k0_hw20 k0_h1

def k0_off21 (v372 : BitVec 32) : Fin 2 → Nat :=
  let v375 : Index := Scalar.indexCast v372
  let c0_194 : Index := 0#32
  ![v375.toNat, 0]

def k0_chk21 (i : grid0.Coords) (v372 : BitVec 32) : Prop :=
  (∀ (k0_h1 : k0_cond1 i = 1#1), ∀ a, (k0_off21 v372) a + S1x64.size a ≤ S8192x64.size a)
theorem k0_off21_inb : ∀ (i : grid0.Coords) (v372 : BitVec 32) (k0_hw21 : k0_chk21 i v372), ∀ (k0_h1 : k0_cond1 i = 1#1), ∀ a, (k0_off21 v372) a + S1x64.size a ≤ S8192x64.size a := fun i v372 k0_hw21 k0_h1 => k0_hw21 k0_h1

def k0_off22 (v373 : BitVec 32) : Fin 2 → Nat :=
  let v379 : Index := Scalar.indexCast v373
  let c0_196 : Index := 0#32
  ![v379.toNat, 0]

def k0_chk22 (i : grid0.Coords) (v373 : BitVec 32) : Prop :=
  (∀ (k0_h1 : k0_cond1 i = 1#1), ∀ a, (k0_off22 v373) a + S1x128.size a ≤ S500x128.size a)
theorem k0_off22_inb : ∀ (i : grid0.Coords) (v373 : BitVec 32) (k0_hw22 : k0_chk22 i v373), ∀ (k0_h1 : k0_cond1 i = 1#1), ∀ a, (k0_off22 v373) a + S1x128.size a ≤ S500x128.size a := fun i v373 k0_hw22 k0_h1 => k0_hw22 k0_h1

def k0_off23 (v400 : BitVec 32) : Fin 2 → Nat :=
  let v403 : Index := Scalar.indexCast v400
  let c0_208 : Index := 0#32
  ![v403.toNat, 0]

def k0_chk23 (i : grid0.Coords) (v400 : BitVec 32) : Prop :=
  (∀ (k0_h1 : k0_cond1 i = 1#1), ∀ a, (k0_off23 v400) a + S1x64.size a ≤ S8192x64.size a)
theorem k0_off23_inb : ∀ (i : grid0.Coords) (v400 : BitVec 32) (k0_hw23 : k0_chk23 i v400), ∀ (k0_h1 : k0_cond1 i = 1#1), ∀ a, (k0_off23 v400) a + S1x64.size a ≤ S8192x64.size a := fun i v400 k0_hw23 k0_h1 => k0_hw23 k0_h1

def k0_off24 (v401 : BitVec 32) : Fin 2 → Nat :=
  let v407 : Index := Scalar.indexCast v401
  let c0_210 : Index := 0#32
  ![v407.toNat, 0]

def k0_chk24 (i : grid0.Coords) (v401 : BitVec 32) : Prop :=
  (∀ (k0_h1 : k0_cond1 i = 1#1), ∀ a, (k0_off24 v401) a + S1x128.size a ≤ S500x128.size a)
theorem k0_off24_inb : ∀ (i : grid0.Coords) (v401 : BitVec 32) (k0_hw24 : k0_chk24 i v401), ∀ (k0_h1 : k0_cond1 i = 1#1), ∀ a, (k0_off24 v401) a + S1x128.size a ≤ S500x128.size a := fun i v401 k0_hw24 k0_h1 => k0_hw24 k0_h1

def k0_off25 (v428 : BitVec 32) : Fin 2 → Nat :=
  let v431 : Index := Scalar.indexCast v428
  let c0_222 : Index := 0#32
  ![v431.toNat, 0]

def k0_chk25 (i : grid0.Coords) (v428 : BitVec 32) : Prop :=
  (∀ (k0_h1 : k0_cond1 i = 1#1), ∀ a, (k0_off25 v428) a + S1x64.size a ≤ S8192x64.size a)
theorem k0_off25_inb : ∀ (i : grid0.Coords) (v428 : BitVec 32) (k0_hw25 : k0_chk25 i v428), ∀ (k0_h1 : k0_cond1 i = 1#1), ∀ a, (k0_off25 v428) a + S1x64.size a ≤ S8192x64.size a := fun i v428 k0_hw25 k0_h1 => k0_hw25 k0_h1

def k0_off26 (v429 : BitVec 32) : Fin 2 → Nat :=
  let v435 : Index := Scalar.indexCast v429
  let c0_224 : Index := 0#32
  ![v435.toNat, 0]

def k0_chk26 (i : grid0.Coords) (v429 : BitVec 32) : Prop :=
  (∀ (k0_h1 : k0_cond1 i = 1#1), ∀ a, (k0_off26 v429) a + S1x128.size a ≤ S500x128.size a)
theorem k0_off26_inb : ∀ (i : grid0.Coords) (v429 : BitVec 32) (k0_hw26 : k0_chk26 i v429), ∀ (k0_h1 : k0_cond1 i = 1#1), ∀ a, (k0_off26 v429) a + S1x128.size a ≤ S500x128.size a := fun i v429 k0_hw26 k0_h1 => k0_hw26 k0_h1

def k0_off27 (v456 : BitVec 32) : Fin 2 → Nat :=
  let v459 : Index := Scalar.indexCast v456
  let c0_236 : Index := 0#32
  ![v459.toNat, 0]

def k0_chk27 (i : grid0.Coords) (v456 : BitVec 32) : Prop :=
  (∀ (k0_h1 : k0_cond1 i = 1#1), ∀ a, (k0_off27 v456) a + S1x64.size a ≤ S8192x64.size a)
theorem k0_off27_inb : ∀ (i : grid0.Coords) (v456 : BitVec 32) (k0_hw27 : k0_chk27 i v456), ∀ (k0_h1 : k0_cond1 i = 1#1), ∀ a, (k0_off27 v456) a + S1x64.size a ≤ S8192x64.size a := fun i v456 k0_hw27 k0_h1 => k0_hw27 k0_h1

def k0_off28 (v457 : BitVec 32) : Fin 2 → Nat :=
  let v463 : Index := Scalar.indexCast v457
  let c0_238 : Index := 0#32
  ![v463.toNat, 0]

def k0_chk28 (i : grid0.Coords) (v457 : BitVec 32) : Prop :=
  (∀ (k0_h1 : k0_cond1 i = 1#1), ∀ a, (k0_off28 v457) a + S1x128.size a ≤ S500x128.size a)
theorem k0_off28_inb : ∀ (i : grid0.Coords) (v457 : BitVec 32) (k0_hw28 : k0_chk28 i v457), ∀ (k0_h1 : k0_cond1 i = 1#1), ∀ a, (k0_off28 v457) a + S1x128.size a ≤ S500x128.size a := fun i v457 k0_hw28 k0_h1 => k0_hw28 k0_h1

def k0_off29 (v484 : BitVec 32) : Fin 2 → Nat :=
  let v487 : Index := Scalar.indexCast v484
  let c0_250 : Index := 0#32
  ![v487.toNat, 0]

def k0_chk29 (i : grid0.Coords) (v484 : BitVec 32) : Prop :=
  (∀ (k0_h1 : k0_cond1 i = 1#1), ∀ a, (k0_off29 v484) a + S1x64.size a ≤ S8192x64.size a)
theorem k0_off29_inb : ∀ (i : grid0.Coords) (v484 : BitVec 32) (k0_hw29 : k0_chk29 i v484), ∀ (k0_h1 : k0_cond1 i = 1#1), ∀ a, (k0_off29 v484) a + S1x64.size a ≤ S8192x64.size a := fun i v484 k0_hw29 k0_h1 => k0_hw29 k0_h1

def k0_off30 (v485 : BitVec 32) : Fin 2 → Nat :=
  let v491 : Index := Scalar.indexCast v485
  let c0_252 : Index := 0#32
  ![v491.toNat, 0]

def k0_chk30 (i : grid0.Coords) (v485 : BitVec 32) : Prop :=
  (∀ (k0_h1 : k0_cond1 i = 1#1), ∀ a, (k0_off30 v485) a + S1x128.size a ≤ S500x128.size a)
theorem k0_off30_inb : ∀ (i : grid0.Coords) (v485 : BitVec 32) (k0_hw30 : k0_chk30 i v485), ∀ (k0_h1 : k0_cond1 i = 1#1), ∀ a, (k0_off30 v485) a + S1x128.size a ≤ S500x128.size a := fun i v485 k0_hw30 k0_h1 => k0_hw30 k0_h1

def k0_off31 (v512 : BitVec 32) : Fin 2 → Nat :=
  let v515 : Index := Scalar.indexCast v512
  let c0_264 : Index := 0#32
  ![v515.toNat, 0]

def k0_chk31 (i : grid0.Coords) (v512 : BitVec 32) : Prop :=
  (∀ (k0_h1 : k0_cond1 i = 1#1), ∀ a, (k0_off31 v512) a + S1x64.size a ≤ S8192x64.size a)
theorem k0_off31_inb : ∀ (i : grid0.Coords) (v512 : BitVec 32) (k0_hw31 : k0_chk31 i v512), ∀ (k0_h1 : k0_cond1 i = 1#1), ∀ a, (k0_off31 v512) a + S1x64.size a ≤ S8192x64.size a := fun i v512 k0_hw31 k0_h1 => k0_hw31 k0_h1

def k0_off32 (v513 : BitVec 32) : Fin 2 → Nat :=
  let v519 : Index := Scalar.indexCast v513
  let c0_266 : Index := 0#32
  ![v519.toNat, 0]

def k0_chk32 (i : grid0.Coords) (v513 : BitVec 32) : Prop :=
  (∀ (k0_h1 : k0_cond1 i = 1#1), ∀ a, (k0_off32 v513) a + S1x128.size a ≤ S500x128.size a)
theorem k0_off32_inb : ∀ (i : grid0.Coords) (v513 : BitVec 32) (k0_hw32 : k0_chk32 i v513), ∀ (k0_h1 : k0_cond1 i = 1#1), ∀ a, (k0_off32 v513) a + S1x128.size a ≤ S500x128.size a := fun i v513 k0_hw32 k0_h1 => k0_hw32 k0_h1

def k0_cond3 (i : grid0.Coords) : BitVec 1 :=
  let arg0 : BitVec 32 := BitVec.ofNat 32 (i 0).val
  let c3_i32 : BitVec 32 := 3#32
  let v85 : BitVec 1 := Scalar.cmpi .eq arg0 c3_i32
  let v86 : BitVec 32 := Scalar.extui v85
  let c0_i32_39 : BitVec 32 := 0#32
  let v87 : BitVec 1 := Scalar.cmpi .ne v86 c0_i32_39
  v87

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16x3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8192 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x3 : Shape := ⟨2, ![16, 3]⟩
abbrev S16x32768 : Shape := ⟨2, ![16, 32768]⟩
abbrev S32768x64 : Shape := ⟨2, ![32768, 64]⟩
abbrev S500x64 : Shape := ⟨2, ![500, 64]⟩
abbrev S16x1 : Shape := ⟨2, ![16, 1]⟩
abbrev S16 : Shape := ⟨1, ![16]⟩
abbrev S_ : Shape := ⟨0, ![]⟩
abbrev S1 : Shape := ⟨1, ![1]⟩
abbrev S1x1 : Shape := ⟨2, ![1, 1]⟩
abbrev S16x64 : Shape := ⟨2, ![16, 64]⟩
abbrev S16x1x64 : Shape := ⟨3, ![16, 1, 64]⟩
abbrev S1x32768x64 : Shape := ⟨3, ![1, 32768, 64]⟩
abbrev S16x32768x64 : Shape := ⟨3, ![16, 32768, 64]⟩
abbrev S5 : Shape := ⟨1, ![5]⟩
abbrev S1x5 : Shape := ⟨2, ![1, 5]⟩
abbrev S3x5 : Shape := ⟨2, ![3, 5]⟩

abbrev nBuf : Space → Nat
  | .hbm => 286
  | .vmem => 0
  | .smem => 0
  | _ => 0

abbrev hbmTy0_0 (i : Nat) : BufTy := match i % 128 with
  | 0 => ⟨S16x3, .i32⟩
  | 1 => ⟨S16x32768, .i1⟩
  | 2 => ⟨S16x32768, .i1⟩
  | 3 => ⟨S16x32768, .i1⟩
  | 4 => ⟨S32768x64, .f32⟩
  | 5 => ⟨S32768x64, .f32⟩
  | 6 => ⟨S500x64, .f32⟩
  | 7 => ⟨S500x64, .f32⟩
  | 8 => ⟨S16x1, .i32⟩
  | 9 => ⟨S16, .i32⟩
  | 10 => ⟨S_, .i32⟩
  | 11 => ⟨S16, .i32⟩
  | 12 => ⟨S16, .i1⟩
  | 13 => ⟨S_, .i32⟩
  | 14 => ⟨S16, .i32⟩
  | 15 => ⟨S16, .i32⟩
  | 16 => ⟨S16, .i32⟩
  | 17 => ⟨S16x1, .i32⟩
  | 18 => ⟨S1, .i32⟩
  | 19 => ⟨S_, .i32⟩
  | 20 => ⟨S16x1, .i32⟩
  | 21 => ⟨S16x1, .i1⟩
  | 22 => ⟨S1x1, .i32⟩
  | 23 => ⟨S16x1, .i32⟩
  | 24 => ⟨S16x1, .i1⟩
  | 25 => ⟨S16x1, .i1⟩
  | 26 => ⟨S_, .i1⟩
  | 27 => ⟨S16, .i1⟩
  | 28 => ⟨S16x64, .f32⟩
  | 29 => ⟨S16x64, .i1⟩
  | 30 => ⟨S_, .f32⟩
  | 31 => ⟨S16x64, .f32⟩
  | 32 => ⟨S16x64, .f32⟩
  | 33 => ⟨S16x1x64, .f32⟩
  | 34 => ⟨S16x1, .i32⟩
  | 35 => ⟨S16, .i32⟩
  | 36 => ⟨S_, .i32⟩
  | 37 => ⟨S16, .i32⟩
  | 38 => ⟨S16, .i1⟩
  | 39 => ⟨S_, .i32⟩
  | 40 => ⟨S16, .i32⟩
  | 41 => ⟨S16, .i32⟩
  | 42 => ⟨S16, .i32⟩
  | 43 => ⟨S16x1, .i32⟩
  | 44 => ⟨S1, .i32⟩
  | 45 => ⟨S_, .i32⟩
  | 46 => ⟨S16x1, .i32⟩
  | 47 => ⟨S16x1, .i1⟩
  | 48 => ⟨S1x1, .i32⟩
  | 49 => ⟨S16x1, .i32⟩
  | 50 => ⟨S16x1, .i1⟩
  | 51 => ⟨S16x1, .i1⟩
  | 52 => ⟨S_, .i1⟩
  | 53 => ⟨S16, .i1⟩
  | 54 => ⟨S16x64, .f32⟩
  | 55 => ⟨S16x64, .i1⟩
  | 56 => ⟨S_, .f32⟩
  | 57 => ⟨S16x64, .f32⟩
  | 58 => ⟨S16x64, .f32⟩
  | 59 => ⟨S16x1x64, .f32⟩
  | 60 => ⟨S16x1, .i32⟩
  | 61 => ⟨S16, .i32⟩
  | 62 => ⟨S_, .i32⟩
  | 63 => ⟨S16, .i32⟩
  | 64 => ⟨S16, .i1⟩
  | 65 => ⟨S_, .i32⟩
  | 66 => ⟨S16, .i32⟩
  | 67 => ⟨S16, .i32⟩
  | 68 => ⟨S16, .i32⟩
  | 69 => ⟨S16x1, .i32⟩
  | 70 => ⟨S1, .i32⟩
  | 71 => ⟨S_, .i32⟩
  | 72 => ⟨S16x1, .i32⟩
  | 73 => ⟨S16x1, .i1⟩
  | 74 => ⟨S1x1, .i32⟩
  | 75 => ⟨S16x1, .i32⟩
  | 76 => ⟨S16x1, .i1⟩
  | 77 => ⟨S16x1, .i1⟩
  | 78 => ⟨S_, .i1⟩
  | 79 => ⟨S16, .i1⟩
  | 80 => ⟨S16x64, .f32⟩
  | 81 => ⟨S16x64, .i1⟩
  | 82 => ⟨S_, .f32⟩
  | 83 => ⟨S16x64, .f32⟩
  | 84 => ⟨S16x64, .f32⟩
  | 85 => ⟨S16x1x64, .f32⟩
  | 86 => ⟨S16x1, .i32⟩
  | 87 => ⟨S16, .i32⟩
  | 88 => ⟨S_, .i32⟩
  | 89 => ⟨S16, .i32⟩
  | 90 => ⟨S16, .i1⟩
  | 91 => ⟨S_, .i32⟩
  | 92 => ⟨S16, .i32⟩
  | 93 => ⟨S16, .i32⟩
  | 94 => ⟨S16, .i32⟩
  | 95 => ⟨S16x1, .i32⟩
  | 96 => ⟨S1, .i32⟩
  | 97 => ⟨S_, .i32⟩
  | 98 => ⟨S16x1, .i32⟩
  | 99 => ⟨S16x1, .i1⟩
  | 100 => ⟨S1x1, .i32⟩
  | 101 => ⟨S16x1, .i32⟩
  | 102 => ⟨S16x1, .i1⟩
  | 103 => ⟨S16x1, .i1⟩
  | 104 => ⟨S_, .i1⟩
  | 105 => ⟨S16, .i1⟩
  | 106 => ⟨S16x64, .f32⟩
  | 107 => ⟨S16x64, .i1⟩
  | 108 => ⟨S_, .f32⟩
  | 109 => ⟨S16x64, .f32⟩
  | 110 => ⟨S16x64, .f32⟩
  | 111 => ⟨S16x1x64, .f32⟩
  | 112 => ⟨S1x32768x64, .f32⟩
  | 113 => ⟨S1x32768x64, .f32⟩
  | 114 => ⟨S16x1x64, .f32⟩
  | 115 => ⟨S16x32768x64, .f32⟩
  | 116 => ⟨S16x32768x64, .f32⟩
  | 117 => ⟨S16x32768x64, .f32⟩
  | 118 => ⟨S_, .f32⟩
  | 119 => ⟨S16x32768, .f32⟩
  | 120 => ⟨S16x1x64, .f32⟩
  | 121 => ⟨S16x32768x64, .f32⟩
  | 122 => ⟨S16x32768x64, .f32⟩
  | 123 => ⟨S16x32768x64, .f32⟩
  | 124 => ⟨S_, .f32⟩
  | 125 => ⟨S16x32768, .f32⟩
  | 126 => ⟨S16x1x64, .f32⟩
  | 127 => ⟨S16x32768x64, .f32⟩
  | _ => ⟨S16x3, .i32⟩

abbrev hbmTy0_1 (i : Nat) : BufTy := match i % 128 with
  | 0 => ⟨S16x32768x64, .f32⟩
  | 1 => ⟨S16x32768x64, .f32⟩
  | 2 => ⟨S_, .f32⟩
  | 3 => ⟨S16x32768, .f32⟩
  | 4 => ⟨S16x1x64, .f32⟩
  | 5 => ⟨S16x32768x64, .f32⟩
  | 6 => ⟨S16x32768x64, .f32⟩
  | 7 => ⟨S16x32768x64, .f32⟩
  | 8 => ⟨S_, .f32⟩
  | 9 => ⟨S16x32768, .f32⟩
  | 10 => ⟨S16x32768, .f32⟩
  | 11 => ⟨S16x32768, .f32⟩
  | 12 => ⟨S16x32768, .f32⟩
  | 13 => ⟨S_, .f32⟩
  | 14 => ⟨S16x32768, .f32⟩
  | 15 => ⟨S16x32768, .f32⟩
  | 16 => ⟨S16x32768, .f32⟩
  | 17 => ⟨S16x1, .i32⟩
  | 18 => ⟨S16, .i32⟩
  | 19 => ⟨S16x32768, .f32⟩
  | 20 => ⟨S16x32768, .i32⟩
  | 21 => ⟨S16x1, .i32⟩
  | 22 => ⟨S16x32768, .i32⟩
  | 23 => ⟨S16x32768, .i1⟩
  | 24 => ⟨S16x32768, .i32⟩
  | 25 => ⟨S_, .i1⟩
  | 26 => ⟨S_, .i32⟩
  | 27 => ⟨S16, .i1⟩
  | 28 => ⟨S16, .i32⟩
  | 29 => ⟨S_, .i32⟩
  | 30 => ⟨S16, .i32⟩
  | 31 => ⟨S16, .i32⟩
  | 32 => ⟨S16x32768, .f32⟩
  | 33 => ⟨S16x32768, .i32⟩
  | 34 => ⟨S16x1, .i32⟩
  | 35 => ⟨S16x32768, .i32⟩
  | 36 => ⟨S16x32768, .i1⟩
  | 37 => ⟨S16x32768, .i32⟩
  | 38 => ⟨S_, .i1⟩
  | 39 => ⟨S_, .i32⟩
  | 40 => ⟨S16, .i1⟩
  | 41 => ⟨S16, .i32⟩
  | 42 => ⟨S_, .i32⟩
  | 43 => ⟨S16, .i32⟩
  | 44 => ⟨S16, .i32⟩
  | 45 => ⟨S16x32768, .f32⟩
  | 46 => ⟨S16x32768, .i32⟩
  | 47 => ⟨S16x1, .i32⟩
  | 48 => ⟨S16x32768, .i32⟩
  | 49 => ⟨S16x32768, .i1⟩
  | 50 => ⟨S16x32768, .i32⟩
  | 51 => ⟨S_, .i1⟩
  | 52 => ⟨S_, .i32⟩
  | 53 => ⟨S16, .i1⟩
  | 54 => ⟨S16, .i32⟩
  | 55 => ⟨S_, .i32⟩
  | 56 => ⟨S16, .i32⟩
  | 57 => ⟨S16, .i32⟩
  | 58 => ⟨S16, .f32⟩
  | 59 => ⟨S_, .f32⟩
  | 60 => ⟨S_, .f32⟩
  | 61 => ⟨S_, .f32⟩
  | 62 => ⟨S16, .f32⟩
  | 63 => ⟨S16, .f32⟩
  | 64 => ⟨S_, .f32⟩
  | 65 => ⟨S_, .f32⟩
  | 66 => ⟨S_, .f32⟩
  | 67 => ⟨S16, .f32⟩
  | 68 => ⟨S16, .i1⟩
  | 69 => ⟨S16, .f32⟩
  | 70 => ⟨S_, .f32⟩
  | 71 => ⟨S_, .f32⟩
  | 72 => ⟨S_, .f32⟩
  | 73 => ⟨S16, .f32⟩
  | 74 => ⟨S16, .i1⟩
  | 75 => ⟨S16, .f32⟩
  | 76 => ⟨S_, .f32⟩
  | 77 => ⟨S_, .f32⟩
  | 78 => ⟨S_, .f32⟩
  | 79 => ⟨S16, .f32⟩
  | 80 => ⟨S16, .i1⟩
  | 81 => ⟨S16, .f32⟩
  | 82 => ⟨S_, .f32⟩
  | 83 => ⟨S_, .f32⟩
  | 84 => ⟨S1, .f32⟩
  | 85 => ⟨S1, .f32⟩
  | 86 => ⟨S1, .f32⟩
  | 87 => ⟨S1, .f32⟩
  | 88 => ⟨S1, .f32⟩
  | 89 => ⟨S5, .f32⟩
  | 90 => ⟨S16, .f32⟩
  | 91 => ⟨S_, .f32⟩
  | 92 => ⟨S_, .f32⟩
  | 93 => ⟨S_, .f32⟩
  | 94 => ⟨S16, .f32⟩
  | 95 => ⟨S16, .f32⟩
  | 96 => ⟨S_, .f32⟩
  | 97 => ⟨S_, .f32⟩
  | 98 => ⟨S_, .f32⟩
  | 99 => ⟨S16, .f32⟩
  | 100 => ⟨S16, .i1⟩
  | 101 => ⟨S16, .f32⟩
  | 102 => ⟨S_, .f32⟩
  | 103 => ⟨S_, .f32⟩
  | 104 => ⟨S_, .f32⟩
  | 105 => ⟨S16, .f32⟩
  | 106 => ⟨S16, .i1⟩
  | 107 => ⟨S16, .f32⟩
  | 108 => ⟨S_, .f32⟩
  | 109 => ⟨S_, .f32⟩
  | 110 => ⟨S_, .f32⟩
  | 111 => ⟨S16, .f32⟩
  | 112 => ⟨S16, .i1⟩
  | 113 => ⟨S16, .f32⟩
  | 114 => ⟨S_, .f32⟩
  | 115 => ⟨S_, .f32⟩
  | 116 => ⟨S1, .f32⟩
  | 117 => ⟨S1, .f32⟩
  | 118 => ⟨S1, .f32⟩
  | 119 => ⟨S1, .f32⟩
  | 120 => ⟨S1, .f32⟩
  | 121 => ⟨S5, .f32⟩
  | 122 => ⟨S16, .f32⟩
  | 123 => ⟨S_, .f32⟩
  | 124 => ⟨S_, .f32⟩
  | 125 => ⟨S_, .f32⟩
  | 126 => ⟨S16, .f32⟩
  | 127 => ⟨S16, .f32⟩
  | _ => ⟨S16x3, .i32⟩

abbrev hbmTy0_2 (i : Nat) : BufTy := match i % 128 with
  | 0 => ⟨S_, .f32⟩
  | 1 => ⟨S_, .f32⟩
  | 2 => ⟨S_, .f32⟩
  | 3 => ⟨S16, .f32⟩
  | 4 => ⟨S16, .i1⟩
  | 5 => ⟨S16, .f32⟩
  | 6 => ⟨S_, .f32⟩
  | 7 => ⟨S_, .f32⟩
  | 8 => ⟨S_, .f32⟩
  | 9 => ⟨S16, .f32⟩
  | 10 => ⟨S16, .i1⟩
  | 11 => ⟨S16, .f32⟩
  | 12 => ⟨S_, .f32⟩
  | 13 => ⟨S_, .f32⟩
  | 14 => ⟨S_, .f32⟩
  | 15 => ⟨S16, .f32⟩
  | 16 => ⟨S16, .i1⟩
  | 17 => ⟨S16, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S1, .f32⟩
  | 25 => ⟨S5, .f32⟩
  | 26 => ⟨S1x5, .f32⟩
  | 27 => ⟨S1x5, .f32⟩
  | 28 => ⟨S1x5, .f32⟩
  | 29 => ⟨S3x5, .f32⟩
  | _ => ⟨S16x3, .i32⟩

abbrev hbmTy (i : Nat) : BufTy := match i / 128 with
  | 0 => hbmTy0_0 i
  | 1 => hbmTy0_1 i
  | 2 => hbmTy0_2 i
  | _ => ⟨S16x3, .i32⟩

abbrev bufTy : (tb : Table) → Fin (tcTables nBuf tb) → BufTy
  | .hbm, ⟨i, _⟩ => hbmTy i
  | _, _ => ⟨S16x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_cst : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_cst_0 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_cst_1 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_cst_2 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_cst_3 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_values : Ref sig .tc := ⟨.hbm, 147, rfl⟩
abbrev main_indices : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_call6_v0 : Ref sig .tc := ⟨.hbm, 152, rfl⟩
abbrev main_call6_c : Ref sig .tc := ⟨.hbm, 153, rfl⟩
abbrev main_call6_c_0 : Ref sig .tc := ⟨.hbm, 154, rfl⟩
abbrev main_call6_v1_0 : Ref sig .tc := ⟨.hbm, 155, rfl⟩
abbrev main_v49 : Ref sig .tc := ⟨.hbm, 156, rfl⟩
abbrev main_c : Ref sig .tc := ⟨.hbm, 157, rfl⟩
abbrev main_v50 : Ref sig .tc := ⟨.hbm, 158, rfl⟩
abbrev main_v51 : Ref sig .tc := ⟨.hbm, 159, rfl⟩
abbrev main_values_4 : Ref sig .tc := ⟨.hbm, 160, rfl⟩
abbrev main_indices_5 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_call7_v0 : Ref sig .tc := ⟨.hbm, 165, rfl⟩
abbrev main_call7_c : Ref sig .tc := ⟨.hbm, 166, rfl⟩
abbrev main_call7_c_0 : Ref sig .tc := ⟨.hbm, 167, rfl⟩
abbrev main_call7_v1_0 : Ref sig .tc := ⟨.hbm, 168, rfl⟩
abbrev main_v55 : Ref sig .tc := ⟨.hbm, 169, rfl⟩
abbrev main_c_6 : Ref sig .tc := ⟨.hbm, 170, rfl⟩
abbrev main_v56 : Ref sig .tc := ⟨.hbm, 171, rfl⟩
abbrev main_v57 : Ref sig .tc := ⟨.hbm, 172, rfl⟩
abbrev main_values_7 : Ref sig .tc := ⟨.hbm, 173, rfl⟩
abbrev main_indices_8 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_call8_v0 : Ref sig .tc := ⟨.hbm, 178, rfl⟩
abbrev main_call8_c : Ref sig .tc := ⟨.hbm, 179, rfl⟩
abbrev main_call8_c_0 : Ref sig .tc := ⟨.hbm, 180, rfl⟩
abbrev main_call8_v1_0 : Ref sig .tc := ⟨.hbm, 181, rfl⟩
abbrev main_v61 : Ref sig .tc := ⟨.hbm, 182, rfl⟩
abbrev main_c_9 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_cst_10 : Ref sig .tc := ⟨.hbm, 187, rfl⟩
abbrev main_v65 : Ref sig .tc := ⟨.hbm, 188, rfl⟩
abbrev main_cst_11 : Ref sig .tc := ⟨.hbm, 189, rfl⟩
abbrev main_v66 : Ref sig .tc := ⟨.hbm, 190, rfl⟩
abbrev main_v67 : Ref sig .tc := ⟨.hbm, 191, rfl⟩
abbrev main_cst_12 : Ref sig .tc := ⟨.hbm, 192, rfl⟩
abbrev main_v68 : Ref sig .tc := ⟨.hbm, 193, rfl⟩
abbrev main_cst_13 : Ref sig .tc := ⟨.hbm, 194, rfl⟩
abbrev main_v69 : Ref sig .tc := ⟨.hbm, 195, rfl⟩
abbrev main_v70 : Ref sig .tc := ⟨.hbm, 196, rfl⟩
abbrev main_v71 : Ref sig .tc := ⟨.hbm, 197, rfl⟩
abbrev main_cst_14 : Ref sig .tc := ⟨.hbm, 198, rfl⟩
abbrev main_v72 : Ref sig .tc := ⟨.hbm, 199, rfl⟩
abbrev main_cst_15 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_cst_16 : Ref sig .tc := ⟨.hbm, 204, rfl⟩
abbrev main_v76 : Ref sig .tc := ⟨.hbm, 205, rfl⟩
abbrev main_cst_17 : Ref sig .tc := ⟨.hbm, 206, rfl⟩
abbrev main_v77 : Ref sig .tc := ⟨.hbm, 207, rfl⟩
abbrev main_v78 : Ref sig .tc := ⟨.hbm, 208, rfl⟩
abbrev main_v79 : Ref sig .tc := ⟨.hbm, 209, rfl⟩
abbrev main_cst_18 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_v85 : Ref sig .tc := ⟨.hbm, 216, rfl⟩
abbrev main_v86 : Ref sig .tc := ⟨.hbm, 217, rfl⟩
abbrev main_v87 : Ref sig .tc := ⟨.hbm, 218, rfl⟩
abbrev main_cst_19 : Ref sig .tc := ⟨.hbm, 219, rfl⟩
abbrev main_v88 : Ref sig .tc := ⟨.hbm, 220, rfl⟩
abbrev main_cst_20 : Ref sig .tc := ⟨.hbm, 221, rfl⟩
abbrev main_v89 : Ref sig .tc := ⟨.hbm, 222, rfl⟩
abbrev main_v90 : Ref sig .tc := ⟨.hbm, 223, rfl⟩
abbrev main_cst_21 : Ref sig .tc := ⟨.hbm, 224, rfl⟩
abbrev main_v91 : Ref sig .tc := ⟨.hbm, 225, rfl⟩
abbrev main_cst_22 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_cst_23 : Ref sig .tc := ⟨.hbm, 230, rfl⟩
abbrev main_v95 : Ref sig .tc := ⟨.hbm, 231, rfl⟩
abbrev main_cst_24 : Ref sig .tc := ⟨.hbm, 232, rfl⟩
abbrev main_v96 : Ref sig .tc := ⟨.hbm, 233, rfl⟩
abbrev main_v97 : Ref sig .tc := ⟨.hbm, 234, rfl⟩
abbrev main_v98 : Ref sig .tc := ⟨.hbm, 235, rfl⟩
abbrev main_cst_25 : Ref sig .tc := ⟨.hbm, 236, rfl⟩
abbrev main_v99 : Ref sig .tc := ⟨.hbm, 237, rfl⟩
abbrev main_cst_26 : Ref sig .tc := ⟨.hbm, 238, rfl⟩
abbrev main_v100 : Ref sig .tc := ⟨.hbm, 239, rfl⟩
abbrev main_v101 : Ref sig .tc := ⟨.hbm, 240, rfl⟩
abbrev main_v102 : Ref sig .tc := ⟨.hbm, 241, rfl⟩
abbrev main_cst_27 : Ref sig .tc := ⟨.hbm, 242, rfl⟩
abbrev main_v103 : Ref sig .tc := ⟨.hbm, 243, rfl⟩
abbrev main_v104 : Ref sig .tc := ⟨.hbm, 244, rfl⟩
abbrev main_v105 : Ref sig .tc := ⟨.hbm, 245, rfl⟩
abbrev main_v106 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_cst_28 : Ref sig .tc := ⟨.hbm, 251, rfl⟩
abbrev main_v111 : Ref sig .tc := ⟨.hbm, 252, rfl⟩
abbrev main_cst_29 : Ref sig .tc := ⟨.hbm, 253, rfl⟩
abbrev main_v112 : Ref sig .tc := ⟨.hbm, 254, rfl⟩
abbrev main_v113 : Ref sig .tc := ⟨.hbm, 255, rfl⟩
abbrev main_cst_30 : Ref sig .tc := ⟨.hbm, 256, rfl⟩
abbrev main_v114 : Ref sig .tc := ⟨.hbm, 257, rfl⟩
abbrev main_cst_31 : Ref sig .tc := ⟨.hbm, 258, rfl⟩
abbrev main_v115 : Ref sig .tc := ⟨.hbm, 259, rfl⟩
abbrev main_v116 : Ref sig .tc := ⟨.hbm, 260, rfl⟩
abbrev main_v117 : Ref sig .tc := ⟨.hbm, 261, rfl⟩
abbrev main_cst_32 : Ref sig .tc := ⟨.hbm, 262, rfl⟩
abbrev main_v118 : Ref sig .tc := ⟨.hbm, 263, rfl⟩
abbrev main_cst_33 : Ref sig .tc := ⟨.hbm, 264, rfl⟩
abbrev main_v119 : Ref sig .tc := ⟨.hbm, 265, rfl⟩
abbrev main_v120 : Ref sig .tc := ⟨.hbm, 266, rfl⟩
abbrev main_v121 : Ref sig .tc := ⟨.hbm, 267, rfl⟩
abbrev main_cst_34 : Ref sig .tc := ⟨.hbm, 268, rfl⟩
abbrev main_v122 : Ref sig .tc := ⟨.hbm, 269, rfl⟩
abbrev main_cst_35 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_cst_36 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩
abbrev main_v129 : Ref sig .tc := ⟨.hbm, 278, rfl⟩
abbrev main_v130 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_v134 : Ref sig .tc := ⟨.hbm, 283, rfl⟩
abbrev main_v135 : Ref sig .tc := ⟨.hbm, 284, rfl⟩
abbrev main_v136 : Ref sig .tc := ⟨.hbm, 285, rfl⟩

abbrev nD : Nat := 1
abbrev τ : Topo := Topo.v7x

variable {F : FTy → Type} [FloatOps F]
-- ==== Proof.Around.lean ====
module

public import Idealize.ShloMosaic.Lib.Pipeline.FrameSuffix

@[expose] public section

noncomputable section

/-! A launch whose host lines after the region read an array that the proof data hold to a relation only: the buffers that
    bypass the region end at those lines' results over SOME contents of the arrays that the relation allows. -/

namespace Cert.Around

open Idealize.ShloMosaic Idealize.ShloMosaic.TcCoe Idealize.ShloMosaic.Pipeline
open Idealize.SL Idealize.SL.RA
open Idealize.SL.BI (sProp bigSep)
open scoped Idealize.SL.BI
open Idealize.SL.BI.BIBase Idealize.SL.BI.Laws Idealize.SL.Sem Idealize.SL.ProofMode
open Idealize.ShloMosaic.Rounds

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

section Arrays

variable {cfg₁ : Cfg sig Λ₀} {c : Dev nD} (rd : RDat τ Val Unit ℕ (UR sig nD τ) ℕ cfg₁ c)

/-- The contents that a core's bypassing buffers `rest` may end at. -/
def Ends (V₀ : Valuation τ sig Val) (ops : List (HloOp τ sig Val)) (rest : Finset (Ref sig .tc))
    (G : (b : Ref sig .tc) → Buf Val ((c.tc : Thread nD τ).loc b)) : Prop :=
  ∃ A : (w : Fin cfg₁.W) → Buf Val ((cfg₁.win w).arr.view.loc (c.tc : Thread nD τ)),
    (∀ w, rd.ArrAt w cfg₁.N (A w)) ∧ ∀ b ∈ rest,
      G b = StableHlo.after ops (withArrays cfg₁.spec c V₀ A) (Proc.devRef .tc b)

/-- The arrays after every write-back, at contents chosen for all windows together. -/
theorem arrays_open : (rd.arraysAt cfg₁.N : sProp 𝕄)
    ⊢ iprop(∃ A, ⌜∀ w, rd.ArrAt w cfg₁.N (A w)⌝ ∗ rd.arrays A) := by
  unfold RDat.arraysAt
  iintro H
  ihave H1 := (BI.bigSep_exists_pi Finset.univ (fun w G => iprop(⌜rd.ArrAt w cfg₁.N G⌝
      ∗ (cfg₁.win w).arr.view.loc (c.tc : Thread nD τ) ↦[(cfg₁.win w).arr.view.set]{rd.share w} G))) $$ H
  icases H1 with ⟨%A, H1⟩
  ihave H2 := (BI.bigSep_pure_sep Finset.univ (fun w => rd.ArrAt w cfg₁.N (A w))
      (fun w => (cfg₁.win w).arr.view.loc (c.tc : Thread nD τ) ↦[(cfg₁.win w).arr.view.set]{rd.share w} A w)) $$ H1
  icases H2 with ⟨%hA, H2⟩
  iexists A
  isplitr
  · ipureintro; exact fun w => hA w (Finset.mem_univ w)
  · unfold RDat.arrays; iexact H2

/-- And back. -/
theorem arrays_close (A : (w : Fin cfg₁.W) → Buf Val ((cfg₁.win w).arr.view.loc (c.tc : Thread nD τ)))
    (hA : ∀ w, rd.ArrAt w cfg₁.N (A w)) : (rd.arrays A : sProp 𝕄) ⊢ rd.arraysAt cfg₁.N := by
  unfold RDat.arraysAt RDat.arrays
  refine BI.bigSep_mono fun w _ => ?_
  show ((cfg₁.win w).arr.view.loc (c.tc : Thread nD τ) ↦[(cfg₁.win w).arr.view.set]{rd.share w} A w : sProp 𝕄)
    ⊢ iprop(∃ G, ⌜rd.ArrAt w cfg₁.N G⌝ ∗ (cfg₁.win w).arr.view.loc (c.tc : Thread nD τ) ↦[(cfg₁.win w).arr.view.set]{rd.share w} G)
  iintro H; iexists (A w)
  isplitr
  · ipureintro; exact hA w
  · iexact H

end Arrays

variable (pcs : P → PCfg sig Λ₀ Val) (a : (p : P) → (pcs p).Adm) (p : P)
variable (kit : PLaunchFacts (nD := nD) (τ := τ) pcs p) (defs₀ : Defs nD τ sig Val Λ₀) (𝒱₀ : Variants)

local notation "cfg" => pin pcs a p
local notation "𝔻" => Pipeline.defs pcs defs₀

include kit in
/-- The launch: every array ends at contents the relation allows, every bypassing buffer at what the host lines leave over
    such contents, every counter at zero. -/
theorem launch (rdat : (c : Dev nD) → RDat τ Val Unit ℕ (UR sig nD τ) ℕ (cfg) c)
    (V₀ : Dev nD → Valuation τ sig Val) (opss : List (List (HloOp τ sig Val)))
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hshare : ∀ c w, (rdat c).share w = fullShare) (howed : ∀ c t, (rdat c).owed t = 0)
    (hsub : ∀ ops ∈ opss, ∀ op ∈ ops, op.bufs ⊆ tailRefs sig (pcs p).pre (cfg).spec)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (cfg).spec w)))
    (hpf : ∀ c k, V₀ c (Proc.devRef .tc ((pcs p).pre.ref k)) = (a p).1 k)
    (hin : ∀ c, iprop(ΦA (cfg).spec c ∗ ΦT (pcs p).pre (a p).1 c) ⊢ (rdat c).Φ 0)
    (hout : ∀ c, (rdat c).Φ (Fin.last (cfg).N) ⊢ ΦA (cfg).spec c) :
    θ_run 𝔻 (onTc main) (s₀ m g) fun r =>
      (∀ c : Dev nD, (∀ w, (rdat c).ArrAt w (cfg).N (r.2.mem (((cfg).spec w).arr.view.loc (c.tc : Thread nD τ))))
        ∧ Ends (rdat c) (V₀ c) opss.flatten (restRefsP sig (pcs p).pre (cfg).spec) fun b => r.2.mem ((c.tc : Thread nD τ).loc b)) ∧ r.2.sem = fun _ => 0 := by
  classical
  have hq : ∀ c w, ((cfg).spec w).isOut = false → (rdat c).q w = shareOf (cfg).spec w := fun c w hw =>
    (rdat c).q_eq_shareOf_of_share_full kit.win.arr_inj (hshare c) w hw
  let V : (c : Dev nD) → (b : Ref sig .tc) → Buf Val ((c.tc : Thread nD τ).loc b) := fun c b => V₀ c (Proc.devRef .tc b)
  exact RDat.θ_run_region_pf_tail_quiescent pcs a (RDat.familyOf pcs a p rdat) () (kit.to₀.cellOf_inj a) p kit.to₀.win (OwnSemFacts.none (cfg).spec) kit.to₀.pre emb₁ defs₀ 𝒱₀ m g main
    (fun _ => chain (opss.map StableHlo.seq)) (fun c => by rw [RDat.familyOf_self]; exact hbody c)
    kit.to₀.block_pos kit.to₀.arr_whole kit.to₀.stage_whole (fun c t => by rw [RDat.familyOf_self]; exact howed c t)
    (G := fun _ => iprop(emp)) (u₀ := initOf (cells (pin pcs a) (kit.to₀.cellOf_inj a)) (launchToks (pin pcs a) (kit.to₀.cellOf_inj a)))
    (hu₀ := by
      iintro Hu; imodintro
      isplitl [Hu]; · iapply (show (ownU _ : sProp 𝕄) ⊢ BI.own (emb₁ (initOf (cells (pin pcs a) (kit.to₀.cellOf_inj a)) (launchToks (pin pcs a) (kit.to₀.cellOf_inj a)))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact (rdat c).arrays_split_shared kit.to₀.sharedIn kit.to₀.arr_whole (hq c) (V c) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (cfg).spec c (V c))
    (Z' := fun c => iprop(∃ G : (b : Ref sig .tc) → Buf Val ((c.tc : Thread nD τ).loc b), ⌜Ends (rdat c) (V₀ c) opss.flatten (restRefsP sig (pcs p).pre (cfg).spec) G⌝
      ∗ unscopedRestP (Ix := Unit) (Name := ℕ) (U := UR sig nD τ) (Lvl := ℕ) (pcs p).pre (cfg).spec c G))
    (hX := fun c => by
      iintro ⟨HU, -, -, Hp, -⟩; imodintro
      isplitl [Hp]; · iexists _; iexact Hp
      iexact HU)
    (hin := fun c => by
      rw [RDat.familyOf_self]
      refine Entails.trans ?_ (hin c)
      unfold ΦA ΦT
      iintro ⟨Hp, Ht, Hr⟩
      isplitr [Ht]
      · isplitl [Hr] <;> iassumption
      · iexact Ht)
    (hout := fun c => by
      rw [RDat.familyOf_self]
      refine (hout c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arrays_open (rdat c)) $$ Ha
      icases Ha' with ⟨%A, %hA', Ha⟩
      have hB : (rdat c).arrays A = arrBufs (cfg).spec c (fun b => withArrays (cfg).spec c (V₀ c) A (Proc.devRef .tc b)) :=
        ((rdat c).arrBufs_eq_arrays kit.to₀.sharedIn kit.to₀.arr_whole (hq c) _ A fun w =>
          (withArrays_arr_shared (cfg).spec c (V₀ c) A ((rdat c).ArrAt_sharedIn kit.to₀.sharedIn (V₀ c) (hA c) (cfg).N A hA') w).symm).symm
      iapply (tail_seqs_bufs_b pcs defs₀ 𝒱₀ (pcs p).pre (cfg).spec c (V₀ c) A opss hsub hfresh hkeep Q')
      isplitl [Hk]
      · iintro ⟨Hb2, Ha2, Hu⟩
        iapply Hk
        isplitl [Hb2]; · iexact Hb2
        isplitl [Ha2]; · iapply (arrays_close (rdat c) A hA'); iapply (Entails.of_eq hB.symm); iexact Ha2
        iexists (fun b => StableHlo.after opss.flatten (withArrays (cfg).spec c (V₀ c) A) (Proc.devRef .tc b))
        isplitr
        · ipureintro; exact ⟨A, hA', fun _ _ => rfl⟩
        · iexact Hu
      · isplitl [Hb]; · iexact Hb
        isplitl [Ha]; · iapply (Entails.of_eq hB); iexact Ha
        iexact HZ)
    (QY := fun c s => Ends (rdat c) (V₀ c) opss.flatten (restRefsP sig (pcs p).pre (cfg).spec) fun b => s.mem ((c.tc : Thread nD τ).loc b))
    (hY := fun c s' => by
      iintro ⟨-, HZ, HSI⟩
      icases HZ with ⟨%G, %hG, HZ⟩
      unfold unscopedRestP
      ihave HZ' := (pointsTo_read_all (restRefsP sig (pcs p).pre (cfg).spec) (fun b => (c.tc : Thread nD τ).loc b) G s') $$ [HZ HSI]
      · isplitl [HZ] <;> iassumption
      icases HZ' with ⟨%hZ, HSI⟩
      imodintro
      isplitr
      · ipureintro
        obtain ⟨A, h1, h2⟩ := hG
        exact ⟨A, h1, fun b hb => (hZ b hb).trans (h2 b hb)⟩
      · iexact HSI)
    (hQ := fun s h hz => ⟨fun c => ⟨fun w => by simpa only [RDat.familyOf_self] using (h c).1 w, (h c).2.2⟩, hz⟩)

end Cert.Around

end
-- ==== Proof.Steps.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.VecWindow
public import Idealize.ShloMosaic.Lib.ValueIdxCore
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- A node's row below five hundred lies in the block of node rows. -/
theorem node_ok (w : BitVec 32) (h : w.toNat < 500) : ∀ a, (k0_off1 w) a + S1x64.size a ≤ S8192x64.size a := by
  intro a
  match a with
  | ⟨0, _⟩ => show (Scalar.indexCast w).toNat + 1 ≤ 8192; have : (Scalar.indexCast w : Index).toNat = w.toNat := rfl; omega
  | ⟨1, _⟩ => show 0 + 64 ≤ 64; omega

/-- A relation's row below five hundred lies in the table of relations. -/
theorem rel_ok (w : BitVec 32) (h : w.toNat < 500) : ∀ a, (k0_off2 w) a + S1x128.size a ≤ S500x128.size a := by
  intro a
  match a with
  | ⟨0, _⟩ => show (Scalar.indexCast w).toNat + 1 ≤ 500; have : (Scalar.indexCast w : Index).toNat = w.toNat := rfl; omega
  | ⟨1, _⟩ => show 0 + 128 ≤ 128; omega

/-! ## What a grid point computes, as functions of the values it reads -/

theorem word_inb (b : Fin 16) (k : Fin 3) : ∀ a, (![b.val, k.val] : Fin 2 → ℕ) a + S1x1.size a ≤ S16x3.size a := by
  intro a
  have := b.isLt
  have := k.isLt
  match a with
  | ⟨0, _⟩ => show b.val + 1 ≤ 16; omega
  | ⟨1, _⟩ => show k.val + 1 ≤ 3; omega

theorem word_pos : 0 < S1x1.numel := by decide +kernel

/-- The word of batch row `b` in column `k` of the triplets. -/
def word (x0 : Vec F S16x3 .i32) (b : Fin 16) (k : Fin 3) : BitVec 32 :=
  x0 ((Rect.unit (s := S16x3) ![b.val, k.val] S1x1.size (word_inb b k)).toLoadRect.idx (Shape.Idx.first word_pos))

theorem word_eq (x0 : Vec F S16x3 .i32) (b : Fin 16) (k : Fin 3) : word x0 b k = x0 (ix2 b k) := by
  refine congrArg x0 ?_
  funext a
  match a with
  | ⟨0, _⟩ => exact Fin.ext (by show b.val + 1 * 0 = b.val; omega)
  | ⟨1, _⟩ => exact Fin.ext (by show k.val + 1 * 0 = k.val; omega)

theorem node_inb (w : BitVec 32) (h : w.toNat < 500) : ∀ a, (![w.toNat, 0] : Fin 2 → ℕ) a + S1x64.size a ≤ S8192x64.size a := node_ok w h
theorem rel_inb (w : BitVec 32) (h : w.toNat < 500) : ∀ a, (![w.toNat, 0] : Fin 2 → ℕ) a + S1x128.size a ≤ S500x128.size a := rel_ok w h

/-- The row of the node block a word names. -/
def rowN (x : Vec F S8192x64 .f32) (w : BitVec 32) (h : w.toNat < 500) : Vec F S1x64 .f32 :=
  VecWindow.window x ![w.toNat, 0] S1x64.size (node_inb w h)
/-- The row of the relation table a word names. -/
def rowR (x : Vec F S500x128 .f32) (w : BitVec 32) (h : w.toNat < 500) : Vec F S1x128 .f32 :=
  VecWindow.window x ![w.toNat, 0] S1x128.size (rel_inb w h)

/-- Column `k` of a block of 128 columns. -/
def col {e : EltTy} (k : Fin 128) (x : Vec F S16x128 e) : Vec F S16x1 e := fun j => x (ix2 (j 0) k)
/-- The block with column `k` replaced. -/
def putc {e : EltTy} (k : Fin 128) (x : Vec F S16x128 e) (w : Vec F S16x1 e) : Vec F S16x128 e :=
  fun y => if (y 1).val = k.val then w (ix2 (y 0) 0) else x y

theorem col_putc_same {e : EltTy} (k : Fin 128) (x : Vec F S16x128 e) (w : Vec F S16x1 e) : col k (putc k x w) = w := by
  funext j
  have h1 : @Eq (Fin 1) (j 1) 0 := Subsingleton.elim (α := Fin 1) _ _
  refine (if_pos rfl).trans ?_
  rw [eq_ix2 j]
  exact congrArg (fun q => w (ix2 (j 0) q)) h1.symm

theorem col_putc_other {e : EltTy} (k k' : Fin 128) (h : k' ≠ k) (x : Vec F S16x128 e) (w : Vec F S16x1 e) : col k' (putc k x w) = col k' x := by
  funext j
  exact if_neg fun hh => h (Fin.ext hh)

section Views

variable {sig' : RefSig} {κ : Kind} {sp : Space} {e : EltTy}

/-- A load of column `k`. -/
theorem readAt_col (v : View sig' κ sp S16x128 e) (f : v.ty.Contents (Elt F)) (k : ℕ) (hk : k < 128) (inb : ∀ a, (![0, k] : Fin 2 → ℕ) a + S16x1.size a ≤ S16x128.size a) :
    v.readAt (Elt F) (Rect.unit (s := S16x128) ![0, k] S16x1.size inb).toLoadRect f = col ⟨k, hk⟩ (v.read (Elt F) f) := by
  funext j
  refine congrArg (v.read (Elt F) f) ?_
  funext a
  match a with
  | ⟨0, _⟩ => exact Fin.ext (by show 0 + 1 * (j 0).val = (j 0).val; omega)
  | ⟨1, _⟩ => exact Fin.ext (by have : (j 1).val < 1 := (j 1).isLt; show k + 1 * (j 1).val = k; omega)

/-- A store of column `k`. -/
theorem read_writes_col (v : View sig' κ sp S16x128 e) (f : v.ty.Contents (Elt F)) (k : ℕ) (hk : k < 128) (inb : ∀ a, (![0, k] : Fin 2 → ℕ) a + S16x1.size a ≤ S16x128.size a)
    (w : Vec F S16x1 e) (L : List (View.Piece (Elt F) S16x128 e)) :
    v.read (Elt F) (v.writes (Elt F) f (⟨Rect.unit (s := S16x128) ![0, k] S16x1.size inb, w⟩ :: L)) = putc ⟨k, hk⟩ (v.read (Elt F) (v.writes (Elt F) f L)) w := by
  rw [View.read_writes_cons_put v f inb w L rfl]
  funext y
  unfold VecWindow.put putc
  by_cases h : (y 1).val = k
  · rw [if_pos h, dif_pos]
    · refine congrArg w ?_
      funext a
      match a with
      | ⟨0, _⟩ => exact Fin.ext (by show (y 0).val - 0 = (y 0).val; omega)
      | ⟨1, _⟩ => exact Fin.ext (by  show (y 1).val - k = 0; omega)
    · intro a
      have h1 : (y 1).val = k := h
      have h0 : (y 0).val < 16 := (y 0).isLt
      match a with
      | ⟨0, _⟩ => show 0 ≤ (y 0).val ∧ (y 0).val < 0 + 16; omega
      | ⟨1, _⟩ => show k ≤ (y 1).val ∧ (y 1).val < k + 1; omega
  · rw [if_neg h, dif_neg]
    intro hh
    have h1 : k ≤ (y 1).val ∧ (y 1).val < k + 1 := hh 1
    exact h (by omega)

/-- Stores of the first three columns. -/
theorem read_writes_cols (v : View sig' κ sp S16x128 e) (f : v.ty.Contents (Elt F)) (inb0 : ∀ a, (![0, 0] : Fin 2 → ℕ) a + S16x1.size a ≤ S16x128.size a)
    (inb1 : ∀ a, (![0, 1] : Fin 2 → ℕ) a + S16x1.size a ≤ S16x128.size a) (inb2 : ∀ a, (![0, 2] : Fin 2 → ℕ) a + S16x1.size a ≤ S16x128.size a)
    (w0 w1 w2 : Vec F S16x1 e) (L : List (View.Piece (Elt F) S16x128 e)) :
    v.read (Elt F) (v.writes (Elt F) f (⟨Rect.unit (s := S16x128) ![0, 2] S16x1.size inb2, w2⟩ :: ⟨Rect.unit (s := S16x128) ![0, 1] S16x1.size inb1, w1⟩
        :: ⟨Rect.unit (s := S16x128) ![0, 0] S16x1.size inb0, w0⟩ :: L))
      = putc 2 (putc 1 (putc 0 (v.read (Elt F) (v.writes (Elt F) f L)) w0) w1) w2 := by
  rw [read_writes_col v f 2 (by decide), read_writes_col v f 1 (by decide), read_writes_col v f 0 (by decide)]
  rfl

/-- A load over pieces that cover it reads what the pieces leave. -/
theorem readCov_col (v : View sig' κ sp S16x128 e) (L : List (View.Piece (Elt F) S16x128 e)) (k : ℕ) (hk : k < 128) (inb : ∀ a, (![0, k] : Fin 2 → ℕ) a + S16x1.size a ≤ S16x128.size a) :
    v.readCov L (Rect.unit (s := S16x128) ![0, k] S16x1.size inb).toLoadRect = col ⟨k, hk⟩ (v.read (Elt F) (v.writes (Elt F) v.junk L)) :=
  readAt_col v _ k hk inb

/-- Stores of the three rows of the metrics. -/
theorem read_writes_met (v : View sig' κ sp S3x5 e) (f : v.ty.Contents (Elt F)) (inb0 : ∀ a, (![0, 0] : Fin 2 → ℕ) a + S1x5.size a ≤ S3x5.size a)
    (inb1 : ∀ a, (![1, 0] : Fin 2 → ℕ) a + S1x5.size a ≤ S3x5.size a) (inb2 : ∀ a, (![2, 0] : Fin 2 → ℕ) a + S1x5.size a ≤ S3x5.size a)
    (w0 w1 w2 : Vec F S1x5 e) (L : List (View.Piece (Elt F) S3x5 e)) :
    v.read (Elt F) (v.writes (Elt F) f (⟨Rect.unit (s := S3x5) ![2, 0] S1x5.size inb2, w2⟩ :: ⟨Rect.unit (s := S3x5) ![1, 0] S1x5.size inb1, w1⟩
        :: ⟨Rect.unit (s := S3x5) ![0, 0] S1x5.size inb0, w0⟩ :: L))
      = fun y => if (y 0).val = 0 then w0 (ix2 0 (y 1)) else if (y 0).val = 1 then w1 (ix2 0 (y 1)) else w2 (ix2 0 (y 1)) := by
  rw [View.read_writes_cons_put v f inb2 w2 _ rfl, View.read_writes_cons_put v f inb1 w1 _ rfl, View.read_writes_cons_put v f inb0 w0 _ rfl]
  funext y
  have h1 : (y 1).val < 5 := (y 1).isLt
  have h0 : (y 0).val < 3 := (y 0).isLt
  have hin : ∀ k, (y 0).val = k → ∀ a, (![k, 0] : Fin 2 → ℕ) a ≤ (y a).val ∧ (y a).val < (![k, 0] : Fin 2 → ℕ) a + S1x5.size a := by
    intro k hk a
    match a with
    | ⟨0, _⟩ => show k ≤ (y 0).val ∧ (y 0).val < k + 1; omega
    | ⟨1, _⟩ => show 0 ≤ (y 1).val ∧ (y 1).val < 0 + 5; omega
  have hout : ∀ k, (y 0).val ≠ k → ¬ ∀ a, (![k, 0] : Fin 2 → ℕ) a ≤ (y a).val ∧ (y a).val < (![k, 0] : Fin 2 → ℕ) a + S1x5.size a := by
    intro k hk hh
    have h2 : k ≤ (y 0).val ∧ (y 0).val < k + 1 := hh 0
    omega
  have hat : ∀ (k : ℕ) (h : ∀ a, (![k, 0] : Fin 2 → ℕ) a ≤ (y a).val ∧ (y a).val < (![k, 0] : Fin 2 → ℕ) a + S1x5.size a),
      Rect.unitLocal (s := S3x5) (off := ![k, 0]) (size := S1x5.size) y h = ix2 (0 : Fin 1) (y 1 : Fin 5) := by
    intro k h
    funext a
    have h2 : k ≤ (y 0).val ∧ (y 0).val < k + 1 := h 0
    match a with
    | ⟨0, _⟩ => exact Fin.ext (by show (y 0).val - k = 0; omega)
    | ⟨1, _⟩ => exact Fin.ext (by show (y 1).val - 0 = (y 1).val; omega)
  by_cases e0 : (y 0).val = 0
  · refine (dif_neg (hout 2 (by omega))).trans ((dif_neg (hout 1 (by omega))).trans ((dif_pos (hin 0 e0)).trans ?_))
    exact (congrArg w0 (hat 0 _)).trans (if_pos e0).symm
  · by_cases e1 : (y 0).val = 1
    · refine (dif_neg (hout 2 (by omega))).trans ((dif_pos (hin 1 e1)).trans ?_)
      exact (congrArg w1 (hat 1 _)).trans ((if_neg e0).trans (if_pos e1)).symm
    · refine (dif_pos (hin 2 (by omega))).trans ?_
      exact (congrArg w2 (hat 2 _)).trans ((if_neg e0).trans (if_neg e1)).symm

/-- A store of a row where the rows below are in place. -/
theorem read_writes_row (v : View sig' κ sp S16x64 e) (f : v.ty.Contents (Elt F)) (b : Fin 16) (inb : ∀ a, (![b.val, 0] : Fin 2 → ℕ) a + S1x64.size a ≤ S16x64.size a)
    (G : Fin 16 → Vec F S1x64 e) (X : Vec F S16x64 e) (L : List (View.Piece (Elt F) S16x64 e))
    (hL : v.read (Elt F) (v.writes (Elt F) f L) = fun y => if (y 0).val < b.val then G (y 0) (ix2 0 (y 1)) else X y) :
    v.read (Elt F) (v.writes (Elt F) f (⟨Rect.unit (s := S16x64) ![b.val, 0] S1x64.size inb, G b⟩ :: L)) = fun y => if (y 0).val < b.val + 1 then G (y 0) (ix2 0 (y 1)) else X y := by
  rw [View.read_writes_cons_put v f inb (G b) L rfl, hL]
  funext y
  have h1 : (y 1).val < 64 := (y 1).isLt
  by_cases h : (y 0).val = b.val
  · obtain rfl : b = y 0 := Fin.ext h.symm
    refine (dif_pos ?_).trans (Eq.trans (congrArg (G (y 0)) ?_) (if_pos (Nat.lt_succ_self _)).symm)
    · intro a
      match a with
      | ⟨0, _⟩ => show (y 0).val ≤ (y 0).val ∧ (y 0).val < (y 0).val + 1; omega
      | ⟨1, _⟩ => show 0 ≤ (y 1).val ∧ (y 1).val < 0 + 64; omega
    · funext a
      match a with
      | ⟨0, _⟩ => exact Fin.ext (by show (y 0).val - (y 0).val = 0; omega)
      | ⟨1, _⟩ => exact Fin.ext (by show (y 1).val - 0 = (y 1).val; omega)
  · refine (dif_neg fun hh => ?_).trans ?_
    · have h1 : b.val ≤ (y 0).val ∧ (y 0).val < b.val + 1 := hh 0
      omega
    · by_cases h2 : (y 0).val < b.val
      · exact (if_pos h2).trans (if_pos (show (y 0).val < b.val + 1 by omega)).symm
      · exact (if_neg h2).trans (if_neg (show ¬ (y 0).val < b.val + 1 by omega)).symm

/-- A store of one word into column 8 where the words above are in place. -/
theorem read_writes_word (v : View sig' κ sp S16x128 e) (f : v.ty.Contents (Elt F)) (b : Fin 16) (inb : ∀ a, (![b.val, 8] : Fin 2 → ℕ) a + S1x1.size a ≤ S16x128.size a)
    (G : Fin 16 → Vec F S1x1 e) (z : Elt F e) (L : List (View.Piece (Elt F) S16x128 e))
    (hL : v.read (Elt F) (v.writes (Elt F) f L) = fun y => if (y 1).val = 8 ∧ (y 0).val < b.val then G (y 0) (ix2 0 0) else z) :
    v.read (Elt F) (v.writes (Elt F) f (⟨Rect.unit (s := S16x128) ![b.val, 8] S1x1.size inb, G b⟩ :: L)) = fun y => if (y 1).val = 8 ∧ (y 0).val < b.val + 1 then G (y 0) (ix2 0 0) else z := by
  rw [View.read_writes_cons_put v f inb (G b) L rfl, hL]
  funext y
  by_cases h : (y 1).val = 8 ∧ (y 0).val = b.val
  · obtain ⟨h8, h⟩ := h
    obtain rfl : b = y 0 := Fin.ext h.symm
    refine (dif_pos ?_).trans (Eq.trans (congrArg (G (y 0)) ?_) (if_pos ⟨h8, Nat.lt_succ_self _⟩).symm)
    · intro a
      match a with
      | ⟨0, _⟩ => show (y 0).val ≤ (y 0).val ∧ (y 0).val < (y 0).val + 1; omega
      | ⟨1, _⟩ => show 8 ≤ (y 1).val ∧ (y 1).val < 8 + 1; omega
    · funext a
      match a with
      | ⟨0, _⟩ => exact Fin.ext (by show (y 0).val - (y 0).val = 0; omega)
      | ⟨1, _⟩ => exact Fin.ext (by show (y 1).val - 8 = 0; omega)
  · refine (dif_neg fun hh => ?_).trans ?_
    · have h1 : b.val ≤ (y 0).val ∧ (y 0).val < b.val + 1 := hh 0
      have h2 : 8 ≤ (y 1).val ∧ (y 1).val < 8 + 1 := hh 1
      exact h ⟨by omega, by omega⟩
    · by_cases h2 : (y 1).val = 8 ∧ (y 0).val < b.val
      · exact (if_pos h2).trans (if_pos ⟨h2.1, show (y 0).val < b.val + 1 by omega⟩).symm
      · refine (if_neg h2).trans (if_neg ?_).symm
        rintro ⟨h3, h4⟩
        by_cases h5 : (y 0).val = b.val
        · exact h ⟨h3, h5⟩
        · exact h2 ⟨h3, by omega⟩

end Views

variable (x0 : Vec F S16x3 .i32) (x1 : Vec F S500x128 .f32) (x2 x3 : Vec F S8192x64 .f32) (hw : ∀ y, (x0 y).toNat < 500)

/-- Row `b` of the first left factor of the scores. -/
def aRow (b : Fin 16) : Vec F S1x64 .f32 :=
  k0_pay10 (rowN x2 (word x0 b 0) (hw _)) (rowN x3 (word x0 b 0) (hw _)) (rowR x1 (word x0 b 1) (hw _))
/-- Row `b` of the second left factor. -/
def bRow (b : Fin 16) : Vec F S1x64 .f32 :=
  k0_pay11 (rowN x2 (word x0 b 0) (hw _)) (rowN x3 (word x0 b 0) (hw _)) (rowR x1 (word x0 b 1) (hw _))
/-- The two left factors of the scores, which the first point leaves in the scratch. -/
def aMat : Vec F S16x64 .f32 := fun y => aRow x0 x1 x2 x3 hw (y 0) (ix2 0 (y 1))
def bMat : Vec F S16x64 .f32 := fun y => bRow x0 x1 x2 x3 hw (y 0) (ix2 0 (y 1))
/-- The counters before anything is counted: column 8 holds the answers' words, the rest is zero. -/
def cntInit : Vec F S16x128 .i32 := fun y => if (y 1).val = 8 then word x0 (y 0) 2 else 0#32

section Point

variable (i : grid0.Coords) (a b : Vec F S16x64 .f32) (nr ni : Vec F S8192x64 .f32) (lab : Vec F S16x8192 .i8)

/-- The scores of a point's block, and the same under the two masks. -/
def sB : Vec F S16x8192 .f32 := k0_pay119 a nr b ni
def fB : Vec F S16x8192 .f32 := k0_pay124 a nr b ni lab
def tfB : Vec F S16x8192 .f32 := k0_pay125 a nr b ni lab

/-- The score of the answer's column, and whether either mask holds it, as the first point extracts them. -/
def scoreC (c8 : Vec F S16x1 .i32) : Vec F S16x1 .f32 := k0_pay129 (sB a b nr ni) c8 (k0_pay126 i)
def maskT (c8 : Vec F S16x1 .i32) : Vec F S16x1 .i32 := k0_pay130 (k0_pay121 lab) c8 (k0_pay126 i)
def maskF (c8 : Vec F S16x1 .i32) : Vec F S16x1 .i32 := k0_pay131 (k0_pay122 lab) c8 (k0_pay126 i)

/-- The three counters after a point, of the answer's score `s`, its column `c8`, the masks `n9`, `n10` there and the counter before. -/
def next0 (s : Vec F S16x1 .f32) (c8 n : Vec F S16x1 .i32) : Vec F S16x1 .i32 := k0_pay133 (sB a b nr ni) (k0_pay127 i c8) s n
def next1 (s : Vec F S16x1 .f32) (c8 n9 n : Vec F S16x1 .i32) : Vec F S16x1 .i32 := k0_pay1 (k0_pay134 (fB a b nr ni lab) (k0_pay127 i c8) s n9 n)
def next2 (s : Vec F S16x1 .f32) (c8 n10 n : Vec F S16x1 .i32) : Vec F S16x1 .i32 := k0_pay2 (tfB a b nr ni lab) (k0_pay127 i c8) (k0_pay132 s n10) n

/-- The counters after a point. -/
def cntStep (sc : Vec F S16x128 .f32) (n : Vec F S16x128 .i32) : Vec F S16x128 .i32 :=
  putc 2 (putc 1 (putc 0 n (next0 i a b nr ni (col 0 sc) (col 8 n) (col 0 n)))
    (next1 i a b nr ni lab (col 0 sc) (col 8 n) (col 9 n) (col 1 n))) (next2 i a b nr ni lab (col 0 sc) (col 8 n) (col 10 n) (col 2 n))

/-- The first point's extraction. -/
def scFirst (sc : Vec F S16x128 .f32) (n : Vec F S16x128 .i32) : Vec F S16x128 .f32 := putc 0 sc (scoreC i a b nr ni (col 8 n))
def cntFirst (n : Vec F S16x128 .i32) : Vec F S16x128 .i32 := putc 10 (putc 9 n (maskT i lab (col 8 n))) (maskF i lab (col 8 n))

end Point

/-- The ranks' block at the end: its first three columns. -/
def ranksOut (r : Vec F S16x128 .i32) (n : Vec F S16x128 .i32) : Vec F S16x128 .i32 :=
  putc 2 (putc 1 (putc 0 r (k0_pay111 (col 0 n))) (k0_pay113 (col 1 n))) (k0_pay4 (col 2 n))

/-- The metrics' block at the end, by rows. -/
def metOut (n : Vec F S16x128 .i32) : Vec F S3x5 .f32 := fun y =>
  if (y 0).val = 0 then k0_pay112 (col 0 n) (ix2 0 (y 1))
  else if (y 0).val = 1 then k0_pay3 (k0_pay114 (col 1 n)) (k0_pay115 (col 1 n)) (k0_pay116 (col 1 n)) (k0_pay117 (col 1 n)) (ix2 0 (y 1))
  else k0_pay5 (col 2 n) (ix2 0 (y 1))

/-! ## The same over what the loads read -/

section Raw

variable (i : grid0.Coords)

theorem tf_raw {κ3 : Kind} {sp3 : Space} (v3 : View sig κ3 sp3 S8192x64 .f32) (g3 : v3.ty.Contents (Elt F)) {κ4 : Kind} {sp4 : Space} (v4 : View sig κ4 sp4 S8192x64 .f32) (g4 : v4.ty.Contents (Elt F)) {κ5 : Kind} {sp5 : Space} (v5 : View sig κ5 sp5 S16x8192 .i8) (g5 : v5.ty.Contents (Elt F)) {κ6 : Kind} {sp6 : Space} (v6 : View sig κ6 sp6 S16x8192 .f32) (g6 : v6.ty.Contents (Elt F)) {κ9 : Kind} {sp9 : Space} (v9 : View sig κ9 sp9 S16x64 .f32) (g9 : v9.ty.Contents (Elt F)) {κ10 : Kind} {sp10 : Space} (v10 : View sig κ10 sp10 S16x64 .f32) (g10 : v10.ty.Contents (Elt F)) :
    v6.read (Elt F) (v6.writes (Elt F) g6 [⟨Rect.unit (s := S16x8192) ![0, 0] S16x8192.size inb_S16x8192_S16x8192_0_0,
        k0_pay125 (v9.readAt (Elt F) (Rect.unit (s := S16x64) ![0, 0] S16x64.size inb_S16x64_S16x64_0_0).toLoadRect g9) (v3.readAt (Elt F) (Rect.unit (s := S8192x64) ![0, 0] S8192x64.size inb_S8192x64_S8192x64_0_0).toLoadRect g3) (v10.readAt (Elt F) (Rect.unit (s := S16x64) ![0, 0] S16x64.size inb_S16x64_S16x64_0_0).toLoadRect g10) (v4.readAt (Elt F) (Rect.unit (s := S8192x64) ![0, 0] S8192x64.size inb_S8192x64_S8192x64_0_0).toLoadRect g4) (v5.readAt (Elt F) (Rect.unit (s := S16x8192) ![0, 0] S16x8192.size inb_S16x8192_S16x8192_0_0).toLoadRect g5)⟩]) = tfB (v9.read (Elt F) g9) (v10.read (Elt F) g10) (v3.read (Elt F) g3) (v4.read (Elt F) g4) (v5.read (Elt F) g5) := by
  refine (View.read_writes_full _ _ _ _ _).trans ?_
  rw [View.readAt_full v9 g9, View.readAt_full v3 g3, View.readAt_full v10 g10, View.readAt_full v4 g4, View.readAt_full v5 g5]
  unfold tfB
  rfl

theorem step_raw {κ3 : Kind} {sp3 : Space} (v3 : View sig κ3 sp3 S8192x64 .f32) (g3 : v3.ty.Contents (Elt F)) {κ4 : Kind} {sp4 : Space} (v4 : View sig κ4 sp4 S8192x64 .f32) (g4 : v4.ty.Contents (Elt F)) {κ5 : Kind} {sp5 : Space} (v5 : View sig κ5 sp5 S16x8192 .i8) (g5 : v5.ty.Contents (Elt F)) {κ9 : Kind} {sp9 : Space} (v9 : View sig κ9 sp9 S16x64 .f32) (g9 : v9.ty.Contents (Elt F)) {κ10 : Kind} {sp10 : Space} (v10 : View sig κ10 sp10 S16x64 .f32) (g10 : v10.ty.Contents (Elt F)) {κ11 : Kind} {sp11 : Space} (v11 : View sig κ11 sp11 S16x128 .f32) (g11 : v11.ty.Contents (Elt F)) {κ12 : Kind} {sp12 : Space} (v12 : View sig κ12 sp12 S16x128 .i32) (g12 : v12.ty.Contents (Elt F)) (base : v12.ty.Contents (Elt F)) :
    v12.read (Elt F) (v12.writes (Elt F) base
        [⟨Rect.unit (s := S16x128) ![0, 2] S16x1.size inb_S16x128_S16x1_0_2,
            k0_pay2 (k0_pay125 (v9.readAt (Elt F) (Rect.unit (s := S16x64) ![0, 0] S16x64.size inb_S16x64_S16x64_0_0).toLoadRect g9) (v3.readAt (Elt F) (Rect.unit (s := S8192x64) ![0, 0] S8192x64.size inb_S8192x64_S8192x64_0_0).toLoadRect g3) (v10.readAt (Elt F) (Rect.unit (s := S16x64) ![0, 0] S16x64.size inb_S16x64_S16x64_0_0).toLoadRect g10) (v4.readAt (Elt F) (Rect.unit (s := S8192x64) ![0, 0] S8192x64.size inb_S8192x64_S8192x64_0_0).toLoadRect g4) (v5.readAt (Elt F) (Rect.unit (s := S16x8192) ![0, 0] S16x8192.size inb_S16x8192_S16x8192_0_0).toLoadRect g5)) (k0_pay127 i (v12.readAt (Elt F) (Rect.unit (s := S16x128) ![0, 8] S16x1.size inb_S16x128_S16x1_0_8).toLoadRect g12)) (k0_pay132 (v11.readAt (Elt F) (Rect.unit (s := S16x128) ![0, 0] S16x1.size inb_S16x128_S16x1_0_0).toLoadRect g11) (v12.readAt (Elt F) (Rect.unit (s := S16x128) ![0, 10] S16x1.size inb_S16x128_S16x1_0_10).toLoadRect g12)) (v12.readAt (Elt F) (Rect.unit (s := S16x128) ![0, 2] S16x1.size inb_S16x128_S16x1_0_2).toLoadRect g12)⟩,
          ⟨Rect.unit (s := S16x128) ![0, 1] S16x1.size inb_S16x128_S16x1_0_1,
            k0_pay1 (k0_pay134 (k0_pay124 (v9.readAt (Elt F) (Rect.unit (s := S16x64) ![0, 0] S16x64.size inb_S16x64_S16x64_0_0).toLoadRect g9) (v3.readAt (Elt F) (Rect.unit (s := S8192x64) ![0, 0] S8192x64.size inb_S8192x64_S8192x64_0_0).toLoadRect g3) (v10.readAt (Elt F) (Rect.unit (s := S16x64) ![0, 0] S16x64.size inb_S16x64_S16x64_0_0).toLoadRect g10) (v4.readAt (Elt F) (Rect.unit (s := S8192x64) ![0, 0] S8192x64.size inb_S8192x64_S8192x64_0_0).toLoadRect g4) (v5.readAt (Elt F) (Rect.unit (s := S16x8192) ![0, 0] S16x8192.size inb_S16x8192_S16x8192_0_0).toLoadRect g5)) (k0_pay127 i (v12.readAt (Elt F) (Rect.unit (s := S16x128) ![0, 8] S16x1.size inb_S16x128_S16x1_0_8).toLoadRect g12)) (v11.readAt (Elt F) (Rect.unit (s := S16x128) ![0, 0] S16x1.size inb_S16x128_S16x1_0_0).toLoadRect g11) (v12.readAt (Elt F) (Rect.unit (s := S16x128) ![0, 9] S16x1.size inb_S16x128_S16x1_0_9).toLoadRect g12) (v12.readAt (Elt F) (Rect.unit (s := S16x128) ![0, 1] S16x1.size inb_S16x128_S16x1_0_1).toLoadRect g12))⟩,
          ⟨Rect.unit (s := S16x128) ![0, 0] S16x1.size inb_S16x128_S16x1_0_0,
            k0_pay133 (k0_pay119 (v9.readAt (Elt F) (Rect.unit (s := S16x64) ![0, 0] S16x64.size inb_S16x64_S16x64_0_0).toLoadRect g9) (v3.readAt (Elt F) (Rect.unit (s := S8192x64) ![0, 0] S8192x64.size inb_S8192x64_S8192x64_0_0).toLoadRect g3) (v10.readAt (Elt F) (Rect.unit (s := S16x64) ![0, 0] S16x64.size inb_S16x64_S16x64_0_0).toLoadRect g10) (v4.readAt (Elt F) (Rect.unit (s := S8192x64) ![0, 0] S8192x64.size inb_S8192x64_S8192x64_0_0).toLoadRect g4)) (k0_pay127 i (v12.readAt (Elt F) (Rect.unit (s := S16x128) ![0, 8] S16x1.size inb_S16x128_S16x1_0_8).toLoadRect g12)) (v11.readAt (Elt F) (Rect.unit (s := S16x128) ![0, 0] S16x1.size inb_S16x128_S16x1_0_0).toLoadRect g11) (v12.readAt (Elt F) (Rect.unit (s := S16x128) ![0, 0] S16x1.size inb_S16x128_S16x1_0_0).toLoadRect g12)⟩])
      = putc 2 (putc 1 (putc 0 (v12.read (Elt F) base) (next0 i (v9.read (Elt F) g9) (v10.read (Elt F) g10) (v3.read (Elt F) g3) (v4.read (Elt F) g4) (col 0 (v11.read (Elt F) g11)) (col 8 (v12.read (Elt F) g12)) (col 0 (v12.read (Elt F) g12))))
          (next1 i (v9.read (Elt F) g9) (v10.read (Elt F) g10) (v3.read (Elt F) g3) (v4.read (Elt F) g4) (v5.read (Elt F) g5) (col 0 (v11.read (Elt F) g11)) (col 8 (v12.read (Elt F) g12)) (col 9 (v12.read (Elt F) g12)) (col 1 (v12.read (Elt F) g12))))
          (next2 i (v9.read (Elt F) g9) (v10.read (Elt F) g10) (v3.read (Elt F) g3) (v4.read (Elt F) g4) (v5.read (Elt F) g5) (col 0 (v11.read (Elt F) g11)) (col 8 (v12.read (Elt F) g12)) (col 10 (v12.read (Elt F) g12)) (col 2 (v12.read (Elt F) g12))) := by
  rw [read_writes_cols, View.writes_nil]
  rw [View.readAt_full v9 g9, View.readAt_full v3 g3, View.readAt_full v10 g10, View.readAt_full v4 g4, View.readAt_full v5 g5,
    readAt_col v11 g11 0 (by decide), readAt_col v12 g12 0 (by decide), readAt_col v12 g12 1 (by decide), readAt_col v12 g12 2 (by decide),
    readAt_col v12 g12 8 (by decide), readAt_col v12 g12 9 (by decide), readAt_col v12 g12 10 (by decide)]
  unfold next0 next1 next2 sB fB tfB
  rfl

theorem cols_of_putc0 {e : EltTy} (x y : Vec F S16x128 e) (w0 w1 w2 : Vec F S16x1 e) : col 0 (putc 2 (putc 1 (putc 0 x w0) w1) w2) = col 0 (putc 2 (putc 1 (putc 0 y w0) w1) w2) := by
  simp only [col_putc_other 2 0 (by decide), col_putc_other 1 0 (by decide), col_putc_same]
theorem cols_of_putc1 {e : EltTy} (x y : Vec F S16x128 e) (w0 w1 w2 : Vec F S16x1 e) : col 1 (putc 2 (putc 1 (putc 0 x w0) w1) w2) = col 1 (putc 2 (putc 1 (putc 0 y w0) w1) w2) := by
  simp only [col_putc_other 2 1 (by decide), col_putc_same]
theorem cols_of_putc2 {e : EltTy} (x y : Vec F S16x128 e) (w0 w1 w2 : Vec F S16x1 e) : col 2 (putc 2 (putc 1 (putc 0 x w0) w1) w2) = col 2 (putc 2 (putc 1 (putc 0 y w0) w1) w2) := by
  simp only [col_putc_same]

theorem ranks_raw {κ : Kind} {sp : Space} (v : View sig κ sp S16x128 .i32) (f : v.ty.Contents (Elt F)) (n : Vec F S16x128 .i32) {w0 w1 w2 : Vec F S16x1 .i32}
    (h0 : w0 = col 0 n) (h1 : w1 = col 1 n) (h2 : w2 = col 2 n) :
    v.read (Elt F) (v.writes (Elt F) f [⟨Rect.unit (s := S16x128) ![0, 2] S16x1.size inb_S16x128_S16x1_0_2, k0_pay4 w2⟩,
        ⟨Rect.unit (s := S16x128) ![0, 1] S16x1.size inb_S16x128_S16x1_0_1, k0_pay113 w1⟩, ⟨Rect.unit (s := S16x128) ![0, 0] S16x1.size inb_S16x128_S16x1_0_0, k0_pay111 w0⟩])
      = ranksOut (v.read (Elt F) f) n := by
  subst h0 h1 h2
  rw [read_writes_cols, View.writes_nil]
  rfl

theorem met_raw {κ : Kind} {sp : Space} (v : View sig κ sp S3x5 .f32) (f : v.ty.Contents (Elt F)) (n : Vec F S16x128 .i32) {w0 w1 w2 : Vec F S16x1 .i32}
    (h0 : w0 = col 0 n) (h1 : w1 = col 1 n) (h2 : w2 = col 2 n) :
    v.read (Elt F) (v.writes (Elt F) f [⟨Rect.unit (s := S3x5) ![2, 0] S1x5.size inb_S3x5_S1x5_2_0, k0_pay5 w2⟩,
        ⟨Rect.unit (s := S3x5) ![1, 0] S1x5.size inb_S3x5_S1x5_1_0, k0_pay3 (k0_pay114 w1) (k0_pay115 w1) (k0_pay116 w1) (k0_pay117 w1)⟩,
        ⟨Rect.unit (s := S3x5) ![0, 0] S1x5.size inb_S3x5_S1x5_0_0, k0_pay112 w0⟩])
      = metOut n := by
  subst h0 h1 h2
  exact read_writes_met v f _ _ _ _ _ _ []

theorem step_vec {κ : Kind} {sp : Space} (v : View sig κ sp S16x128 .i32) (f : v.ty.Contents (Elt F)) (L : List (View.Piece (Elt F) S16x128 .i32)) (X : Vec F S16x128 .i32)
    (hL : v.read (Elt F) (v.writes (Elt F) f L) = X) (A B : Vec F S16x64 .f32) (N M : Vec F S8192x64 .f32) (Lb : Vec F S16x8192 .i8)
    (s : Vec F S16x1 .f32) (c8 n9 n10 n0 n1 n2 : Vec F S16x1 .i32) :
    v.read (Elt F) (v.writes (Elt F) f (⟨Rect.unit (s := S16x128) ![0, 2] S16x1.size inb_S16x128_S16x1_0_2,
            k0_pay2 (k0_pay125 A N B M Lb) (k0_pay127 i c8) (k0_pay132 s n10) n2⟩
          :: ⟨Rect.unit (s := S16x128) ![0, 1] S16x1.size inb_S16x128_S16x1_0_1, k0_pay1 (k0_pay134 (k0_pay124 A N B M Lb) (k0_pay127 i c8) s n9 n1)⟩
          :: ⟨Rect.unit (s := S16x128) ![0, 0] S16x1.size inb_S16x128_S16x1_0_0, k0_pay133 (k0_pay119 A N B M) (k0_pay127 i c8) s n0⟩ :: L))
      = putc 2 (putc 1 (putc 0 X (next0 i A B N M s c8 n0)) (next1 i A B N M Lb s c8 n9 n1)) (next2 i A B N M Lb s c8 n10 n2) := by
  rw [read_writes_cols, hL]
  unfold next0 next1 next2 sB fB tfB
  rfl

/-- The sixteen rows' stores leave the matrix of the rows. -/
theorem rows_all {κ : Kind} {sp : Space} {e : EltTy} (v : View sig κ sp S16x64 e) (f : v.ty.Contents (Elt F)) (G : Fin 16 → Vec F S1x64 e) :
    v.read (Elt F) (v.writes (Elt F) f [⟨Rect.unit (s := S16x64) ![15, 0] S1x64.size inb_S16x64_S1x64_15_0, G 15⟩, ⟨Rect.unit (s := S16x64) ![14, 0] S1x64.size inb_S16x64_S1x64_14_0, G 14⟩, ⟨Rect.unit (s := S16x64) ![13, 0] S1x64.size inb_S16x64_S1x64_13_0, G 13⟩, ⟨Rect.unit (s := S16x64) ![12, 0] S1x64.size inb_S16x64_S1x64_12_0, G 12⟩, ⟨Rect.unit (s := S16x64) ![11, 0] S1x64.size inb_S16x64_S1x64_11_0, G 11⟩, ⟨Rect.unit (s := S16x64) ![10, 0] S1x64.size inb_S16x64_S1x64_10_0, G 10⟩, ⟨Rect.unit (s := S16x64) ![9, 0] S1x64.size inb_S16x64_S1x64_9_0, G 9⟩, ⟨Rect.unit (s := S16x64) ![8, 0] S1x64.size inb_S16x64_S1x64_8_0, G 8⟩, ⟨Rect.unit (s := S16x64) ![7, 0] S1x64.size inb_S16x64_S1x64_7_0, G 7⟩, ⟨Rect.unit (s := S16x64) ![6, 0] S1x64.size inb_S16x64_S1x64_6_0, G 6⟩, ⟨Rect.unit (s := S16x64) ![5, 0] S1x64.size inb_S16x64_S1x64_5_0, G 5⟩, ⟨Rect.unit (s := S16x64) ![4, 0] S1x64.size inb_S16x64_S1x64_4_0, G 4⟩, ⟨Rect.unit (s := S16x64) ![3, 0] S1x64.size inb_S16x64_S1x64_3_0, G 3⟩, ⟨Rect.unit (s := S16x64) ![2, 0] S1x64.size inb_S16x64_S1x64_2_0, G 2⟩, ⟨Rect.unit (s := S16x64) ![1, 0] S1x64.size inb_S16x64_S1x64_1_0, G 1⟩, ⟨Rect.unit (s := S16x64) ![0, 0] S1x64.size inb_S16x64_S1x64_0_0, G 0⟩]) = fun y => G (y 0) (ix2 0 (y 1)) := by
  have h0 : v.read (Elt F) (v.writes (Elt F) f []) = fun y => if (y 0).val < (0 : Fin 16).val then G (y 0) (ix2 0 (y 1)) else v.read (Elt F) f y :=
    funext fun y => (if_neg (Nat.not_lt_zero _)).symm
  refine (read_writes_row v f 15 _ G _ _ (read_writes_row v f 14 _ G _ _ (read_writes_row v f 13 _ G _ _ (read_writes_row v f 12 _ G _ _ (read_writes_row v f 11 _ G _ _ (read_writes_row v f 10 _ G _ _ (read_writes_row v f 9 _ G _ _ (read_writes_row v f 8 _ G _ _ (read_writes_row v f 7 _ G _ _ (read_writes_row v f 6 _ G _ _ (read_writes_row v f 5 _ G _ _ (read_writes_row v f 4 _ G _ _ (read_writes_row v f 3 _ G _ _ (read_writes_row v f 2 _ G _ _ (read_writes_row v f 1 _ G _ _ (read_writes_row v f 0 _ G _ _ h0)))))))))))))))).trans ?_
  funext y
  exact if_pos (show (y 0).val < 15 + 1 from (y 0).isLt)

/-- The sixteen words' stores over a zero block leave the counters before anything is counted. -/
theorem words_all {κ : Kind} {sp : Space} (v : View sig κ sp S16x128 .i32) (f : v.ty.Contents (Elt F)) (G : Fin 16 → Vec F S1x1 .i32) :
    v.read (Elt F) (v.writes (Elt F) f [⟨Rect.unit (s := S16x128) ![15, 8] S1x1.size inb_S16x128_S1x1_15_8, G 15⟩, ⟨Rect.unit (s := S16x128) ![14, 8] S1x1.size inb_S16x128_S1x1_14_8, G 14⟩, ⟨Rect.unit (s := S16x128) ![13, 8] S1x1.size inb_S16x128_S1x1_13_8, G 13⟩, ⟨Rect.unit (s := S16x128) ![12, 8] S1x1.size inb_S16x128_S1x1_12_8, G 12⟩, ⟨Rect.unit (s := S16x128) ![11, 8] S1x1.size inb_S16x128_S1x1_11_8, G 11⟩, ⟨Rect.unit (s := S16x128) ![10, 8] S1x1.size inb_S16x128_S1x1_10_8, G 10⟩, ⟨Rect.unit (s := S16x128) ![9, 8] S1x1.size inb_S16x128_S1x1_9_8, G 9⟩, ⟨Rect.unit (s := S16x128) ![8, 8] S1x1.size inb_S16x128_S1x1_8_8, G 8⟩, ⟨Rect.unit (s := S16x128) ![7, 8] S1x1.size inb_S16x128_S1x1_7_8, G 7⟩, ⟨Rect.unit (s := S16x128) ![6, 8] S1x1.size inb_S16x128_S1x1_6_8, G 6⟩, ⟨Rect.unit (s := S16x128) ![5, 8] S1x1.size inb_S16x128_S1x1_5_8, G 5⟩, ⟨Rect.unit (s := S16x128) ![4, 8] S1x1.size inb_S16x128_S1x1_4_8, G 4⟩, ⟨Rect.unit (s := S16x128) ![3, 8] S1x1.size inb_S16x128_S1x1_3_8, G 3⟩, ⟨Rect.unit (s := S16x128) ![2, 8] S1x1.size inb_S16x128_S1x1_2_8, G 2⟩, ⟨Rect.unit (s := S16x128) ![1, 8] S1x1.size inb_S16x128_S1x1_1_8, G 1⟩, ⟨Rect.unit (s := S16x128) ![0, 8] S1x1.size inb_S16x128_S1x1_0_8, G 0⟩, ⟨Rect.unit (s := S16x128) ![0, 0] S16x128.size inb_S16x128_S16x128_0_0, k0_pay6⟩])
      = fun y => if (y 1).val = 8 then G (y 0) (ix2 0 0) else 0#32 := by
  have h0 : v.read (Elt F) (v.writes (Elt F) f [⟨Rect.unit (s := S16x128) ![0, 0] S16x128.size inb_S16x128_S16x128_0_0, k0_pay6⟩])
      = fun y => if (y 1).val = 8 ∧ (y 0).val < (0 : Fin 16).val then G (y 0) (ix2 0 0) else 0#32 := by
    refine (View.read_writes_full _ _ _ _ _).trans ?_
    funext y
    exact (if_neg (fun h => Nat.not_lt_zero _ h.2)).symm
  refine (read_writes_word v f 15 _ G _ _ (read_writes_word v f 14 _ G _ _ (read_writes_word v f 13 _ G _ _ (read_writes_word v f 12 _ G _ _ (read_writes_word v f 11 _ G _ _ (read_writes_word v f 10 _ G _ _ (read_writes_word v f 9 _ G _ _ (read_writes_word v f 8 _ G _ _ (read_writes_word v f 7 _ G _ _ (read_writes_word v f 6 _ G _ _ (read_writes_word v f 5 _ G _ _ (read_writes_word v f 4 _ G _ _ (read_writes_word v f 3 _ G _ _ (read_writes_word v f 2 _ G _ _ (read_writes_word v f 1 _ G _ _ (read_writes_word v f 0 _ G _ _ h0)))))))))))))))).trans ?_
  funext y
  by_cases h : (y 1).val = 8
  · exact (if_pos ⟨h, show (y 0).val < 15 + 1 from (y 0).isLt⟩).trans (if_pos h).symm
  · exact (if_neg fun hh => h hh.1).trans (if_neg h).symm

end Raw

end Cert.KernelIdeal.Body

end
-- ==== Proof.RunA.lean ====
module

public import proofs.«01_k».proof.Proof.Steps

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The first point: it builds the left factors, extracts the answers and counts its block. -/
theorem runA (c : Dev nD) (i : grid0.Coords) (arg1 : Memref sig .tc .smem S16x3 .i32) (harg1 : arg1.IsWhole) (arg2 : Memref sig .tc .vmem S500x128 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S16x8192 .i8) (harg5 : arg5.IsWhole) (arg6 : Memref sig .tc .vmem S16x8192 .f32) (harg6 : arg6.IsWhole) (arg7 : Memref sig .tc .vmem S16x128 .i32) (harg7 : arg7.IsWhole) (arg8 : Memref sig .tc .vmem S3x5 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S16x128 .f32) (harg11 : arg11.IsWhole) (arg12 : Memref sig .tc .vmem S16x128 .i32) (harg12 : arg12.IsWhole)
    (hc0 : k0_cond1 i = 1#1) (hc1 : Scalar.cmpi .ne (Scalar.extui (Scalar.cmpi .eq (BitVec.ofNat 32 (i 0).val) 0#32)) 0#32 = 1#1) (hc2 : ¬k0_cond3 i = 1#1)
    (x0 : Vec F S16x3 .i32) (x1 : Vec F S500x128 .f32) (x2 : Vec F S8192x64 .f32) (x3 : Vec F S8192x64 .f32) (x4 : Vec F S16x8192 .i8)
    (xs0 : Vec F S16x64 .f32) (xs1 : Vec F S16x64 .f32) (xs2 : Vec F S16x128 .f32) (xs3 : Vec F S16x128 .i32) (xi6 : Vec F S16x128 .i32) (xi7 : Vec F S3x5 .f32)
    (hw : ∀ y, (x0 y).toNat < 500)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tfB (aMat x0 x1 x2 x3 hw) (bMat x0 x1 x2 x3 hw) x2 x3 x4) ∗ owns (c : Thread nD τ) arg7 fullShare xi6 ∗ owns (c : Thread nD τ) arg8 fullShare xi7 ∗ owns (c : Thread nD τ) arg9 fullShare (aMat x0 x1 x2 x3 hw) ∗ owns (c : Thread nD τ) arg10 fullShare (bMat x0 x1 x2 x3 hw) ∗ owns (c : Thread nD τ) arg11 fullShare (scFirst i (aMat x0 x1 x2 x3 hw) (bMat x0 x1 x2 x3 hw) x2 x3 xs2 (cntInit x0)) ∗ owns (c : Thread nD τ) arg12 fullShare (cntStep i (aMat x0 x1 x2 x3 hw) (bMat x0 x1 x2 x3 hw) x2 x3 x4 (scFirst i (aMat x0 x1 x2 x3 hw) (bMat x0 x1 x2 x3 hw) x2 x3 xs2 (cntInit x0)) (cntFirst i x4 (cntInit x0)))) -∗ K ⟨⟩))
          ⊢ wp frame (wpE (defs₀ (F := F)) Variants.none c none) E (cc0__kg_body i arg1 harg1 arg2 harg2 arg3 harg3 arg4 harg4 arg5 harg5 arg6 harg6 arg7 harg7 arg8 harg8 arg9 harg9 arg10 harg10 arg11 harg11 arg12 harg12) K := by
  simp only [cc0__kg_body_eq_skeleton]; unfold cc0__kg_body_skel
  simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%g0, %hg0, S0⟩, ⟨%g1, %hg1, S1⟩, ⟨%g2, %hg2, S2⟩, ⟨%g3, %hg3, S3⟩, Hk⟩
  subst hf0 hf1 hf2 hf3 hf4 hf6 hf7 hg0 hg1 hg2 hg3
  have hw' : ∀ (R : LoadRect S16x3) (j : R.shape.Idx), (View.readAt (Elt F) arg1.view R f0 j).toNat < 500 := fun R j => hw _
  sl_exec (disch := first | sl_exact hc0 | sl_exact hc1 | sl_exact hc2 | exact fun _ => node_ok _ (hw' _ _) | exact fun _ => rel_ok _ (hw' _ _))
  sl_step
  have hA : ∀ base, arg9.view.read (Elt F) (arg9.view.writes (Elt F) base (runA.sl.S0_16 c i arg1 arg2 arg3 arg4 hc0 f0 f1 f2 f3 hw')) = aMat (arg1.view.read (Elt F) f0) (arg2.view.read (Elt F) f1) (arg3.view.read (Elt F) f2) (arg4.view.read (Elt F) f3) hw := fun base =>
    rows_all arg9.view base (aRow (arg1.view.read (Elt F) f0) (arg2.view.read (Elt F) f1) (arg3.view.read (Elt F) f2) (arg4.view.read (Elt F) f3) hw)
  have hB : ∀ base, arg10.view.read (Elt F) (arg10.view.writes (Elt F) base (runA.sl.S1_16 c i arg1 arg2 arg3 arg4 hc0 f0 f1 f2 f3 hw')) = bMat (arg1.view.read (Elt F) f0) (arg2.view.read (Elt F) f1) (arg3.view.read (Elt F) f2) (arg4.view.read (Elt F) f3) hw := fun base =>
    rows_all arg10.view base (bRow (arg1.view.read (Elt F) f0) (arg2.view.read (Elt F) f1) (arg3.view.read (Elt F) f2) (arg4.view.read (Elt F) f3) hw)
  have hW : ∀ base, arg12.view.read (Elt F) (arg12.view.writes (Elt F) base (runA.sl.S3_17 c arg1 f0)) = cntInit (arg1.view.read (Elt F) f0) := fun base =>
    words_all arg12.view base (fun b => k0_pay12 (word (arg1.view.read (Elt F) f0) b 2))
  have e3 : (runA.sl.v3 c i arg1 arg2 arg3 arg4 arg9 hc0 f0 f1 f2 f3 hw') = aMat (arg1.view.read (Elt F) f0) (arg2.view.read (Elt F) f1) (arg3.view.read (Elt F) f2) (arg4.view.read (Elt F) f3) hw := (View.readAt_full arg9.view _ _).trans (hA _)
  have e6 : (runA.sl.v6 c i arg1 arg2 arg3 arg4 arg10 hc0 f0 f1 f2 f3 hw') = bMat (arg1.view.read (Elt F) f0) (arg2.view.read (Elt F) f1) (arg3.view.read (Elt F) f2) (arg4.view.read (Elt F) f3) hw := (View.readAt_full arg10.view _ _).trans (hB _)
  have e22 : (runA.sl.v22 c arg1 arg12 f0) = col 8 (cntInit (arg1.view.read (Elt F) f0)) := (readCov_col arg12.view _ 8 (by decide) _).trans (congrArg (col 8) (hW _))
  have eN : arg3.view.readAt (Elt F) (Rect.unit (s := S8192x64) ![0, 0] S8192x64.size inb_S8192x64_S8192x64_0_0).toLoadRect f2 = arg3.view.read (Elt F) f2 := View.readAt_full _ _ _
  have eM : arg4.view.readAt (Elt F) (Rect.unit (s := S8192x64) ![0, 0] S8192x64.size inb_S8192x64_S8192x64_0_0).toLoadRect f3 = arg4.view.read (Elt F) f3 := View.readAt_full _ _ _
  have eL : arg5.view.readAt (Elt F) (Rect.unit (s := S16x8192) ![0, 0] S16x8192.size inb_S16x8192_S16x8192_0_0).toLoadRect f4 = arg5.view.read (Elt F) f4 := View.readAt_full _ _ _
  have hE : ∀ base, arg12.view.read (Elt F) (arg12.view.writes (Elt F) base (runA.sl.S3_19 c i arg1 arg5 arg12 f0 f4)) = cntFirst i (arg5.view.read (Elt F) f4) (cntInit (arg1.view.read (Elt F) f0)) := fun base => by
    refine (read_writes_col arg12.view base 10 (by decide) _ _ _).trans ?_
    unfold cntFirst maskT maskF
    rw [← e22, ← eL]
    exact congrArg (fun X => putc 10 X _) ((read_writes_col arg12.view base 9 (by decide) _ _ _).trans (congrArg (fun X => putc 9 X _) (hW base)))
  have hS : ∀ base, arg11.view.read (Elt F) (arg11.view.writes (Elt F) base (runA.sl.S2_1 c i arg1 arg2 arg3 arg4 arg9 arg10 arg12 hc0 f0 f1 f2 f3 hw'))
      = putc 0 (arg11.view.read (Elt F) base) (scoreC i (aMat (arg1.view.read (Elt F) f0) (arg2.view.read (Elt F) f1) (arg3.view.read (Elt F) f2) (arg4.view.read (Elt F) f3) hw) (bMat (arg1.view.read (Elt F) f0) (arg2.view.read (Elt F) f1) (arg3.view.read (Elt F) f2) (arg4.view.read (Elt F) f3) hw) (arg3.view.read (Elt F) f2) (arg4.view.read (Elt F) f3) (col 8 (cntInit (arg1.view.read (Elt F) f0)))) := fun base => by
    refine (read_writes_col arg11.view base 0 (by decide) _ _ _).trans ?_
    unfold scoreC sB
    rw [← e22, ← e3, ← e6, ← eN, ← eM]
    rfl
  have e32 : (runA.sl.v32 c i arg1 arg2 arg3 arg4 arg9 arg10 arg11 arg12 hc0 f0 f1 f2 f3 hw') = scoreC i (aMat (arg1.view.read (Elt F) f0) (arg2.view.read (Elt F) f1) (arg3.view.read (Elt F) f2) (arg4.view.read (Elt F) f3) hw) (bMat (arg1.view.read (Elt F) f0) (arg2.view.read (Elt F) f1) (arg3.view.read (Elt F) f2) (arg4.view.read (Elt F) f3) hw) (arg3.view.read (Elt F) f2) (arg4.view.read (Elt F) f3) (col 8 (cntInit (arg1.view.read (Elt F) f0))) :=
    (readCov_col arg11.view _ 0 (by decide) _).trans ((congrArg (col 0) (hS _)).trans (col_putc_same _ _ _))
  have e33 : (runA.sl.v33 c i arg1 arg5 arg12 f0 f4) = col 9 (cntFirst i (arg5.view.read (Elt F) f4) (cntInit (arg1.view.read (Elt F) f0))) := (readCov_col arg12.view _ 9 (by decide) _).trans (congrArg (col 9) (hE _))
  have e38 : (runA.sl.v38 c i arg1 arg5 arg12 f0 f4) = col 10 (cntFirst i (arg5.view.read (Elt F) f4) (cntInit (arg1.view.read (Elt F) f0))) := (readCov_col arg12.view _ 10 (by decide) _).trans (congrArg (col 10) (hE _))
  have e43 : (runA.sl.v43 c i arg1 arg5 arg12 f0 f4) = col 0 (cntFirst i (arg5.view.read (Elt F) f4) (cntInit (arg1.view.read (Elt F) f0))) := (readCov_col arg12.view _ 0 (by decide) _).trans (congrArg (col 0) (hE _))
  have e57 : (runA.sl.v57 c i arg1 arg2 arg3 arg4 arg5 arg9 arg10 arg11 arg12 hc0 f0 f1 f2 f3 f4 hw') = col 1 (cntFirst i (arg5.view.read (Elt F) f4) (cntInit (arg1.view.read (Elt F) f0))) :=
    (readCov_col arg12.view _ 1 (by decide) _).trans ((congrArg (col 1) ((read_writes_col arg12.view _ 0 (by decide) _ _ _).trans (congrArg (fun X => putc 0 X _) (hE _)))).trans (col_putc_other 0 1 (by decide) _ _))
  have e71 : (runA.sl.v71 c i arg1 arg2 arg3 arg4 arg5 arg9 arg10 arg11 arg12 hc0 f0 f1 f2 f3 f4 hw') = col 2 (cntFirst i (arg5.view.read (Elt F) f4) (cntInit (arg1.view.read (Elt F) f0))) :=
    (readCov_col arg12.view _ 2 (by decide) _).trans ((congrArg (col 2) ((read_writes_col arg12.view _ 1 (by decide) _ _ _).trans (congrArg (fun X => putc 1 X _)
      ((read_writes_col arg12.view _ 0 (by decide) _ _ _).trans (congrArg (fun X => putc 0 X _) (hE _)))))).trans ((col_putc_other 1 2 (by decide) _ _).trans (col_putc_other 0 2 (by decide) _ _)))
  have hF := step_vec i arg12.view g3 (runA.sl.S3_19 c i arg1 arg5 arg12 f0 f4) _ (hE g3) (runA.sl.v3 c i arg1 arg2 arg3 arg4 arg9 hc0 f0 f1 f2 f3 hw') (runA.sl.v6 c i arg1 arg2 arg3 arg4 arg10 hc0 f0 f1 f2 f3 hw')
    (arg3.view.readAt (Elt F) (Rect.unit (s := S8192x64) ![0, 0] S8192x64.size inb_S8192x64_S8192x64_0_0).toLoadRect f2)
    (arg4.view.readAt (Elt F) (Rect.unit (s := S8192x64) ![0, 0] S8192x64.size inb_S8192x64_S8192x64_0_0).toLoadRect f3)
    (arg5.view.readAt (Elt F) (Rect.unit (s := S16x8192) ![0, 0] S16x8192.size inb_S16x8192_S16x8192_0_0).toLoadRect f4) (runA.sl.v32 c i arg1 arg2 arg3 arg4 arg9 arg10 arg11 arg12 hc0 f0 f1 f2 f3 hw') (runA.sl.v22 c arg1 arg12 f0) (runA.sl.v33 c i arg1 arg5 arg12 f0 f4) (runA.sl.v38 c i arg1 arg5 arg12 f0 f4) (runA.sl.v43 c i arg1 arg5 arg12 f0 f4) (runA.sl.v57 c i arg1 arg2 arg3 arg4 arg5 arg9 arg10 arg11 arg12 hc0 f0 f1 f2 f3 f4 hw') (runA.sl.v71 c i arg1 arg2 arg3 arg4 arg5 arg9 arg10 arg11 arg12 hc0 f0 f1 f2 f3 f4 hw')
  have hG : putc 2 (putc 1 (putc 0 (cntFirst i (arg5.view.read (Elt F) f4) (cntInit (arg1.view.read (Elt F) f0))) (next0 i (runA.sl.v3 c i arg1 arg2 arg3 arg4 arg9 hc0 f0 f1 f2 f3 hw') (runA.sl.v6 c i arg1 arg2 arg3 arg4 arg10 hc0 f0 f1 f2 f3 hw')
    (arg3.view.readAt (Elt F) (Rect.unit (s := S8192x64) ![0, 0] S8192x64.size inb_S8192x64_S8192x64_0_0).toLoadRect f2)
    (arg4.view.readAt (Elt F) (Rect.unit (s := S8192x64) ![0, 0] S8192x64.size inb_S8192x64_S8192x64_0_0).toLoadRect f3) (runA.sl.v32 c i arg1 arg2 arg3 arg4 arg9 arg10 arg11 arg12 hc0 f0 f1 f2 f3 hw') (runA.sl.v22 c arg1 arg12 f0) (runA.sl.v43 c i arg1 arg5 arg12 f0 f4))) (next1 i (runA.sl.v3 c i arg1 arg2 arg3 arg4 arg9 hc0 f0 f1 f2 f3 hw') (runA.sl.v6 c i arg1 arg2 arg3 arg4 arg10 hc0 f0 f1 f2 f3 hw')
    (arg3.view.readAt (Elt F) (Rect.unit (s := S8192x64) ![0, 0] S8192x64.size inb_S8192x64_S8192x64_0_0).toLoadRect f2)
    (arg4.view.readAt (Elt F) (Rect.unit (s := S8192x64) ![0, 0] S8192x64.size inb_S8192x64_S8192x64_0_0).toLoadRect f3)
    (arg5.view.readAt (Elt F) (Rect.unit (s := S16x8192) ![0, 0] S16x8192.size inb_S16x8192_S16x8192_0_0).toLoadRect f4) (runA.sl.v32 c i arg1 arg2 arg3 arg4 arg9 arg10 arg11 arg12 hc0 f0 f1 f2 f3 hw') (runA.sl.v22 c arg1 arg12 f0) (runA.sl.v33 c i arg1 arg5 arg12 f0 f4) (runA.sl.v57 c i arg1 arg2 arg3 arg4 arg5 arg9 arg10 arg11 arg12 hc0 f0 f1 f2 f3 f4 hw'))) (next2 i (runA.sl.v3 c i arg1 arg2 arg3 arg4 arg9 hc0 f0 f1 f2 f3 hw') (runA.sl.v6 c i arg1 arg2 arg3 arg4 arg10 hc0 f0 f1 f2 f3 hw')
    (arg3.view.readAt (Elt F) (Rect.unit (s := S8192x64) ![0, 0] S8192x64.size inb_S8192x64_S8192x64_0_0).toLoadRect f2)
    (arg4.view.readAt (Elt F) (Rect.unit (s := S8192x64) ![0, 0] S8192x64.size inb_S8192x64_S8192x64_0_0).toLoadRect f3)
    (arg5.view.readAt (Elt F) (Rect.unit (s := S16x8192) ![0, 0] S16x8192.size inb_S16x8192_S16x8192_0_0).toLoadRect f4) (runA.sl.v32 c i arg1 arg2 arg3 arg4 arg9 arg10 arg11 arg12 hc0 f0 f1 f2 f3 hw') (runA.sl.v22 c arg1 arg12 f0) (runA.sl.v38 c i arg1 arg5 arg12 f0 f4) (runA.sl.v71 c i arg1 arg2 arg3 arg4 arg5 arg9 arg10 arg11 arg12 hc0 f0 f1 f2 f3 f4 hw'))
      = cntStep i (aMat (arg1.view.read (Elt F) f0) (arg2.view.read (Elt F) f1) (arg3.view.read (Elt F) f2) (arg4.view.read (Elt F) f3) hw) (bMat (arg1.view.read (Elt F) f0) (arg2.view.read (Elt F) f1) (arg3.view.read (Elt F) f2) (arg4.view.read (Elt F) f3) hw) (arg3.view.read (Elt F) f2) (arg4.view.read (Elt F) f3) (arg5.view.read (Elt F) f4)
          (scFirst i (aMat (arg1.view.read (Elt F) f0) (arg2.view.read (Elt F) f1) (arg3.view.read (Elt F) f2) (arg4.view.read (Elt F) f3) hw) (bMat (arg1.view.read (Elt F) f0) (arg2.view.read (Elt F) f1) (arg3.view.read (Elt F) f2) (arg4.view.read (Elt F) f3) hw) (arg3.view.read (Elt F) f2) (arg4.view.read (Elt F) f3) (arg11.view.read (Elt F) g2) (cntInit (arg1.view.read (Elt F) f0)))
          (cntFirst i (arg5.view.read (Elt F) f4) (cntInit (arg1.view.read (Elt F) f0))) := by
    rw [e3, e6, e32, e22, e33, e38, e43, e57, e71, eN, eM, eL]
    unfold cntStep scFirst
    rw [col_putc_same]
    have h8 : col 8 (cntFirst i (arg5.view.read (Elt F) f4) (cntInit (arg1.view.read (Elt F) f0))) = col 8 (cntInit (arg1.view.read (Elt F) f0)) :=
      (col_putc_other 10 8 (by decide) _ _).trans (col_putc_other 9 8 (by decide) _ _)
    rw [h8]
  have hT : arg6.view.read (Elt F) (arg6.view.writes (Elt F) f5 [⟨Rect.unit (s := S16x8192) ![0, 0] S16x8192.size inb_S16x8192_S16x8192_0_0, k0_pay125 (runA.sl.v3 c i arg1 arg2 arg3 arg4 arg9 hc0 f0 f1 f2 f3 hw')
    (arg3.view.readAt (Elt F) (Rect.unit (s := S8192x64) ![0, 0] S8192x64.size inb_S8192x64_S8192x64_0_0).toLoadRect f2) (runA.sl.v6 c i arg1 arg2 arg3 arg4 arg10 hc0 f0 f1 f2 f3 hw')
    (arg4.view.readAt (Elt F) (Rect.unit (s := S8192x64) ![0, 0] S8192x64.size inb_S8192x64_S8192x64_0_0).toLoadRect f3)
    (arg5.view.readAt (Elt F) (Rect.unit (s := S16x8192) ![0, 0] S16x8192.size inb_S16x8192_S16x8192_0_0).toLoadRect f4)⟩])
      = tfB (aMat (arg1.view.read (Elt F) f0) (arg2.view.read (Elt F) f1) (arg3.view.read (Elt F) f2) (arg4.view.read (Elt F) f3) hw) (bMat (arg1.view.read (Elt F) f0) (arg2.view.read (Elt F) f1) (arg3.view.read (Elt F) f2) (arg4.view.read (Elt F) f3) hw) (arg3.view.read (Elt F) f2) (arg4.view.read (Elt F) f3) (arg5.view.read (Elt F) f4) := by
    refine (View.read_writes_full _ _ _ _ _).trans ?_
    rw [e3, e6, eN, eM, eL]
    unfold tfB
    rfl
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact hT
    iexact H5
  isplitl [H6]
  · iexists _; isplitr
    · ipureintro; exact rfl
    iexact H6
  isplitl [H7]
  · iexists _; isplitr
    · ipureintro; exact rfl
    iexact H7
  isplitl [S0]
  · iexists _; isplitr
    · ipureintro; exact hA g0
    iexact S0
  isplitl [S1]
  · iexists _; isplitr
    · ipureintro; exact hB g1
    iexact S1
  isplitl [S2]
  · iexists _; isplitr
    · ipureintro; exact hS g2
    iexact S2
  iexists _; isplitr
  · ipureintro; exact hF.trans hG
  iexact S3

end Cert.KernelIdeal.Body

end
-- ==== Proof.RunB.lean ====
module

public import proofs.«01_k».proof.Proof.Steps

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A middle point: it adds its block to the counters. -/
theorem runB (c : Dev nD) (i : grid0.Coords) (arg1 : Memref sig .tc .smem S16x3 .i32) (harg1 : arg1.IsWhole) (arg2 : Memref sig .tc .vmem S500x128 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S16x8192 .i8) (harg5 : arg5.IsWhole) (arg6 : Memref sig .tc .vmem S16x8192 .f32) (harg6 : arg6.IsWhole) (arg7 : Memref sig .tc .vmem S16x128 .i32) (harg7 : arg7.IsWhole) (arg8 : Memref sig .tc .vmem S3x5 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S16x128 .f32) (harg11 : arg11.IsWhole) (arg12 : Memref sig .tc .vmem S16x128 .i32) (harg12 : arg12.IsWhole)
    (hc0 : ¬k0_cond1 i = 1#1) (hc1 : ¬Scalar.cmpi .ne (Scalar.extui (Scalar.cmpi .eq (BitVec.ofNat 32 (i 0).val) 0#32)) 0#32 = 1#1) (hc2 : ¬k0_cond3 i = 1#1)
    (x0 : Vec F S16x3 .i32) (x1 : Vec F S500x128 .f32) (x2 : Vec F S8192x64 .f32) (x3 : Vec F S8192x64 .f32) (x4 : Vec F S16x8192 .i8)
    (xs0 : Vec F S16x64 .f32) (xs1 : Vec F S16x64 .f32) (xs2 : Vec F S16x128 .f32) (xs3 : Vec F S16x128 .i32) (xi6 : Vec F S16x128 .i32) (xi7 : Vec F S3x5 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tfB xs0 xs1 x2 x3 x4) ∗ owns (c : Thread nD τ) arg7 fullShare xi6 ∗ owns (c : Thread nD τ) arg8 fullShare xi7 ∗ owns (c : Thread nD τ) arg9 fullShare xs0 ∗ owns (c : Thread nD τ) arg10 fullShare xs1 ∗ owns (c : Thread nD τ) arg11 fullShare xs2 ∗ owns (c : Thread nD τ) arg12 fullShare (cntStep i xs0 xs1 x2 x3 x4 xs2 xs3)) -∗ K ⟨⟩))
          ⊢ wp frame (wpE (defs₀ (F := F)) Variants.none c none) E (cc0__kg_body i arg1 harg1 arg2 harg2 arg3 harg3 arg4 harg4 arg5 harg5 arg6 harg6 arg7 harg7 arg8 harg8 arg9 harg9 arg10 harg10 arg11 harg11 arg12 harg12) K := by
  simp only [cc0__kg_body_eq_skeleton]; unfold cc0__kg_body_skel
  simp only [k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%g0, %hg0, S0⟩, ⟨%g1, %hg1, S1⟩, ⟨%g2, %hg2, S2⟩, ⟨%g3, %hg3, S3⟩, Hk⟩
  subst hf0 hf1 hf2 hf3 hf4 hf6 hf7 hg0 hg1 hg2 hg3
  sl_exec (disch := first | sl_exact hc0 | sl_exact hc1 | sl_exact hc2)
  sl_step
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact (tf_raw arg3.view f2 arg4.view f3 arg5.view f4 arg6.view f5 arg9.view g0 arg10.view g1)
    iexact H5
  isplitl [H6]
  · iexists _; isplitr
    · ipureintro; exact rfl
    iexact H6
  isplitl [H7]
  · iexists _; isplitr
    · ipureintro; exact rfl
    iexact H7
  isplitl [S0]
  · iexists _; isplitr
    · ipureintro; exact rfl
    iexact S0
  isplitl [S1]
  · iexists _; isplitr
    · ipureintro; exact rfl
    iexact S1
  isplitl [S2]
  · iexists _; isplitr
    · ipureintro; exact rfl
    iexact S2
  iexists _; isplitr
  · ipureintro; exact (step_raw i arg3.view f2 arg4.view f3 arg5.view f4 arg9.view g0 arg10.view g1 arg11.view g2 arg12.view g3 g3)
  iexact S3

end Cert.KernelIdeal.Body

end
-- ==== Proof.RunC.lean ====
module

public import proofs.«01_k».proof.Proof.Steps

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The last point: it adds its block and writes the ranks and the metrics. -/
theorem runC (c : Dev nD) (i : grid0.Coords) (arg1 : Memref sig .tc .smem S16x3 .i32) (harg1 : arg1.IsWhole) (arg2 : Memref sig .tc .vmem S500x128 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S16x8192 .i8) (harg5 : arg5.IsWhole) (arg6 : Memref sig .tc .vmem S16x8192 .f32) (harg6 : arg6.IsWhole) (arg7 : Memref sig .tc .vmem S16x128 .i32) (harg7 : arg7.IsWhole) (arg8 : Memref sig .tc .vmem S3x5 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S16x128 .f32) (harg11 : arg11.IsWhole) (arg12 : Memref sig .tc .vmem S16x128 .i32) (harg12 : arg12.IsWhole)
    (hc0 : ¬k0_cond1 i = 1#1) (hc1 : ¬Scalar.cmpi .ne (Scalar.extui (Scalar.cmpi .eq (BitVec.ofNat 32 (i 0).val) 0#32)) 0#32 = 1#1) (hc2 : k0_cond3 i = 1#1)
    (x0 : Vec F S16x3 .i32) (x1 : Vec F S500x128 .f32) (x2 : Vec F S8192x64 .f32) (x3 : Vec F S8192x64 .f32) (x4 : Vec F S16x8192 .i8)
    (xs0 : Vec F S16x64 .f32) (xs1 : Vec F S16x64 .f32) (xs2 : Vec F S16x128 .f32) (xs3 : Vec F S16x128 .i32) (xi6 : Vec F S16x128 .i32) (xi7 : Vec F S3x5 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tfB xs0 xs1 x2 x3 x4) ∗ owns (c : Thread nD τ) arg7 fullShare (ranksOut xi6 (cntStep i xs0 xs1 x2 x3 x4 xs2 xs3)) ∗ owns (c : Thread nD τ) arg8 fullShare (metOut (cntStep i xs0 xs1 x2 x3 x4 xs2 xs3)) ∗ owns (c : Thread nD τ) arg9 fullShare xs0 ∗ owns (c : Thread nD τ) arg10 fullShare xs1 ∗ owns (c : Thread nD τ) arg11 fullShare xs2 ∗ owns (c : Thread nD τ) arg12 fullShare (cntStep i xs0 xs1 x2 x3 x4 xs2 xs3)) -∗ K ⟨⟩))
          ⊢ wp frame (wpE (defs₀ (F := F)) Variants.none c none) E (cc0__kg_body i arg1 harg1 arg2 harg2 arg3 harg3 arg4 harg4 arg5 harg5 arg6 harg6 arg7 harg7 arg8 harg8 arg9 harg9 arg10 harg10 arg11 harg11 arg12 harg12) K := by
  simp only [cc0__kg_body_eq_skeleton]; unfold cc0__kg_body_skel
  simp only [k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%g0, %hg0, S0⟩, ⟨%g1, %hg1, S1⟩, ⟨%g2, %hg2, S2⟩, ⟨%g3, %hg3, S3⟩, Hk⟩
  subst hf0 hf1 hf2 hf3 hf4 hf6 hf7 hg0 hg1 hg2 hg3
  sl_exec (disch := first | sl_exact hc0 | sl_exact hc1 | sl_exact hc2)
  sl_step
  have e0 : runC.sl.v88 c i arg3 arg4 arg5 arg9 arg10 arg11 arg12 f2 f3 f4 g0 g1 g2 g3 = col 0 (cntStep i (arg9.view.read (Elt F) g0) (arg10.view.read (Elt F) g1) (arg3.view.read (Elt F) f2) (arg4.view.read (Elt F) f3) (arg5.view.read (Elt F) f4) (arg11.view.read (Elt F) g2) (arg12.view.read (Elt F) g3)) := by
    refine (readCov_col arg12.view _ 0 (by decide) _).trans ((congrArg (col 0) (step_raw i arg3.view f2 arg4.view f3 arg5.view f4 arg9.view g0 arg10.view g1 arg11.view g2 arg12.view g3 arg12.view.junk)).trans ?_)
    unfold cntStep
    exact cols_of_putc0 _ _ _ _ _
  have e1 : runC.sl.v111 c i arg3 arg4 arg5 arg9 arg10 arg11 arg12 f2 f3 f4 g0 g1 g2 g3 = col 1 (cntStep i (arg9.view.read (Elt F) g0) (arg10.view.read (Elt F) g1) (arg3.view.read (Elt F) f2) (arg4.view.read (Elt F) f3) (arg5.view.read (Elt F) f4) (arg11.view.read (Elt F) g2) (arg12.view.read (Elt F) g3)) := by
    refine (readCov_col arg12.view _ 1 (by decide) _).trans ((congrArg (col 1) (step_raw i arg3.view f2 arg4.view f3 arg5.view f4 arg9.view g0 arg10.view g1 arg11.view g2 arg12.view g3 arg12.view.junk)).trans ?_)
    unfold cntStep
    exact cols_of_putc1 _ _ _ _ _
  have e2 : runC.sl.v134 c i arg3 arg4 arg5 arg9 arg10 arg11 arg12 f2 f3 f4 g0 g1 g2 g3 = col 2 (cntStep i (arg9.view.read (Elt F) g0) (arg10.view.read (Elt F) g1) (arg3.view.read (Elt F) f2) (arg4.view.read (Elt F) f3) (arg5.view.read (Elt F) f4) (arg11.view.read (Elt F) g2) (arg12.view.read (Elt F) g3)) := by
    refine (readCov_col arg12.view _ 2 (by decide) _).trans ((congrArg (col 2) (step_raw i arg3.view f2 arg4.view f3 arg5.view f4 arg9.view g0 arg10.view g1 arg11.view g2 arg12.view g3 arg12.view.junk)).trans ?_)
    unfold cntStep
    exact cols_of_putc2 _ _ _ _ _
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact (tf_raw arg3.view f2 arg4.view f3 arg5.view f4 arg6.view f5 arg9.view g0 arg10.view g1)
    iexact H5
  isplitl [H6]
  · iexists _; isplitr
    · ipureintro; exact ranks_raw arg7.view f6 _ e0 e1 e2
    iexact H6
  isplitl [H7]
  · iexists _; isplitr
    · ipureintro; exact met_raw arg8.view f7 _ e0 e1 e2
    iexact H7
  isplitl [S0]
  · iexists _; isplitr
    · ipureintro; exact rfl
    iexact S0
  isplitl [S1]
  · iexists _; isplitr
    · ipureintro; exact rfl
    iexact S1
  isplitl [S2]
  · iexists _; isplitr
    · ipureintro; exact rfl
    iexact S2
  iexists _; isplitr
  · ipureintro; exact (step_raw i arg3.view f2 arg4.view f3 arg5.view f4 arg9.view g0 arg10.view g1 arg11.view g2 arg12.view g3 g3)
  iexact S3

end Cert.KernelIdeal.Body

end
-- ==== Proof.Body.lean ====
module

public import proofs.«01_k».proof.Proof.RunA
public import proofs.«01_k».proof.Proof.RunB
public import proofs.«01_k».proof.Proof.RunC
public import Idealize.ShloMosaic.Lib.Pipeline.DatRel
public import Idealize.ShloMosaic.Lib.Pipeline.ArrRel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2)

variable (m : (ℓ : Loc nD τ sig) → Buf (Elt F) ℓ) (ρ : Dev nD → PrngReg)

/-! ## The points and the staging memrefs -/

/-- The point of number `n`. -/
def tp (n : ℕ) : Fin cfg0.N := ⟨n % 4, lt_of_lt_of_eq (Nat.mod_lt n (by decide)) N_0.symm⟩
theorem tp_val (t : Fin cfg0.N) : tp t.val = t :=
  Fin.ext (Nat.mod_eq_of_lt (lt_of_lt_of_eq t.isLt N_0))

theorem point_coord (t : Fin cfg0.N) : (grid0.coords t 0).val = t.val := by
  have ht : t.val < 4 := lt_of_lt_of_eq t.isLt N_0
  have e : (grid0.coords t 0).val = t.val / 1 % 4 := Pipeline.Grid.coords_val t 0 (by decide) rfl
  omega

theorem at_first (t : Fin cfg0.N) : k0_cond1 (grid0.coords t) = 1#1 ↔ t.val = 0 := by
  have ht : t.val < 4 := lt_of_lt_of_eq t.isLt N_0
  simp only [k0_cond1, point_coord]
  word_cmp
theorem at_first' (t : Fin cfg0.N) :
    Scalar.cmpi .ne (Scalar.extui (Scalar.cmpi .eq (BitVec.ofNat 32 (grid0.coords t 0).val) 0#32)) 0#32 = 1#1 ↔ t.val = 0 := by
  have ht : t.val < 4 := lt_of_lt_of_eq t.isLt N_0
  simp only [point_coord]
  word_cmp
theorem at_last (t : Fin cfg0.N) : k0_cond3 (grid0.coords t) = 1#1 ↔ t.val = 3 := by
  have ht : t.val < 4 := lt_of_lt_of_eq t.isLt N_0
  simp only [k0_cond3, point_coord]
  word_cmp

theorem idle7 : ∀ t : Fin cfg0.N, t.val ≠ 3 → cfg0.idle 7 (grid0.coords t) = true := by decide +kernel
theorem keep7 : ∀ t : Fin cfg0.N, t.val ≠ 3 → (cfg0.win 7).flush t = false := by decide +kernel
theorem live7 : ∀ t : Fin cfg0.N, t.val = 3 → cfg0.idle 7 (grid0.coords t) = false := by decide +kernel

abbrev stg0 (t : Fin cfg0.N) : Memref sig .tc .smem S16x3 .i32 := win0_0.stage (cfg0.slots t 0)
abbrev stg1 (t : Fin cfg0.N) : Memref sig .tc .vmem S500x128 .f32 := win0_1.stage (cfg0.slots t 1)
abbrev stg2 (t : Fin cfg0.N) : Memref sig .tc .vmem S8192x64 .f32 := win0_2.stage (cfg0.slots t 2)
abbrev stg3 (t : Fin cfg0.N) : Memref sig .tc .vmem S8192x64 .f32 := win0_3.stage (cfg0.slots t 3)
abbrev stg4 (t : Fin cfg0.N) : Memref sig .tc .vmem S16x8192 .i8 := win0_4.stage (cfg0.slots t 4)
abbrev stg5 (t : Fin cfg0.N) : Memref sig .tc .vmem S16x8192 .f32 := win0_5.stage (cfg0.slots t 5)
abbrev stg6 (t : Fin cfg0.N) : Memref sig .tc .vmem S16x128 .i32 := win0_6.stage (cfg0.slots t 6)
abbrev stg7 (t : Fin cfg0.N) : Memref sig .tc .vmem S3x5 .f32 := win0_7.stage (cfg0.slots t 7)
abbrev scr0 : Memref sig .tc .vmem S16x64 .f32 := Memref.whole cc0_scratch0
abbrev scr1 : Memref sig .tc .vmem S16x64 .f32 := Memref.whole cc0_scratch1
abbrev scr2 : Memref sig .tc .vmem S16x128 .f32 := Memref.whole cc0_scratch2
abbrev scr3 : Memref sig .tc .vmem S16x128 .i32 := Memref.whole cc0_scratch3

/-- What the launch hands the region, the scratch buffers as memrefs owned at some contents. -/
theorem anyScratch (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-! ## What the scratch holds, point by point -/

/-- Every word of the triplets names a row. -/
def InRange : Prop := ∀ (c : Dev nD) (y : S16x3.Idx), BitVec.toNat (w := 32) (iblk m c 0 (tp 0) y) < 500

variable (hw : InRange m) (c : Dev nD)

/-- The trip block, as the first point finds it. -/
abbrev trip : Vec F S16x3 .i32 := iblk m c 0 (tp 0)
abbrev rels : Vec F S500x128 .f32 := iblk m c 1 (tp 0)
abbrev blkR (n : ℕ) : Vec F S8192x64 .f32 := iblk m c 2 (tp n)
abbrev blkI (n : ℕ) : Vec F S8192x64 .f32 := iblk m c 3 (tp n)
abbrev blkL (n : ℕ) : Vec F S16x8192 .i8 := iblk m c 4 (tp n)

/-- The left factors. -/
def aM : Vec F S16x64 .f32 := aMat (trip m c) (rels m c) (blkR m c 0) (blkI m c 0) (hw c)
def bM : Vec F S16x64 .f32 := bMat (trip m c) (rels m c) (blkR m c 0) (blkI m c 0) (hw c)
/-- The answers' scores. -/
def scC : Vec F S16x1 .f32 := scoreC (grid0.coords (tp 0)) (aM m hw c) (bM m hw c) (blkR m c 0) (blkI m c 0) (col 8 (cntInit (trip m c)))
/-- A block whose first column is the answers' scores. -/
def scX : Vec F S16x128 .f32 := fun y => scC m hw c (ix2 (y 0) 0)
/-- The counters after a point. -/
def cntAt : ℕ → Vec F S16x128 .i32
  | 0 => cntStep (grid0.coords (tp 0)) (aM m hw c) (bM m hw c) (blkR m c 0) (blkI m c 0) (blkL m c 0) (scX m hw c)
      (cntFirst (grid0.coords (tp 0)) (blkL m c 0) (cntInit (trip m c)))
  | n + 1 => cntStep (grid0.coords (tp (n + 1))) (aM m hw c) (bM m hw c) (blkR m c (n + 1)) (blkI m c (n + 1)) (blkL m c (n + 1)) (scX m hw c) (cntAt n)

theorem col_scX : col 0 (scX m hw c) = scC m hw c := by
  funext j
  have h1 : @Eq (Fin 1) (j 1) 0 := Subsingleton.elim (α := Fin 1) _ _
  show scC m hw c (ix2 (j 0) 0) = scC m hw c j
  conv_rhs => rw [eq_ix2 j]
  exact congrArg (fun q => scC m hw c (ix2 (j 0) q)) h1.symm

/-- A point reads only the first column of the scores' block. -/
theorem cntStep_congr (i : grid0.Coords) (a b : Vec F S16x64 .f32) (nr ni : Vec F S8192x64 .f32) (lab : Vec F S16x8192 .i8)
    (s s' : Vec F S16x128 .f32) (n : Vec F S16x128 .i32) (h : col 0 s = col 0 s') :
    cntStep i a b nr ni lab s n = cntStep i a b nr ni lab s' n := by
  unfold cntStep; rw [h]

/-- What the scratch holds before point `n`. -/
def inv : ℕ → sProp 𝕄
  | 0 => Pipeline.ΦA spec0 c
  | n + 1 => iprop(iprop(owns (c : Thread nD τ) scr0 fullShare (aM m hw c) ∗ owns (c : Thread nD τ) scr1 fullShare (bM m hw c)
      ∗ (∃ x, ⌜col 0 x = scC m hw c⌝ ∗ owns (c : Thread nD τ) scr2 fullShare x) ∗ owns (c : Thread nD τ) scr3 fullShare (cntAt m hw c n)) ∗ (∃ r, prngReg c r))

/-! ## The proof data -/

/-- The windows' contents after each point, but window 6's. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tfB (aM m hw c) (bM m hw c) (iblk m c 2 t) (iblk m c 3 t) (iblk m c 4 t)
    | ⟨6, _⟩ => fun _ => (0#32 : BitVec 32)
    | ⟨7, _⟩ => metOut (cntAt m hw c t.val)
  Φ t := inv m hw c t.val
  q _ := fullShare
  owed _ := 0

/-- Window 6 keeps, outside the ranks' columns, what its staging buffer held. -/
def mark : Fin cfg0.W → Bool
  | ⟨6, _⟩ => true
  | _ => false
/-- What the last point leaves in window 6: the ranks over anything. -/
def leaves6 (c : Dev nD) : (w : Fin cfg0.W) → Fin cfg0.N → ((cfg0.win w).block.Idx → Elt F (cfg0.win w).elt) → Prop
  | ⟨6, _⟩ => fun t X => t.val = 3 → ∃ r : Vec F S16x128 .i32, X = ranksOut r (cntAt m hw c 3)
  | _ => fun _ _ => True

/-- The data read relationally. -/
def rdat (c : Dev nD) : Pipeline.RDat τ (Elt F) Unit ℕ (UR sig nD τ) ℕ cfg0 c := (dat m hw c).toRRel mark (leaves6 m hw c)

theorem dat_A (w : Fin cfg0.W) : (dat m hw c).A w = V m c (Pipeline.arrRef spec0 w) := by dsimp only [dat]
theorem after0 (t : Fin cfg0.N) : (dat m hw c).after 0 t = iblk m c 0 t := by dsimp only [dat]
theorem after1 (t : Fin cfg0.N) : (dat m hw c).after 1 t = iblk m c 1 t := by dsimp only [dat]
theorem after2 (t : Fin cfg0.N) : (dat m hw c).after 2 t = iblk m c 2 t := by dsimp only [dat]
theorem after3 (t : Fin cfg0.N) : (dat m hw c).after 3 t = iblk m c 3 t := by dsimp only [dat]
theorem after4 (t : Fin cfg0.N) : (dat m hw c).after 4 t = iblk m c 4 t := by dsimp only [dat]
theorem after5 (t : Fin cfg0.N) : (dat m hw c).after 5 t = tfB (aM m hw c) (bM m hw c) (iblk m c 2 t) (iblk m c 3 t) (iblk m c 4 t) := by dsimp only [dat]
theorem after7 (t : Fin cfg0.N) : (dat m hw c).after 7 t = metOut (cntAt m hw c t.val) := by dsimp only [dat]
theorem before0 (t : Fin cfg0.N) (d) : (dat m hw c).before 0 t d = iblk m c 0 t :=
  before0_0_of m (dat m hw c) (dat_A m hw c 0) (after0 m hw c) t d
theorem before1 (t : Fin cfg0.N) (d) : (dat m hw c).before 1 t d = iblk m c 1 t :=
  before0_1_of m (dat m hw c) (dat_A m hw c 1) (after1 m hw c) t d
theorem before2 (t : Fin cfg0.N) (d) : (dat m hw c).before 2 t d = iblk m c 2 t :=
  before0_2_of m (dat m hw c) (dat_A m hw c 2) (after2 m hw c) t d
theorem before3 (t : Fin cfg0.N) (d) : (dat m hw c).before 3 t d = iblk m c 3 t :=
  before0_3_of m (dat m hw c) (dat_A m hw c 3) (after3 m hw c) t d
theorem before4 (t : Fin cfg0.N) (d) : (dat m hw c).before 4 t d = iblk m c 4 t :=
  before0_4_of m (dat m hw c) (dat_A m hw c 4) (after4 m hw c) t d
theorem live0 (t : Fin cfg0.N) : (dat m hw c).leaves 0 t = owns (c : Thread nD τ) (stg0 t) fullShare ((dat m hw c).after 0 t) := by
  unfold Dat.leaves; rw [show cfg0.idle 0 (grid0.coords t) = false from rfl]
theorem live1 (t : Fin cfg0.N) : (dat m hw c).leaves 1 t = owns (c : Thread nD τ) (stg1 t) fullShare ((dat m hw c).after 1 t) := by
  unfold Dat.leaves; rw [show cfg0.idle 1 (grid0.coords t) = false from rfl]
theorem live2 (t : Fin cfg0.N) : (dat m hw c).leaves 2 t = owns (c : Thread nD τ) (stg2 t) fullShare ((dat m hw c).after 2 t) := by
  unfold Dat.leaves; rw [show cfg0.idle 2 (grid0.coords t) = false from rfl]
theorem live3 (t : Fin cfg0.N) : (dat m hw c).leaves 3 t = owns (c : Thread nD τ) (stg3 t) fullShare ((dat m hw c).after 3 t) := by
  unfold Dat.leaves; rw [show cfg0.idle 3 (grid0.coords t) = false from rfl]
theorem live4 (t : Fin cfg0.N) : (dat m hw c).leaves 4 t = owns (c : Thread nD τ) (stg4 t) fullShare ((dat m hw c).after 4 t) := by
  unfold Dat.leaves; rw [show cfg0.idle 4 (grid0.coords t) = false from rfl]
theorem live5 (t : Fin cfg0.N) : (dat m hw c).leaves 5 t = owns (c : Thread nD τ) (stg5 t) fullShare ((dat m hw c).after 5 t) := by
  unfold Dat.leaves; rw [show cfg0.idle 5 (grid0.coords t) = false from rfl]

theorem leaves7_idle (t : Fin cfg0.N) (h : t.val ≠ 3) : (dat m hw c).leaves 7 t = iprop(∃ d, owns (c : Thread nD τ) (stg7 t) fullShare ((dat m hw c).before 7 t d)) := by
  unfold Dat.leaves; rw [idle7 t h, keep7 t h]
theorem leaves7_last (t : Fin cfg0.N) (h : t.val = 3) : (dat m hw c).leaves 7 t = owns (c : Thread nD τ) (stg7 t) fullShare ((dat m hw c).after 7 t) := by
  unfold Dat.leaves; rw [live7 t h]

/-! ## The body at any point -/

/-- What the body is called with at point `t`, -/
def pre (t : Fin cfg0.N) : sProp 𝕄 :=
  iprop((dat m hw c).Φ t.castSucc ∗ (dat m hw c).owesAt () t.castSucc
    ∗ (∃ d, owns (c : Thread nD τ) (stg0 t) fullShare ((dat m hw c).before 0 t d))
    ∗ (∃ d, owns (c : Thread nD τ) (stg1 t) fullShare ((dat m hw c).before 1 t d))
    ∗ (∃ d, owns (c : Thread nD τ) (stg2 t) fullShare ((dat m hw c).before 2 t d))
    ∗ (∃ d, owns (c : Thread nD τ) (stg3 t) fullShare ((dat m hw c).before 3 t d))
    ∗ (∃ d, owns (c : Thread nD τ) (stg4 t) fullShare ((dat m hw c).before 4 t d))
    ∗ (∃ d, owns (c : Thread nD τ) (stg5 t) fullShare ((dat m hw c).before 5 t d))
    ∗ (∃ Y, ⌜((dat m hw c).toRRel mark (leaves6 m hw c)).Finds 6 t Y⌝ ∗ owns (c : Thread nD τ) (stg6 t) fullShare Y)
    ∗ (∃ d, owns (c : Thread nD τ) (stg7 t) fullShare ((dat m hw c).before 7 t d)))

/-- and what it returns. -/
def post (t : Fin cfg0.N) : sProp 𝕄 :=
  iprop((dat m hw c).Φ t.succ ∗ (dat m hw c).owesAt () t.succ
    ∗ (dat m hw c).leaves 0 t
    ∗ (dat m hw c).leaves 1 t
    ∗ (dat m hw c).leaves 2 t
    ∗ (dat m hw c).leaves 3 t
    ∗ (dat m hw c).leaves 4 t
    ∗ (dat m hw c).leaves 5 t
    ∗ (∃ X, ⌜leaves6 m hw c 6 t X⌝ ∗ owns (c : Thread nD τ) (stg6 t) fullShare X)
    ∗ (dat m hw c).leaves 7 t)

set_option maxHeartbeats 4000000 in
/-- The body at the first point. -/
theorem bodyA (t : Fin cfg0.N) (h : t.val = 0) :
    pre m hw c t ⊢ wp frame (wpE (defs₀ (F := F)) Variants.none c none) Set.univ (bodyAt0 t) (fun _ => post m hw c t) := by
  unfold pre post bodyAt0
  simp only [before0, before1, before2, before3, before4]
  rw [show (dat m hw c).owesAt () t.succ = (dat m hw c).owesAt () t.castSucc from rfl]
  rw [show (dat m hw c).Φ t.succ = inv m hw c (t.val + 1) from rfl, show (dat m hw c).Φ t.castSucc = inv m hw c t.val from rfl]
  rw [live0, live1, live2, live3, live4, live5, after0, after1, after2, after3, after4, after5, leaves7_idle m hw c t (by omega)]
  obtain rfl : t = tp 0 := (tp_val t).symm.trans (congrArg tp h)
  rw [show inv m hw c (tp 0).val = Pipeline.ΦA spec0 c from rfl, anyScratch]
  iintro ⟨⟨⟨⟨%ds0, HS0⟩, ⟨%ds1, HS1⟩, ⟨%ds2, HS2⟩, ⟨%ds3, HS3⟩⟩, Hg⟩, Ho, ⟨%d0, H0⟩, ⟨%d1, H1⟩, ⟨%d2, H2⟩, ⟨%d3, H3⟩, ⟨%d4, H4⟩, ⟨%d5, H5⟩, ⟨%Y6, -, H6⟩, ⟨%d7, H7⟩⟩
  have e2 : col 0 (scFirst (grid0.coords (tp 0)) (aM m hw c) (bM m hw c) (blkR m c 0) (blkI m c 0) ds2 (cntInit (trip m c))) = scC m hw c := col_putc_same _ _ _
  have e3 : cntStep (grid0.coords (tp 0)) (aM m hw c) (bM m hw c) (blkR m c 0) (blkI m c 0) (blkL m c 0)
      (scFirst (grid0.coords (tp 0)) (aM m hw c) (bM m hw c) (blkR m c 0) (blkI m c 0) ds2 (cntInit (trip m c)))
      (cntFirst (grid0.coords (tp 0)) (blkL m c 0) (cntInit (trip m c))) = cntAt m hw c (tp 0).val :=
    cntStep_congr _ _ _ _ _ _ _ _ _ (e2.trans (col_scX m hw c).symm)
  have e6 : leaves6 m hw c 6 (tp 0) Y6 := fun h => absurd h (by decide)
  iapply (runA c (grid0.coords (tp 0)) _ _ _ _ _ _ _ _ _ _ _ _ _ _ _ _ _ _ _ _ _ _ _ _ ((at_first (tp 0)).mpr rfl) ((at_first' (tp 0)).mpr rfl) (fun h => absurd ((at_last (tp 0)).mp h) (by decide)) (trip m c) (rels m c) (blkR m c 0) (blkI m c 0) (blkL m c 0) ds0 ds1 ds2 ds3 _ _ (hw c) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · unfold inv
    isplitl [HS0 HS1 HS2 HS3]
    · isplitl [HS0]; · iexact HS0
      isplitl [HS1]; · iexact HS1
      isplitl [HS2]
      · iexists _; isplitr
        swap; · iexact HS2
        ipureintro; exact e2
      rw [← e3]; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact e6
  iexists _; iexact H7

set_option maxHeartbeats 4000000 in
/-- The body at a middle point. -/
theorem bodyB (t : Fin cfg0.N) (h0 : t.val ≠ 0) (h3 : t.val ≠ 3) :
    pre m hw c t ⊢ wp frame (wpE (defs₀ (F := F)) Variants.none c none) Set.univ (bodyAt0 t) (fun _ => post m hw c t) := by
  unfold pre post bodyAt0
  simp only [before0, before1, before2, before3, before4]
  rw [show (dat m hw c).owesAt () t.succ = (dat m hw c).owesAt () t.castSucc from rfl]
  rw [show (dat m hw c).Φ t.succ = inv m hw c (t.val + 1) from rfl, show (dat m hw c).Φ t.castSucc = inv m hw c t.val from rfl]
  rw [live0, live1, live2, live3, live4, live5, after0, after1, after2, after3, after4, after5, leaves7_idle m hw c t h3]
  obtain ⟨n, hn⟩ : ∃ n, t.val = n + 1 := ⟨t.val - 1, by omega⟩
  have ht : tp (n + 1) = t := hn ▸ tp_val t
  rw [show inv m hw c t.val = inv m hw c (n + 1) from congrArg _ hn]
  rw [show inv m hw c (n + 1) = iprop(iprop(owns (c : Thread nD τ) scr0 fullShare (aM m hw c) ∗ owns (c : Thread nD τ) scr1 fullShare (bM m hw c)
      ∗ (∃ x, ⌜col 0 x = scC m hw c⌝ ∗ owns (c : Thread nD τ) scr2 fullShare x) ∗ owns (c : Thread nD τ) scr3 fullShare (cntAt m hw c n)) ∗ (∃ r, prngReg c r)) from rfl]
  iintro ⟨⟨⟨HS0, HS1, ⟨%ds2, %e2, HS2⟩, HS3⟩, Hg⟩, Ho, ⟨%d0, H0⟩, ⟨%d1, H1⟩, ⟨%d2, H2⟩, ⟨%d3, H3⟩, ⟨%d4, H4⟩, ⟨%d5, H5⟩, ⟨%Y6, -, H6⟩, ⟨%d7, H7⟩⟩
  have e3 : cntStep (grid0.coords t) (aM m hw c) (bM m hw c) (iblk m c 2 t) (iblk m c 3 t) (iblk m c 4 t) ds2 (cntAt m hw c n) = cntAt m hw c t.val := by
    rw [hn]
    refine (cntStep_congr _ _ _ _ _ _ _ _ _ (e2.trans (col_scX m hw c).symm)).trans ?_
    rw [← ht]
    rfl
  have e6 : leaves6 m hw c 6 t Y6 := fun h => absurd h h3
  iapply (runB c (grid0.coords t) _ _ _ _ _ _ _ _ _ _ _ _ _ _ _ _ _ _ _ _ _ _ _ _ (fun h => h0 ((at_first t).mp h)) (fun h => h0 ((at_first' t).mp h)) (fun h => h3 ((at_last t).mp h)) (iblk m c 0 t) (iblk m c 1 t) (iblk m c 2 t) (iblk m c 3 t) (iblk m c 4 t) (aM m hw c) (bM m hw c) ds2 (cntAt m hw c n) _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · unfold inv
    isplitl [HS0 HS1 HS2 HS3]
    · isplitl [HS0]; · iexact HS0
      isplitl [HS1]; · iexact HS1
      isplitl [HS2]
      · iexists _; isplitr
        swap; · iexact HS2
        ipureintro; exact e2
      rw [← e3]; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact e6
  iexists _; iexact H7

set_option maxHeartbeats 4000000 in
/-- The body at the last point. -/
theorem bodyC (t : Fin cfg0.N) (h3 : t.val = 3) :
    pre m hw c t ⊢ wp frame (wpE (defs₀ (F := F)) Variants.none c none) Set.univ (bodyAt0 t) (fun _ => post m hw c t) := by
  unfold pre post bodyAt0
  simp only [before0, before1, before2, before3, before4]
  rw [show (dat m hw c).owesAt () t.succ = (dat m hw c).owesAt () t.castSucc from rfl]
  rw [show (dat m hw c).Φ t.succ = inv m hw c (t.val + 1) from rfl, show (dat m hw c).Φ t.castSucc = inv m hw c t.val from rfl]
  rw [live0, live1, live2, live3, live4, live5, after0, after1, after2, after3, after4, after5, leaves7_last m hw c t h3, after7]
  obtain ⟨n, hn⟩ : ∃ n, t.val = n + 1 := ⟨t.val - 1, by omega⟩
  have ht : tp (n + 1) = t := hn ▸ tp_val t
  rw [show inv m hw c t.val = inv m hw c (n + 1) from congrArg _ hn]
  rw [show inv m hw c (n + 1) = iprop(iprop(owns (c : Thread nD τ) scr0 fullShare (aM m hw c) ∗ owns (c : Thread nD τ) scr1 fullShare (bM m hw c)
      ∗ (∃ x, ⌜col 0 x = scC m hw c⌝ ∗ owns (c : Thread nD τ) scr2 fullShare x) ∗ owns (c : Thread nD τ) scr3 fullShare (cntAt m hw c n)) ∗ (∃ r, prngReg c r)) from rfl]
  iintro ⟨⟨⟨HS0, HS1, ⟨%ds2, %e2, HS2⟩, HS3⟩, Hg⟩, Ho, ⟨%d0, H0⟩, ⟨%d1, H1⟩, ⟨%d2, H2⟩, ⟨%d3, H3⟩, ⟨%d4, H4⟩, ⟨%d5, H5⟩, ⟨%Y6, -, H6⟩, ⟨%d7, H7⟩⟩
  have e3 : cntStep (grid0.coords t) (aM m hw c) (bM m hw c) (iblk m c 2 t) (iblk m c 3 t) (iblk m c 4 t) ds2 (cntAt m hw c n) = cntAt m hw c t.val := by
    rw [hn]
    refine (cntStep_congr _ _ _ _ _ _ _ _ _ (e2.trans (col_scX m hw c).symm)).trans ?_
    rw [← ht]
    rfl
  have e6 : leaves6 m hw c 6 t (ranksOut Y6 (cntStep (grid0.coords t) (aM m hw c) (bM m hw c) (iblk m c 2 t) (iblk m c 3 t) (iblk m c 4 t) ds2 (cntAt m hw c n))) :=
    fun _ => ⟨Y6, by rw [e3, h3]⟩
  iapply (runC c (grid0.coords t) _ _ _ _ _ _ _ _ _ _ _ _ _ _ _ _ _ _ _ _ _ _ _ _ (fun h => absurd (((at_first t).mp h).symm.trans h3) (by decide)) (fun h => absurd (((at_first' t).mp h).symm.trans h3) (by decide)) ((at_last t).mpr h3) (iblk m c 0 t) (iblk m c 1 t) (iblk m c 2 t) (iblk m c 3 t) (iblk m c 4 t) (aM m hw c) (bM m hw c) ds2 (cntAt m hw c n) _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · unfold inv
    isplitl [HS0 HS1 HS2 HS3]
    · isplitl [HS0]; · iexact HS0
      isplitl [HS1]; · iexact HS1
      isplitl [HS2]
      · iexists _; isplitr
        swap; · iexact HS2
        ipureintro; exact e2
      rw [← e3]; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact e6
  rw [← e3]; iexact H7

/-- The body table's row at a point is the body as the run spells it. -/
theorem body_row (t : Fin cfg0.N) : defs₀ (F := F) .tc cfg0.body (cfg0.bodyArgs t (cfg0.slots t)) = bodyAt0 t := by
  unfold defs₀; rw [Defs.onTc_tc]

/-- The body obligation. -/
theorem obligation : (rdat m hw c).BodyObligation (defs₀ (F := F)) Variants.none () Set.univ :=
  Pipeline.BodyObligationRel.toRRel (dat m hw c) fun t => by
    rw [bigSep_W0, bigSep_W0, body_row]
    refine triple_restated (P := pre m hw c t) (Q := fun _ => post m hw c t) ?_ rfl .rfl fun _ => .rfl
    by_cases h0 : t.val = 0
    · exact bodyA m hw c t h0
    · by_cases h3 : t.val = 3
      · exact bodyC m hw c t h3
      · exact bodyB m hw c t h0 h3

/-- What the launch hands the region is the invariant before the first point. -/
theorem inv_in : Pipeline.ΦA spec0 c ⊢ (rdat m hw c).Φ 0 := Idealize.SL.BI.Entails.refl _

/-- After the last point the scratch's contents are forgotten. -/
theorem inv_out : (rdat m hw c).Φ (Fin.last cfg0.N) ⊢ Pipeline.ΦA spec0 c := by
  rw [show (rdat m hw c).Φ (Fin.last cfg0.N) = inv m hw c (3 + 1) from congrArg (inv m hw c) ((Fin.val_last _).trans N_0), anyScratch]
  unfold inv
  iintro ⟨⟨HS0, HS1, ⟨%x, -, HS2⟩, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

end Cert.KernelIdeal.Body

end
-- ==== Proof.Run.lean ====
module

public import proofs.«01_k».proof.Proof.Around
public import proofs.«01_k».proof.Proof.Body

@[expose] public section

set_option maxRecDepth 16384

noncomputable section

/-! The launch: the kernel's run from any memory, and its frame. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- What a final state holds on core `c`. -/
def Final (hw : InRange m) (c : Dev nD) (mem : (ℓ : Loc nD τ sig) → Buf (Elt F) ℓ) : Prop :=
  (∀ w, (rdat m hw c).ArrAt w cfg0.N (mem ((cfg0.spec w).arr.view.loc (c.tc : Thread nD τ))))
    ∧ Around.Ends (rdat m hw c) (V0 m c) (List.flatten [hostOps1]) (Pipeline.restRefsP sig Pipeline.Prefetch.none cfg0.spec)
        fun b => mem ((c.tc : Thread nD τ).loc b)

set_option backward.isDefEq.respectTransparency.types false in
set_option maxHeartbeats 800000 in
/-- Every run ends, at `Final` on every core and every counter at zero. -/
theorem run (hw : InRange m) : θ_run defs (onTc (τ := τ) (main (F := F))) (s₀ m ρ) fun r =>
    (∀ c : Dev nD, Final m hw c r.2.mem) ∧ r.2.sem = fun _ => 0 :=
  Around.launch (fun q => (cfgs q).toPCfg (Val := Elt F)) (fun q => (cfgs q).toPCfg_adm) (0 : Fin 1) launch0.toP defs₀ Variants.none
    (rdat m hw) (V0 m) [hostOps1] m ρ main
    (hbody := fun c => obligation m hw c) (hshare := fun c => (dat m hw c).share_full fun _ => rfl)
    (howed := fun _ _ => rfl) (hsub := sfx_sub) (hfresh := sfx_fresh) (hkeep := sfx_keeps)
    (hmain := hmain m Variants.none) (hA := dat_A m hw) (hpf := fun _ k => k.elim0)
    (hin := fun c => (show _ ⊢ Pipeline.ΦA spec0 c from by iintro ⟨H, -⟩; iexact H).trans (inv_in m hw c)) (hout := inv_out m hw)

/-- A buffer that is no window's array bypasses the region. -/
theorem bypasses (b : Ref sig .tc) (h : b ∈ Pipeline.restRefs sig spec0) : b ∈ Pipeline.restRefsP sig Pipeline.Prefetch.none cfg0.spec := by
  refine Finset.mem_sdiff.mpr ⟨h, fun h' => ?_⟩
  obtain ⟨k, -, -⟩ := Finset.mem_image.mp h'
  exact k.elim0

/-- The host lines write none of the buffers that hold the arguments. -/
theorem left_unchanged (c : Dev nD) (A : (w : Fin cfg0.W) → Buf (Elt F) ((cfg0.win w).arr.view.loc (c.tc : Thread nD τ)))
    (b : Ref sig .tc) (h : ∀ x ∈ ([main_v8, main_v9, main_v10, main_v11, main_v12, main_v13] : List (Ref sig .tc)), b ≠ x)
    (hb : ∀ w, Pipeline.arrRef spec0 w ≠ b) :
    StableHlo.after (List.flatten [hostOps1]) (Pipeline.withArrays spec0 c (V0 m c) A) (Proc.devRef .tc b) = V m c b := by
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, StableHlo.reshape_writes, Finset.mem_singleton]
      repeat' apply And.intro
      all_goals exact StableHlo.devRef_ne_of_ne (h _ (by decide)))),
    Pipeline.withArrays_of_ne _ c (V0 m c) _ b hb]

/-- A final state has the arguments as launched. -/
theorem kept (hw : InRange m) (c : Dev nD) (mem : (ℓ : Loc nD τ sig) → Buf (Elt F) ℓ) (h : Final m hw c mem) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7) := by
  obtain ⟨hA, A, -, hr⟩ := h
  have inp : ∀ w, (cfg0.win w).isOut = false → mem ((cfg0.spec w).arr.view.loc (c.tc : Thread nD τ)) = (rdat m hw c).A w := fun w hw' => by
    have := hA w
    rw [(rdat m hw c).ArrAt_in w hw' cfg0.N] at this
    exact this
  have byp : ∀ b : Ref sig .tc, b ∈ Pipeline.restRefs sig spec0 →
      (∀ x ∈ ([main_v8, main_v9, main_v10, main_v11, main_v12, main_v13] : List (Ref sig .tc)), b ≠ x) →
      (∀ w, Pipeline.arrRef spec0 w ≠ b) → mem ((c.tc : Thread nD τ).loc b) = V m c b := fun b h1 h2 h3 =>
    (hr b (bypasses b h1)).trans (left_unchanged m c A b h2 h3)
  exact ⟨(inp 0 rfl).trans ((dat_A m hw c 0).trans (V_main_arg0 m c)),
    (byp main_arg1 (Pipeline.mem_restRefs_of main_arg1 (by decide) (by decide)) (by decide) (by decide)).trans (V_main_arg1 m c),
    (byp main_arg2 (Pipeline.mem_restRefs_of main_arg2 (by decide) (by decide)) (by decide) (by decide)).trans (V_main_arg2 m c),
    (byp main_arg3 (Pipeline.mem_restRefs_of main_arg3 (by decide) (by decide)) (by decide) (by decide)).trans (V_main_arg3 m c),
    (inp 2 rfl).trans ((dat_A m hw c 2).trans (V_main_arg4 m c)),
    (inp 3 rfl).trans ((dat_A m hw c 3).trans (V_main_arg5 m c)),
    (byp main_arg6 (Pipeline.mem_restRefs_of main_arg6 (by decide) (by decide)) (by decide) (by decide)).trans (V_main_arg6 m c),
    (byp main_arg7 (Pipeline.mem_restRefs_of main_arg7 (by decide) (by decide)) (by decide) (by decide)).trans (V_main_arg7 m c)⟩

/-- The frame: every argument keeps its contents. -/
theorem frame (hw : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => kept m hw c _ (h.1 c), h.2⟩) (run m ρ hw)

end Cert.KernelIdeal.Body

end
-- ==== Proof.Kern.lean ====
module

public import proofs.«01_k».proof.Proof.Run
public import proofs.«01_k».proof.Proof.Gen.Kernel.Frame

@[expose] public section

set_option maxRecDepth 16384
set_option maxHeartbeats 4000000
set_option backward.isDefEq.respectTransparency.types false
set_option backward.isDefEq.respectTransparency false

noncomputable section

/-! The kernel before idealization is, name for name, the idealized one: no operation was rewritten. Its run is the other's. -/

namespace Cert.Kern

open Idealize.ShloMosaic Idealize.ShloMosaic.TcCoe Idealize.SL.Sem

variable {F : FTy → Type} [FloatOps F]

attribute [local instance] Cert.Kernel.Gen.facts Cert.KernelIdeal.Gen.facts

theorem sig_eq : Cert.Kernel.sig = Cert.KernelIdeal.sig := rfl

theorem defs₀_eq : Cert.Kernel.defs₀ (F := F) = Cert.KernelIdeal.defs₀ (F := F) := by
  unfold Cert.Kernel.defs₀ Cert.KernelIdeal.defs₀
  refine congrArg _ ?_
  funext l a
  match l, a with
  | 0, (t, s) => rfl

theorem defs_eq : Cert.Kernel.defs (F := F) = Cert.KernelIdeal.defs (F := F) := by
  unfold Cert.Kernel.defs Cert.KernelIdeal.defs
  rw [defs₀_eq]
  rfl

theorem main_eq : Cert.Kernel.main (F := F) = Cert.KernelIdeal.main (F := F) := rfl

theorem transfer {D D' : Defs Cert.KernelIdeal.nD Cert.KernelIdeal.τ Cert.KernelIdeal.sig (Elt F) (Pipeline.Sig Cert.KernelIdeal.Λ₀ (Fin 1) fun p => (Cert.KernelIdeal.pcfgs (F := F) p).Adm)}
    (h : D = D') {p s Q} (hr : θ_run D' p s Q) : θ_run D p s Q := h ▸ hr

open Cert.Kernel in
/-- The frame: every argument keeps its contents. -/
theorem frame (m : (ℓ : Loc nD τ sig) → Buf (Elt F) ℓ) (ρ : Dev nD → PrngReg) (hw : Cert.KernelIdeal.Body.InRange (F := F) m) :
    θ_run (Cert.Kernel.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  transfer defs_eq (Cert.KernelIdeal.Body.frame (F := F) m ρ hw)

end Cert.Kern

end
-- ==== Proof.Pre.lean ====
module

public import proofs.«01_k».proof.Proof.Body
public import proofs.«01_k».proof.Pre_rows_in_range
public import Idealize.ShloMosaic.Lib.ValueIdxCore

@[expose] public section

set_option maxRecDepth 16384

noncomputable section

/-! What the precondition says of the arguments. -/

namespace Cert.Pre

open Idealize.ShloMosaic Idealize.ShloMosaic.TcCoe Idealize.ShloMosaic.ValueIdx

theorem facts : Cert.Pre_rows_in_range.Facts where
  bcast_S_S16x3 := by decide

attribute [local instance] facts

/-- A word between 0 and 500, the ends as the comparisons take them. -/
theorem word_lt (x : BitVec 32) (h : IntOp.andi (IntOp.cmpi .sge x 0#32) (IntOp.cmpi .slt x 500#32) = 1#1) : x.toNat < 500 := by
  have key : ∀ p q : Bool, BitVec.ofBool p &&& BitVec.ofBool q = 1#1 → p = true ∧ q = true := by decide
  obtain ⟨h1, h2⟩ := key _ _ h
  simp only [BitVec.sle, BitVec.slt, decide_eq_true_eq] at h1 h2
  rw [BitVec.toInt_eq_toNat_cond x] at h1 h2
  rw [show (0#32 : BitVec 32).toInt = 0 from rfl] at h1
  rw [show (500#32 : BitVec 32).toInt = 500 from rfl] at h2
  split at h1 <;> omega

/-- Every entry of the triples names a row. -/
abbrev Small (x : IVec Cert.Pre_rows_in_range.S16x3 32) : Prop := ∀ y, BitVec.toNat (w := 32) (x y) < 500

variable {F : FTy → Type} [FloatOps F]

theorem small {x0 : IVec Cert.Pre_rows_in_range.S16x3 32} {x1 x2 x3 x4 x5 x6 x7}
    (h : Cert.Pre_rows_in_range.fn (F := F) x0 x1 x2 x3 x4 x5 x6 x7 = fun _ => 1#1) : Small x0 := fun y => by
  have h := congrFun h y
  simp only [Cert.Pre_rows_in_range.fn, andi, cmpi, broadcastInDim, constantI] at h
  exact word_lt _ h

open Cert.KernelIdeal Cert.KernelIdeal.Gen Cert.KernelIdeal.Body in
/-- So the first point finds only row numbers. -/
theorem inRange (m : (ℓ : Loc nD τ sig) → Buf (Elt F) ℓ) (h : ∀ c : Dev nD, Small (m ((c.tc : Thread nD τ).loc main_arg0))) : InRange (F := F) m := fun c y => by
  have := V_main_arg0 (F := F) m c
  show BitVec.toNat (w := 32) (V m c main_arg0 (((cfg0.win 0).blk (tp 0)).view.emb y)) < 500
  rw [this]
  exact h c _

end Cert.Pre

end
-- ==== Proof.Rank.lean ====
module

public import proofs.«01_k».proof.ReferenceIdeal
public import Idealize.ShloMosaic.Lib.SortPrefix
public import Idealize.ShloMosaic.Lib.ValueIdxCore
public import Idealize.ShloMosaic.PureOps.Ideal
public import Idealize.ShloMosaic.PureOps.Reduce
public import Idealize.ShloMosaic.Lib.Pipeline.Value

@[expose] public section

set_option maxRecDepth 16384

noncomputable section

/-! A candidate's rank: the place it takes in a stable descending sort of the scores is the number of candidates
    ahead of it, a candidate being ahead when its score is higher, or equal with a lower index. -/

namespace Cert.Rank

open Idealize.ShloMosaic Idealize.ShloMosaic.ValueIdx

variable {n : ℕ}

/-- Candidate `k` is ahead of candidate `k'`. -/
def ahead (x : Fin n → EReal) (k k' : Fin n) : Bool :=
  decide (x k' < x k) || (decide (x k = x k') && decide (k < k'))

theorem ahead_total (x : Fin n → EReal) : StrictTotalBefore (ahead x) :=
  StrictTotalBefore.of_key_then_position (fun a b => decide (b < a)) x (fun a => by simp)
    (fun a b c h h' => by simp only [decide_eq_true_eq] at h h' ⊢; exact h'.trans h)
    (fun a b => by
      simp only [decide_eq_true_eq]
      rcases lt_trichotomy a b with h | h | h
      · exact Or.inr (Or.inr h)
      · exact Or.inr (Or.inl h)
      · exact Or.inl h)

/-- Two comparators that agree on what the insertions ask sort alike. -/
theorem stableSort_eq {ι : Type} (R B : ι → ι → Bool) (l : List ι) (h : l.Pairwise fun a b => R b a = B b a) :
    stableSort R l = stableSort B l := by
  induction l with
  | nil => rfl
  | cons a l ih =>
    rw [List.pairwise_cons] at h
    unfold stableSort
    rw [ih h.2]
    exact insertBefore_congr R B a _ fun b hb => h.1 b ((perm_stableSort B l).mem_iff.mp hb)

/-- The stable sort by the score alone is the sort by the score and then the index. -/
theorem sortedFrom_ahead (x : Fin n → EReal) (R : Fin n → Fin n → Bool) (hR : ∀ k k', R k k' = decide (x k' < x k)) :
    sortedFrom R = sortedFrom (ahead x) := by
  have h : sortPositions n R = sortPositions n (ahead x) := by
    refine stableSort_eq R (ahead x) _ ((List.pairwise_lt_finRange n).imp fun {a b} hab => ?_)
    rw [hR]
    unfold ahead
    simp [not_lt.mpr hab.le]
  funext k
  unfold sortedFrom
  rw [List.get_of_eq h]
  rfl

theorem ahead_sortedFrom (x : Fin n → EReal) (i j : Fin n) :
    ahead x (sortedFrom (ahead x) i) (sortedFrom (ahead x) j) = decide (i < j) := by
  have key : ∀ i j : Fin n, i < j → ahead x (sortedFrom (ahead x) i) (sortedFrom (ahead x) j) = true := fun i j hij => by
    have hno := sortedFrom_noInversion (ahead x) (ahead x) (fun a b h => (ahead_total x).asymm _ _ h)
      (fun a b h => h) (fun a b c h h' => (ahead_total x).negTrans _ _ _ h h') i j hij
    rcases (ahead_total x).total _ _ (fun e => hij.ne (sortedFrom_injective (ahead x) e)) with h | h
    · exact h
    · rw [hno] at h; exact absurd h (by decide)
  rcases lt_trichotomy i j with h | h | h
  · rw [key i j h, decide_eq_true h]
  · subst h; rw [(ahead_total x).irrefl]; simp
  · rw [(ahead_total x).asymm _ _ (key j i h)]; simp [h.le]

/-- How many candidates are ahead of `c`. -/
def above (x : Fin n → EReal) (c : Fin n) : ℕ := (Finset.univ.filter fun k => ahead x k c = true).card

theorem above_sortedFrom (x : Fin n → EReal) (p : Fin n) : above x (sortedFrom (ahead x) p) = p.val := by
  have h : (Finset.univ.filter fun k => ahead x k (sortedFrom (ahead x) p) = true)
      = (Finset.Iio p).image (sortedFrom (ahead x)) := by
    ext k
    obtain ⟨i, rfl⟩ := sortedFrom_surjective (ahead x) k
    simp only [Finset.mem_filter, Finset.mem_univ, true_and, ahead_sortedFrom, decide_eq_true_eq, Finset.mem_image,
      Finset.mem_Iio]
    exact ⟨fun h => ⟨i, h, rfl⟩, fun ⟨i', h, e⟩ => sortedFrom_injective (ahead x) e ▸ h⟩
  unfold above
  rw [h, Finset.card_image_of_injective _ (sortedFrom_injective (ahead x)), Fin.card_Iio]

/-- The position at which the sorted order holds `c`. -/
theorem sortedFrom_eq_iff (x : Fin n → EReal) (p c : Fin n) : sortedFrom (ahead x) p = c ↔ p.val = above x c := by
  constructor
  · rintro rfl; exact (above_sortedFrom x p).symm
  · intro h
    obtain ⟨q, rfl⟩ := sortedFrom_surjective (ahead x) c
    rw [above_sortedFrom] at h
    rw [Fin.ext h]

theorem above_lt (x : Fin n → EReal) (c : Fin n) : above x c < n := by
  obtain ⟨q, rfl⟩ := sortedFrom_surjective (ahead x) c
  rw [above_sortedFrom]; exact q.isLt

/-! The search for the first set flag. -/

open Cert.ReferenceIdeal in
theorem argmax_found_clear (p q : BitVec 32) : reducer_argmax_i1_i32 (1#1, p) (0#1, q) = (1#1, p) := by
  simp [reducer_argmax_i1_i32, IntOp.cmpi, IntOp.ori, IntOp.andi, Scalar.select]

open Cert.ReferenceIdeal in
theorem argmax_found_set (p : BitVec 32) : reducer_argmax_i1_i32 (1#1, p) (1#1, p) = (1#1, p) := by
  simp [reducer_argmax_i1_i32, IntOp.cmpi, IntOp.ori, IntOp.andi, Scalar.select]

open Cert.ReferenceIdeal in
theorem argmax_none_set (p : BitVec 32) : reducer_argmax_i1_i32 (0#1, 0#32) (1#1, p) = (1#1, p) := by
  simp [reducer_argmax_i1_i32, IntOp.cmpi, IntOp.ori, IntOp.andi, Scalar.select]

open Cert.ReferenceIdeal in
theorem argmax_none_clear (q : BitVec 32) (hq : q.toNat < 32768) :
    reducer_argmax_i1_i32 (0#1, 0#32) (0#1, q) = (0#1, 0#32) := by
  by_cases h : q = 0#32
  · subst h; rfl
  · have : BitVec.slt 0#32 q = true := by
      have hn : q.toNat ≠ 0 := fun e => h (BitVec.eq_of_toNat_eq e)
      simp only [BitVec.slt, decide_eq_true_eq]
      rw [BitVec.toInt_eq_toNat_cond q]
      simp only [BitVec.toInt_zero]
      split <;> omega
    simp [reducer_argmax_i1_i32, IntOp.cmpi, this, IntOp.ori, IntOp.andi, Scalar.select]

open Cert.ReferenceIdeal in
/-- The fold, when the entries are clear but for those at `p`. -/
theorem foldl_argmax {ι : Type} (f : ι → BitVec 1 × BitVec 32) (p : BitVec 32) (l : List ι)
    (hf : ∀ i ∈ l, (∃ q : BitVec 32, q.toNat < 32768 ∧ f i = (0#1, q)) ∨ f i = (1#1, p)) :
    l.foldl (fun r i => reducer_argmax_i1_i32 r (f i)) (1#1, p) = (1#1, p)
    ∧ ((∃ i ∈ l, f i = (1#1, p)) → l.foldl (fun r i => reducer_argmax_i1_i32 r (f i)) (0#1, 0#32) = (1#1, p)) := by
  induction l with
  | nil => exact ⟨rfl, fun ⟨i, hi, _⟩ => absurd hi (by simp)⟩
  | cons a l ih =>
    obtain ⟨h1, h2⟩ := ih fun i hi => hf i (List.mem_cons_of_mem _ hi)
    rw [List.foldl_cons, List.foldl_cons]
    rcases hf a (List.mem_cons_self ..) with ⟨q, hq, e⟩ | e
    · rw [e, argmax_found_clear, argmax_none_clear q hq]
      refine ⟨h1, fun ⟨i, hi, hp⟩ => h2 ⟨i, ?_, hp⟩⟩
      rcases List.mem_cons.mp hi with rfl | hi
      · rw [e] at hp; exact absurd (congrArg Prod.fst hp) (by decide : ¬ (0#1 : BitVec 1) = 1#1)
      · exact hi
    · rw [e, argmax_found_set, argmax_none_set]
      exact ⟨h1, fun _ => h1⟩

section
open Cert.ReferenceIdeal Cert.ReferenceIdeal.Facts₀
variable [Cert.ReferenceIdeal.Facts]

/-- The ranks the reference computes of the scores `s` and the candidates `tail`. -/
def rankRef (s : FVec Ideal S16x32768 .f32) (tail : IVec S16 32) : IVec S16 32 :=
  addi (fun j => (Host.reduce2 reducer_argmax_i1_i32
      (cmpi .eq (Host.topK S16x32768 1 (FloatOps.cmpfTotal .gt) s sliceFits_S16x32768_S16x32768).2
        (broadcastInDim S16x32768 ![0, 1] bcast_S16x1_S16x32768_0_1 (broadcastInDim S16x1 ![0] bcast_S16_S16x1_0 tail)))
      (iotaInDim S16x32768 32 1) (constantI S_ 1 0#1) (constantI S_ 32 0#32) reducesTo_S16x32768_S16_d1 h_S_ j).2)
    (broadcastInDim S16 ![] bcast_S_S16 (constantI S_ 32 1#32))

/-- The row of scores of one query. -/
def row (s : FVec Ideal S16x32768 .f32) (b : Fin 16) : Fin 32768 → EReal := fun k => s (ix2 b k)

theorem sortBy_apply (s : Shape) (d : ℕ) (hd : d < s.rank) {ι α : Type} (cmp : ι → ι → BitVec 1) (rows : s.Idx → ι) (x : s.Idx → α)
    (j : s.Idx) : Host.sortBy s d cmp rows x j = x (j.along ⟨d, hd⟩
      (sortedFrom (fun k k' => cmp (rows (j.along ⟨d, hd⟩ k)) (rows (j.along ⟨d, hd⟩ k')) == 1#1) (j ⟨d, hd⟩))) := by
  unfold Host.sortBy
  rw [dif_pos hd]

theorem along_ix2 (b : Fin 16) (k k' : Fin 32768) :
    Shape.Idx.along (s := S16x32768) (ix2 b k) (1 : Fin 2) k' = ix2 b k' := by
  funext a
  match a with
  | ⟨0, _⟩ => rfl
  | ⟨1, _⟩ => rfl

/-- The candidate the sorted order holds at place `k`. -/
theorem topK_apply (s : FVec Ideal S16x32768 .f32) (b : Fin 16) (k : Fin 32768) :
    (Host.topK S16x32768 1 (FloatOps.cmpfTotal .gt) s sliceFits_S16x32768_S16x32768).2 (ix2 b k)
      = BitVec.ofNat 32 (sortedFrom (ahead (row s b)) k).val := by
  unfold Host.topK
  simp only []
  rw [Host.sort2_eq_sortBy]
  refine (extractStridedSlice_apply _ _ _ _ (ix2 b k) (fun a => (Nat.zero_add _).symm)).trans ?_
  dsimp only
  refine (sortBy_apply S16x32768 1 (by decide) _ _ _ _).trans ?_
  refine (congrArg (fun i : S16x32768.Idx => BitVec.ofNat 32 (i 1).val) (along_ix2 b k _)).trans ?_
  refine congrArg (fun m : Fin 32768 => BitVec.ofNat 32 m.val) ?_
  refine congrFun ((sortedFrom_ahead (row s b) _ fun l l' => ?_)) k
  have e : ∀ l : Fin 32768, s (Shape.Idx.along (s := S16x32768) (ix2 b k) (1 : Fin 2) l) = row s b l :=
    fun l => congrArg s (along_ix2 b k l)
  refine (congrArg₂ (fun u v : Ideal .f32 => FloatOps.cmpfTotal (F := Ideal) (φ := .f32) .gt u v == 1#1) (e l) (e l')).trans ?_
  show (BitVec.ofBool (decide (row s b l' < row s b l)) == 1#1) = _
  cases decide (row s b l' < row s b l) <;> rfl

/-- The reference's rank of candidate `c`: one more than the number of candidates ahead of it. -/
theorem rankRef_apply (s : FVec Ideal S16x32768 .f32) (tail : IVec S16 32) (b : Fin 16) (c : Fin 32768)
    (hc : tail (ix1 b) = BitVec.ofNat 32 c.val) :
    rankRef s tail (ix1 b) = BitVec.ofNat 32 (above (row s b) c) + 1#32 := by
  have hlt := above_lt (row s b) c
  have hentry : ∀ k : Fin 32768,
      cmpi .eq (Host.topK S16x32768 1 (FloatOps.cmpfTotal .gt) s sliceFits_S16x32768_S16x32768).2
        (broadcastInDim S16x32768 ![0, 1] bcast_S16x1_S16x32768_0_1 (broadcastInDim S16x1 ![0] bcast_S16_S16x1_0 tail)) (ix2 b k)
      = BitVec.ofBool (decide (k.val = above (row s b) c)) := fun k => by
    show IntOp.cmpi .eq (_ : BitVec 32) _ = _
    rw [topK_apply, broadcastInDim_apply _ _ _ _ (ix2 b (0 : Fin 1)) (fun a => by match a with | ⟨0, _⟩ => rfl | ⟨1, _⟩ => rfl),
      broadcastInDim_apply _ _ _ _ (ix1 b) (fun a => by match a with | ⟨0, _⟩ => rfl), hc]
    refine congrArg BitVec.ofBool ?_
    have h1 := (sortedFrom (ahead (row s b)) k).isLt
    have h2 := c.isLt
    rw [Bool.eq_iff_iff, beq_iff_eq, decide_eq_true_eq, ← sortedFrom_eq_iff, ← BitVec.toNat_inj, Fin.ext_iff]
    rw [BitVec.toNat_ofNat, BitVec.toNat_ofNat, Nat.mod_eq_of_lt (by omega), Nat.mod_eq_of_lt (by omega)]
  generalize above (row s b) c = r at hentry hlt ⊢
  have hfold := (foldl_argmax
    (fun n : Fin S16x32768.numel =>
      (cmpi .eq (Host.topK S16x32768 1 (FloatOps.cmpfTotal .gt) s sliceFits_S16x32768_S16x32768).2
        (broadcastInDim S16x32768 ![0, 1] bcast_S16x1_S16x32768_0_1 (broadcastInDim S16x1 ![0] bcast_S16_S16x1_0 tail))
          (S16x32768.rowMajor.symm n), iotaInDim S16x32768 32 1 (S16x32768.rowMajor.symm n)))
    (BitVec.ofNat 32 (r))
    ((List.finRange S16x32768.numel).filter fun n =>
      reducesTo_S16x32768_S16_d1.drop (S16x32768.rowMajor.symm n) = ix1 b) (fun n hn => ?_)).2 ?_
  · show (Prod.snd (Host.reduce2 _ _ _ _ _ _ _ _)) + _ = _
    unfold Host.reduce2
    refine congrArg₂ (· + ·) ((congrArg Prod.snd hfold).trans rfl) rfl
  · obtain ⟨k, hk⟩ : ∃ k : Fin 32768, S16x32768.rowMajor.symm n = ix2 b k := by
      have h := of_decide_eq_true (List.mem_filter.mp hn).2
      refine ⟨(S16x32768.rowMajor.symm n) 1, ?_⟩
      refine (eq_ix2 _).trans ?_
      congr 1
      have h0 := congrArg Fin.val (congrFun h 0)
      rw [Shape.ReducesTo.drop_apply_val_of_eq _ _ _ (0 : Fin 2)] at h0
      exact Fin.ext h0
    have h2 := k.isLt
    simp only [hk]
    rw [hentry]
    by_cases h : k.val = r
    · right; rw [decide_eq_true h, ← h]; rfl
    · left
      exact ⟨BitVec.ofNat 32 k.val, by rw [BitVec.toNat_ofNat]; omega, by rw [decide_eq_false h]; rfl⟩
  · refine ⟨S16x32768.rowMajor (ix2 b ⟨r, hlt⟩), List.mem_filter.mpr ⟨List.mem_finRange _, ?_⟩, ?_⟩
    · rw [Equiv.symm_apply_apply]
      refine decide_eq_true (funext fun a => ?_)
      obtain rfl : a = (0 : Fin 1) := Subsingleton.elim (α := Fin 1) _ _
      refine Fin.ext ?_
      rw [Shape.ReducesTo.drop_apply_val_of_eq _ _ _ (0 : Fin 2)]
    · simp only [Equiv.symm_apply_apply]
      rw [hentry]
      simp only [decide_true]
      rfl

end

end Cert.Rank
-- ==== Proof.KerVal.lean ====
module

public import proofs.«01_k».proof.Proof.Steps
public import proofs.«01_k».proof.Proof.Rank
public import Idealize.ShloMosaic.Lib.Pointwise
public import Idealize.ShloMosaic.Lib.IndicatorCount

@[expose] public section

set_option maxRecDepth 16384

noncomputable section

/-! What the kernel's payloads compute, element by element, over the extended reals. -/

namespace Cert.KernelIdeal.Val

open Idealize.ShloMosaic Idealize.ShloMosaic.IndicatorCount
open Cert.KernelIdeal Cert.KernelIdeal.Gen Cert.KernelIdeal.Body

theorem ofBits_ninf : Ideal.ofBits .f32 0xFF800000#32 = ⊥ := by
  simp [Ideal.ofBits, Ideal.ieee]

theorem sB_apply (a b : Vec Ideal S16x64 .f32) (nr ni : Vec Ideal S8192x64 .f32) (j : S16x8192.Idx) :
    sB a b nr ni j = (∑ d : Fin 64, a (ix2 (j 0) d) * nr (ix2 (j 1) d)) + ∑ d : Fin 64, b (ix2 (j 0) d) * ni (ix2 (j 1) d) := by
  unfold sB
  pointwise [k0_pay119]

theorem pay121_apply (lab : Vec Ideal S16x8192 .i8) (j : S16x8192.Idx) :
    k0_pay121 lab j = IntOp.cmpi .ne (IntOp.andi (lab j) 1#8) 0#8 := by
  pointwise [k0_pay121, k0_pay120]

theorem pay122_apply (lab : Vec Ideal S16x8192 .i8) (j : S16x8192.Idx) :
    k0_pay122 lab j = IntOp.cmpi .ne (lab j) 0#8 := by
  pointwise [k0_pay122, k0_pay120]

theorem fB_apply (a b : Vec Ideal S16x64 .f32) (nr ni : Vec Ideal S8192x64 .f32) (lab : Vec Ideal S16x8192 .i8) (j : S16x8192.Idx) :
    fB a b nr ni lab j = if k0_pay121 lab j = 1#1 then ⊥ else sB a b nr ni j := by
  rw [← ofBits_ninf]
  rfl

theorem tfB_apply (a b : Vec Ideal S16x64 .f32) (nr ni : Vec Ideal S8192x64 .f32) (lab : Vec Ideal S16x8192 .i8) (j : S16x8192.Idx) :
    tfB a b nr ni lab j = if k0_pay122 lab j = 1#1 then ⊥ else sB a b nr ni j := by
  rw [← ofBits_ninf]
  rfl

theorem col_index (i : grid0.Coords) (b : Fin 16) (k : Fin 8192) :
    k0_pay126 i (ix2 b k) = BitVec.ofNat 32 (8192 * (i 0).val + k.val) := by
  pointwise [k0_pay126]
  show BitVec.ofNat 32 (i 0).val * 8192#32 + BitVec.ofNat 32 k.val = _
  rw [Nat.mul_comm, BitVec.ofNat_add, BitVec.ofNat_mul]

theorem threshold (w : BitVec 32) (s v : EReal) :
    (if w = 0#32 then s else v) = Scalar.select (IntOp.cmpi .ne w 0#32) v s := by
  by_cases h : w = 0#32
  · subst h; rfl
  · have e : (w != 0#32) = true := by simpa using h
    rw [if_neg h]
    simp [e, IntOp.cmpi, Scalar.select]

/-- The bit that the column of number `n` is ahead, its score `x`, of column `c`, its score `s`. -/
def aheadBit (x s : EReal) (n c : BitVec 32) : BitVec 1 :=
  IntOp.ori (Ideal.cmp .ogt x s) (IntOp.andi (Ideal.cmp .oeq x s) (IntOp.cmpi .slt n c))

/-- How many columns of a block are ahead. -/
def aheadIn (x : Fin 8192 → EReal) (s : EReal) (n : Fin 8192 → BitVec 32) (c : BitVec 32) : ℕ :=
  (Finset.univ.filter fun k : Fin 8192 => aheadBit (x k) s (n k) c = 1#1).card

section
variable (i : grid0.Coords) (a b : Vec Ideal S16x64 .f32) (nr ni : Vec Ideal S8192x64 .f32) (lab : Vec Ideal S16x8192 .i8)
  (s : Vec Ideal S16x1 .f32) (c8 n9 n : Vec Ideal S16x1 .i32) (q : Fin 16)

theorem next0_apply :
    next0 i a b nr ni s c8 n (ix2 q 0) = n (ix2 q 0) + BitVec.ofNat 32 (aheadIn (fun k => sB a b nr ni (ix2 q k)) (s (ix2 q 0))
      (fun k => k0_pay126 i (ix2 q k)) (c8 (ix2 q 0))) := by
  unfold aheadIn
  rw [← fold_addi_setWidth_eq_card]
  unfold next0 aheadBit
  pointwise [k0_pay133, k0_pay127]
  rfl

theorem next1_apply :
    next1 i a b nr ni lab s c8 n9 n (ix2 q 0) = n (ix2 q 0) + BitVec.ofNat 32 (aheadIn (fun k => fB a b nr ni lab (ix2 q k))
      (if n9 (ix2 q 0) = 0#32 then s (ix2 q 0) else ⊥) (fun k => k0_pay126 i (ix2 q k)) (c8 (ix2 q 0))) := by
  unfold aheadIn
  rw [← fold_addi_setWidth_eq_card, ← ofBits_ninf, threshold]
  unfold next1 aheadBit
  pointwise [k0_pay1, k0_pay134, k0_pay127]
  rfl

theorem next2_apply :
    next2 i a b nr ni lab s c8 n9 n (ix2 q 0) = n (ix2 q 0) + BitVec.ofNat 32 (aheadIn (fun k => tfB a b nr ni lab (ix2 q k))
      (if n9 (ix2 q 0) = 0#32 then s (ix2 q 0) else ⊥) (fun k => k0_pay126 i (ix2 q k)) (c8 (ix2 q 0))) := by
  unfold aheadIn
  rw [← fold_addi_setWidth_eq_card, ← ofBits_ninf, threshold]
  unfold next2 aheadBit
  pointwise [k0_pay2, k0_pay132, k0_pay127]
  rfl

theorem maskT_apply :
    maskT i lab c8 (ix2 q 0) = BitVec.ofNat 32 (Finset.univ.filter fun k : Fin 8192 =>
      IntOp.andi (IntOp.cmpi .eq (k0_pay126 i (ix2 q k)) (c8 (ix2 q 0))) (k0_pay121 lab (ix2 q k)) = 1#1).card := by
  rw [← fold_addi_setWidth_eq_card]
  unfold maskT
  pointwise [k0_pay130, k0_pay128]

theorem maskF_apply :
    maskF i lab c8 (ix2 q 0) = BitVec.ofNat 32 (Finset.univ.filter fun k : Fin 8192 =>
      IntOp.andi (IntOp.cmpi .eq (k0_pay126 i (ix2 q k)) (c8 (ix2 q 0))) (k0_pay122 lab (ix2 q k)) = 1#1).card := by
  rw [← fold_addi_setWidth_eq_card]
  unfold maskF
  pointwise [k0_pay131, k0_pay128]

theorem scoreC_apply :
    scoreC i a b nr ni c8 (ix2 q 0) = Finset.univ.fold max ⊥ fun k : Fin 8192 =>
      if IntOp.cmpi .eq (k0_pay126 i (ix2 q k)) (c8 (ix2 q 0)) = 1#1 then sB a b nr ni (ix2 q k) else ⊥ := by
  rw [← ofBits_ninf]
  unfold scoreC
  pointwise [k0_pay129, k0_pay128]
  rfl

/-- The metrics of one rank: the rank, its reciprocal, and whether it is within 1, 3 and 10. -/
def metric (r : BitVec 32) (k : Fin 5) : EReal :=
  let f : EReal := ((r.toInt : ℝ) : EReal)
  let within (u : EReal) : EReal := (((BitVec.ofBool (decide (f ≤ u))).toNat : ℝ) : EReal)
  match k with
  | 0 => f
  | 1 => Ideal.div 1 f
  | 2 => within 1
  | 3 => within (Ideal.ofBits .f32 0x40400000#32)
  | 4 => within (Ideal.ofBits .f32 0x41200000#32)

theorem sitofp_bit (p : Bool) : FloatOps.sitofp (F := Ideal) .f32 (BitVec.setWidth 32 (BitVec.ofBool p))
    = (((BitVec.ofBool p).toNat : ℝ) : EReal) := by
  cases p
  · show (((0#32 : BitVec 32).toInt : ℝ) : EReal) = _
    simp
  · show (((1#32 : BitVec 32).toInt : ℝ) : EReal) = _
    simp

theorem rank0_apply : k0_pay111 n (ix2 q 0) = n (ix2 q 0) + 1#32 := by
  pointwise [k0_pay111]
  exact BitVec.add_comm _ _
theorem rank1_apply : k0_pay113 n (ix2 q 0) = n (ix2 q 0) + 1#32 := by
  pointwise [k0_pay113]
  exact BitVec.add_comm _ _
theorem rank2_apply : k0_pay4 n (ix2 q 0) = n (ix2 q 0) + 1#32 := by
  pointwise [k0_pay4]
  exact BitVec.add_comm _ _

theorem met0_apply (k : Fin 5) : k0_pay112 n (ix2 0 k) = ∑ q : Fin 16, metric (n (ix2 q 0) + 1#32) k := by
  pointwise [k0_pay112, k0_pay111]
  refine Finset.sum_congr rfl fun q _ => ?_
  rw [BitVec.add_comm]
  fin_vals k with hk
  all_goals simp only [hk, Nat.reduceSub, Nat.reduceLT, ↓reduceDIte, sitofp_bit]
  · obtain rfl : k = 0 := Fin.ext hk
    rfl
  · obtain rfl : k = 1 := Fin.ext hk
    rfl
  · obtain rfl : k = 2 := Fin.ext hk
    rfl
  · obtain rfl : k = 3 := Fin.ext hk
    rfl
  · obtain rfl : k = 4 := Fin.ext hk
    rfl

theorem met1_eq : k0_pay3 (k0_pay114 n) (k0_pay115 n) (k0_pay116 n) (k0_pay117 n) = k0_pay112 n := rfl
theorem met2_eq : k0_pay5 n = k0_pay112 n := rfl

/-- The metrics' block: row by row, the sums over the queries of the ranks' metrics. -/
theorem metOut_apply (n : Vec Ideal S16x128 .i32) (r : Fin 3) (k : Fin 5) :
    metOut n (ix2 r k) = ∑ q : Fin 16, metric (n (ix2 q ⟨r.val, by omega⟩) + 1#32) k := by
  unfold metOut
  rw [met1_eq, met2_eq]
  have key : ∀ x : Vec Ideal S16x1 .i32, k0_pay112 x (ValueIdx.ix2 0 ((ix2 r k : S3x5.Idx) 1)) = ∑ q : Fin 16, metric (x (ix2 q 0) + 1#32) k :=
    fun x => met0_apply x k
  fin_cases r
  · exact key _
  · exact key _
  · exact key _
end

/-- One block's share of the candidates ahead. -/
theorem aheadBit_eq (x : Fin 32768 → EReal) (n c : Fin 32768) :
    (aheadBit (x n) (x c) (BitVec.ofNat 32 n.val) (BitVec.ofNat 32 c.val) = 1#1) = (Rank.ahead x n c = true) := by
  have h1 := n.isLt
  have h2 := c.isLt
  have e : BitVec.slt (BitVec.ofNat 32 n.val) (BitVec.ofNat 32 c.val) = decide (n < c) := by
    rw [Bool.eq_iff_iff]
    simp only [BitVec.slt, decide_eq_true_eq]
    rw [BitVec.toInt_eq_toNat_of_lt (by rw [BitVec.toNat_ofNat]; omega), BitVec.toInt_eq_toNat_of_lt (by rw [BitVec.toNat_ofNat]; omega),
      BitVec.toNat_ofNat, BitVec.toNat_ofNat, Fin.lt_def]
    omega
  have key : ∀ p q r : Bool, (IntOp.ori (BitVec.ofBool p) (IntOp.andi (BitVec.ofBool q) (BitVec.ofBool r)) = 1#1) = ((p || (q && r)) = true) := by decide
  unfold aheadBit Rank.ahead
  rw [← e]
  exact key _ _ _

/-- The candidates ahead, counted block by block. -/
theorem above_blocks (x : Fin 32768 → EReal) (c : Fin 32768) :
    Rank.above x c = ∑ t : Fin 4, aheadIn (fun k => x ⟨8192 * t.val + k.val, by omega⟩) (x c)
      (fun k => BitVec.ofNat 32 (8192 * t.val + k.val)) (BitVec.ofNat 32 c.val) := by
  unfold Rank.above aheadIn
  simp only [Finset.card_filter]
  rw [← (finProdFinEquiv : Fin 4 × Fin 8192 ≃ Fin (4 * 8192)).sum_comp (fun n : Fin 32768 => if Rank.ahead x n c = true then 1 else 0),
    Fintype.sum_prod_type]
  refine Finset.sum_congr rfl fun t _ => Finset.sum_congr rfl fun k _ => ?_
  have e : (finProdFinEquiv (t, k) : Fin 32768) = ⟨8192 * t.val + k.val, by omega⟩ := Fin.ext (Nat.add_comm _ _)
  rw [e]
  exact if_congr (iff_of_eq (aheadBit_eq x ⟨8192 * t.val + k.val, by omega⟩ c).symm) rfl rfl

/-- A row's only column of number `c`, seen in the count of a mask's bits there. -/
theorem count_at (f : Fin 8192 → BitVec 1) (n : Fin 8192 → BitVec 32) (k : Fin 8192) (hn : ∀ l : Fin 8192, n l = BitVec.ofNat 32 l.val) :
    (Finset.univ.filter fun l : Fin 8192 => IntOp.andi (IntOp.cmpi .eq (n l) (BitVec.ofNat 32 k.val)) (f l) = 1#1).card
      = if f k = 1#1 then 1 else 0 := by
  have hk := k.isLt
  have key : ∀ (p : Bool) (q : BitVec 1), (IntOp.andi (BitVec.ofBool p) q = 1#1) ↔ (p = true ∧ q = 1#1) := by decide
  have e : (Finset.univ.filter fun l : Fin 8192 => IntOp.andi (IntOp.cmpi .eq (n l) (BitVec.ofNat 32 k.val)) (f l) = 1#1)
      = (Finset.univ.filter fun l : Fin 8192 => l = k ∧ f k = 1#1) := by
    refine Finset.filter_congr fun l _ => ?_
    have hl := l.isLt
    refine (key _ _).trans ?_
    rw [hn, beq_iff_eq, ← BitVec.toNat_inj, BitVec.toNat_ofNat, BitVec.toNat_ofNat, Nat.mod_eq_of_lt (by omega), Nat.mod_eq_of_lt (by omega),
      ← Fin.ext_iff]
    constructor
    · rintro ⟨rfl, h⟩; exact ⟨rfl, h⟩
    · rintro ⟨rfl, h⟩; exact ⟨rfl, h⟩
  rw [e]
  by_cases h : f k = 1#1
  · simp [h, Finset.filter_eq']
  · simp [h]

/-- A maximum over a row of which all but one column read the least value. -/
theorem fold_at (x : Fin 8192 → EReal) (n : Fin 8192 → BitVec 32) (k : Fin 8192) (hn : ∀ l : Fin 8192, n l = BitVec.ofNat 32 l.val) :
    (Finset.univ.fold max ⊥ fun l : Fin 8192 => if IntOp.cmpi .eq (n l) (BitVec.ofNat 32 k.val) = 1#1 then x l else ⊥) = x k := by
  have hk := k.isLt
  have e : (fun l : Fin 8192 => if IntOp.cmpi .eq (n l) (BitVec.ofNat 32 k.val) = 1#1 then x l else ⊥) = fun l => if l = k then x k else ⊥ := by
    funext l
    have hl := l.isLt
    have key : ∀ p : Bool, (BitVec.ofBool p = 1#1) ↔ p = true := by decide
    by_cases h : l = k
    · subst h
      refine (if_pos ?_).trans (if_pos rfl).symm
      rw [hn]
      exact (key _).mpr (beq_self_eq_true _)
    · rw [if_neg h, if_neg]
      intro hc
      have := (key _).mp hc
      rw [hn, beq_iff_eq, ← BitVec.toNat_inj, BitVec.toNat_ofNat, BitVec.toNat_ofNat, Nat.mod_eq_of_lt (by omega), Nat.mod_eq_of_lt (by omega)] at this
      exact h (Fin.ext this)
  rw [e]
  refine le_antisymm ?_ ?_
  · refine (Finset.fold_max_le _).mpr ⟨bot_le, fun l _ => ?_⟩
    by_cases h : l = k
    · rw [if_pos h]
    · rw [if_neg h]; exact bot_le
  · exact (Finset.le_fold_max _).mpr (Or.inr ⟨k, Finset.mem_univ _, by rw [if_pos rfl]⟩)

end Cert.KernelIdeal.Val
-- ==== Proof.Spec.lean ====
module

public import proofs.«01_k».proof.Proof.Rank
public import proofs.«01_k».proof.Proof.KerVal

@[expose] public section

set_option maxRecDepth 16384

noncomputable section

/-! The values both programs compute, and the two forms of a score. -/

namespace Cert.Spec

open Idealize.ShloMosaic

/-- A number that is no infinity. -/
def Finite (x : EReal) : Prop := x ≠ ⊤ ∧ x ≠ ⊥

theorem Finite.real {x : EReal} (h : Finite x) : ∃ r : ℝ, x = (r : EReal) := ⟨x.toReal, (EReal.coe_toReal h.1 h.2).symm⟩

theorem sum_real {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

/-- The score as the reference computes it: four sums. -/
def score (hr hi rr ri nr ni : Fin 64 → EReal) : EReal :=
  (((∑ d, rr d * hr d * nr d) + ∑ d, rr d * hi d * ni d) + ∑ d, ri d * hr d * ni d) - ∑ d, ri d * hi d * nr d

/-- The score as two sums, the products of the fixed rows taken first. -/
theorem score_eq (hr hi rr ri nr ni : Fin 64 → EReal) (h1 : ∀ d, Finite (hr d)) (h2 : ∀ d, Finite (hi d)) (h3 : ∀ d, Finite (rr d))
    (h4 : ∀ d, Finite (ri d)) (h5 : ∀ d, Finite (nr d)) (h6 : ∀ d, Finite (ni d)) :
    (∑ d, (rr d * hr d - ri d * hi d) * nr d) + ∑ d, (rr d * hi d + ri d * hr d) * ni d = score hr hi rr ri nr ni := by
  choose a ha using fun d => (h1 d).real
  choose b hb using fun d => (h2 d).real
  choose p hp using fun d => (h3 d).real
  choose q hq using fun d => (h4 d).real
  choose u hu using fun d => (h5 d).real
  choose v hv using fun d => (h6 d).real
  unfold score
  simp only [ha, hb, hp, hq, hu, hv, ← EReal.coe_mul, ← EReal.coe_sub, ← EReal.coe_add, sum_real]
  refine congrArg _ ?_
  rw [← Finset.sum_add_distrib, ← Finset.sum_add_distrib, ← Finset.sum_add_distrib, ← Finset.sum_sub_distrib]
  exact Finset.sum_congr rfl fun d _ => by ring

/-- A score where the bit is clear, minus infinity where it is set. -/
def masked (b : BitVec 1) (x : EReal) : EReal := if b = 1#1 then ⊥ else x

/-- The arguments both programs read. -/
structure Args where
  trip : IVec Cert.KernelIdeal.S16x3 32
  tailMask : IVec Cert.KernelIdeal.S16x32768 1
  fullMask : IVec Cert.KernelIdeal.S16x32768 1
  nodeR : FVec Ideal Cert.KernelIdeal.S32768x64 .f32
  nodeI : FVec Ideal Cert.KernelIdeal.S32768x64 .f32
  relR : FVec Ideal Cert.KernelIdeal.S500x64 .f32
  relI : FVec Ideal Cert.KernelIdeal.S500x64 .f32

/-- The row of a table that a word names. -/
def node (w : BitVec 32) : Fin 32768 := ⟨w.toNat % 32768, Nat.mod_lt _ (by decide)⟩
def rel (w : BitVec 32) : Fin 500 := ⟨w.toNat % 500, Nat.mod_lt _ (by decide)⟩

variable (x : Args)

/-- Every word of a triplet names a row of either table. -/
def Args.Small : Prop := ∀ y, (x.trip y).toNat < 500
/-- The tables hold no infinities. -/
def Args.Reals : Prop := (∀ y, Finite (x.nodeR y)) ∧ (∀ y, Finite (x.nodeI y)) ∧ (∀ y, Finite (x.relR y)) ∧ (∀ y, Finite (x.relI y))

/-- The three rows of scores of a triplet: all, with the known tails masked, with both kinds masked. -/
def all (b : Fin 16) (n : Fin 32768) : EReal :=
  score (fun d => x.nodeR (ix2 (node (x.trip (ix2 b 0))) d)) (fun d => x.nodeI (ix2 (node (x.trip (ix2 b 0))) d))
    (fun d => x.relR (ix2 (rel (x.trip (ix2 b 1))) d)) (fun d => x.relI (ix2 (rel (x.trip (ix2 b 1))) d))
    (fun d => x.nodeR (ix2 n d)) (fun d => x.nodeI (ix2 n d))
def tails (b : Fin 16) (n : Fin 32768) : EReal := masked (x.tailMask (ix2 b n)) (all x b n)
def full (b : Fin 16) (n : Fin 32768) : EReal := masked (x.fullMask (ix2 b n)) (tails x b n)
def rows (r : Fin 3) : Fin 16 → Fin 32768 → EReal := match r with
  | 0 => all x
  | 1 => tails x
  | 2 => full x
/-- The answer's column. -/
def answer (b : Fin 16) : Fin 32768 := node (x.trip (ix2 b 2))
/-- The rank of the answer in a row of scores, from one. -/
def rank (r : Fin 3) (b : Fin 16) : BitVec 32 := BitVec.ofNat 32 (Rank.above (rows x r b) (answer x b)) + 1#32
/-- The sums of the metrics of a row's ranks. -/
def metrics (r : Fin 3) (k : Fin 5) : EReal := ∑ q : Fin 16, Cert.KernelIdeal.Val.metric (rank x r q) k

end Cert.Spec

end
-- ==== Proof.PreFinite.lean ====
module

public import proofs.«01_k».proof.Pre_rows_in_range_finite
public import proofs.«01_k».proof.Proof.Pre
public import proofs.«01_k».proof.Proof.Spec
public import Idealize.ShloMosaic.Lib.Pointwise

@[expose] public section

noncomputable section

/-! What the precondition with finite tables says. -/

namespace Cert.PreFinite

open Idealize.ShloMosaic
open Cert.Pre_rows_in_range_finite

theorem facts : Cert.Pre_rows_in_range_finite.Facts where
  bcast_S_S16x3 := by decide
  bcast_S_S32768x64 := by decide
  bcast_S_S500x64 := by decide

attribute [local instance] facts Cert.Pre.facts

section
variable {F : FTy → Type} [FloatOps F]

theorem small {x0 : IVec S16x3 32} {x1 x2 x3 x4 x5 x6 x7}
    (h : (fn (F := F) x0 x1 x2 x3 x4 x5 x6 x7).1 = fun _ => 1#1) : Cert.Pre.Small x0 :=
  Cert.Pre.small (F := F) (x1 := x1) (x2 := x2) (x3 := x3) (x4 := x4) (x5 := x5) (x6 := x6) (x7 := x7) h
end

/-- A number whose absolute value is below infinity is finite. -/
theorem finite_of (x : EReal) (h : Ideal.cmp .olt (max x (-x)) (Ideal.ofBits .f32 0x7F800000#32) = 1#1) : Spec.Finite x := by
  have key : ∀ p : Bool, BitVec.ofBool p = 1#1 → p = true := by decide
  have h' := of_decide_eq_true (key _ h)
  have hx : x < ⊤ ∧ -x < ⊤ := max_lt_iff.mp (h'.trans_le le_top)
  refine ⟨hx.1.ne, fun e => ?_⟩
  rw [e, EReal.neg_bot] at hx
  exact lt_irrefl _ hx.2

section
variable {x0 : IVec S16x3 32} {x1 x2 x3 : IVec S16x32768 1} {x4 x5 : FVec Ideal S32768x64 .f32} {x6 x7 : FVec Ideal S500x64 .f32}
theorem finite4 (h : (fn (F := Ideal) x0 x1 x2 x3 x4 x5 x6 x7).2.1 = fun _ => 1#1) (y) : Spec.Finite (x4 y) := finite_of _ (congrFun h y)
theorem finite5 (h : (fn (F := Ideal) x0 x1 x2 x3 x4 x5 x6 x7).2.2.1 = fun _ => 1#1) (y) : Spec.Finite (x5 y) := finite_of _ (congrFun h y)
theorem finite6 (h : (fn (F := Ideal) x0 x1 x2 x3 x4 x5 x6 x7).2.2.2.1 = fun _ => 1#1) (y) : Spec.Finite (x6 y) := finite_of _ (congrFun h y)
theorem finite7 (h : (fn (F := Ideal) x0 x1 x2 x3 x4 x5 x6 x7).2.2.2.2 = fun _ => 1#1) (y) : Spec.Finite (x7 y) := finite_of _ (congrFun h y)
end

end Cert.PreFinite

end
-- ==== Proof.RefRun.lean ====
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384
set_option maxHeartbeats 4000000

noncomputable section

/-! The reference's host operations as lists, cut where one of its values is finished, and its run. -/

namespace Cert.ReferenceIdeal.Lines

open Cert.ReferenceIdeal Cert.ReferenceIdeal.Gen
open Idealize.ShloMosaic Idealize.ShloMosaic.TcCoe Idealize.SL.Sem Idealize.ShloMosaic.StableHlo

variable {F : FTy → Type} [FloatOps F]

/-- The operations of `fn_where`. -/
abbrev fn_where.ops (arg0 : TRef sig ⟨S16, .i1⟩) (arg1 : TRef sig ⟨S16, .i32⟩) (arg2 : TRef sig ⟨S16, .i32⟩) (φ : fn_where.Bufs) : List (HloOp τ sig (Elt F)) :=
  [ TRef.ternary arg0 arg1 arg2 φ.v0 select ]

/-- The operations of `fn_take`. -/
abbrev fn_take.ops (arg0 : TRef sig ⟨S32768x64, .f32⟩) (arg1 : TRef sig ⟨S16, .i32⟩) (φ : fn_take.Bufs) : List (HloOp τ sig (Elt F)) :=
  [ TRef.nullary φ.c (constantI S_ 32 0#32),
    TRef.unary φ.c φ.v0 (broadcastInDim S16 ![] bcast_S_S16),
    TRef.binary arg1 φ.v0 φ.v1 (cmpi .slt),
    TRef.nullary φ.c_0 (constantI S_ 32 32768#32),
    TRef.unary φ.c_0 φ.v2 (broadcastInDim S16 ![] bcast_S_S16),
    TRef.binary arg1 φ.v2 φ.v3 addi ] ++ (fn_where.ops φ.v1 φ.v3 arg1 φ.call0 ++ ([ TRef.unary φ.call0.v0 φ.v5 (broadcastInDim S16x1 ![0] bcast_S16_S16x1_0),
    TRef.nullary φ.c_1 (constantI S1 32 32767#32),
    TRef.nullary φ.c_2 (constantI S_ 32 0#32),
    TRef.unary φ.c_2 φ.v6 (broadcastInDim S16x1 ![] bcast_S_S16x1),
    TRef.binary φ.v5 φ.v6 φ.v7 (cmpi .sge),
    TRef.unary φ.c_1 φ.v8 (broadcastInDim S1x1 ![1] bcast_S1_S1x1_1),
    TRef.unary φ.v8 φ.v9 (broadcastInDim S16x1 ![0, 1] bcast_S1x1_S16x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16x1_S16_d1 h_S_),
    TRef.binary arg0 φ.v5 φ.v13 (fun x i => Host.gather gather_S32768x64_S16x1_S16x64_1_0_n_n_0_1_164 x i),
    TRef.unary φ.v12 φ.v14 (broadcastInDim S16x64 ![0] bcast_S16_S16x64_0),
    TRef.nullary φ.cst (constant S_ .f32 0x7FC00000#32),
    TRef.unary φ.cst φ.v15 (broadcastInDim S16x64 ![] bcast_S_S16x64),
    TRef.ternary φ.v14 φ.v13 φ.v15 φ.v16 select ]))

/-- The operations of `fn_take_0`. -/
abbrev fn_take_0.ops (arg0 : TRef sig ⟨S500x64, .f32⟩) (arg1 : TRef sig ⟨S16, .i32⟩) (φ : fn_take_0.Bufs) : List (HloOp τ sig (Elt F)) :=
  [ TRef.nullary φ.c (constantI S_ 32 0#32),
    TRef.unary φ.c φ.v0 (broadcastInDim S16 ![] bcast_S_S16),
    TRef.binary arg1 φ.v0 φ.v1 (cmpi .slt),
    TRef.nullary φ.c_0 (constantI S_ 32 500#32),
    TRef.unary φ.c_0 φ.v2 (broadcastInDim S16 ![] bcast_S_S16),
    TRef.binary arg1 φ.v2 φ.v3 addi ] ++ (fn_where.ops φ.v1 φ.v3 arg1 φ.call0 ++ ([ TRef.unary φ.call0.v0 φ.v5 (broadcastInDim S16x1 ![0] bcast_S16_S16x1_0),
    TRef.nullary φ.c_1 (constantI S1 32 499#32),
    TRef.nullary φ.c_2 (constantI S_ 32 0#32),
    TRef.unary φ.c_2 φ.v6 (broadcastInDim S16x1 ![] bcast_S_S16x1),
    TRef.binary φ.v5 φ.v6 φ.v7 (cmpi .sge),
    TRef.unary φ.c_1 φ.v8 (broadcastInDim S1x1 ![1] bcast_S1_S1x1_1),
    TRef.unary φ.v8 φ.v9 (broadcastInDim S16x1 ![0, 1] bcast_S1x1_S16x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16x1_S16_d1 h_S_),
    TRef.binary arg0 φ.v5 φ.v13 (fun x i => Host.gather gather_S500x64_S16x1_S16x64_1_0_n_n_0_1_164 x i),
    TRef.unary φ.v12 φ.v14 (broadcastInDim S16x64 ![0] bcast_S16_S16x64_0),
    TRef.nullary φ.cst (constant S_ .f32 0x7FC00000#32),
    TRef.unary φ.cst φ.v15 (broadcastInDim S16x64 ![] bcast_S_S16x64),
    TRef.ternary φ.v14 φ.v13 φ.v15 φ.v16 select ]))

/-- The operations of `fn_where_1`. -/
abbrev fn_where_1.ops (arg0 : TRef sig ⟨S16x32768, .i1⟩) (arg1 : TRef sig ⟨S16x32768, .f32⟩) (arg2 : TRef sig ⟨S16x32768, .f32⟩) (φ : fn_where_1.Bufs) : List (HloOp τ sig (Elt F)) :=
  [ TRef.ternary arg0 arg1 arg2 φ.v0 select ]

/-- The operations of `fn_argmax`. -/
abbrev fn_argmax.ops (arg0 : TRef sig ⟨S16x32768, .i1⟩) (φ : fn_argmax.Bufs) : List (HloOp τ sig (Elt F)) :=
  [ TRef.nullary φ.v0 (iotaInDim S16x32768 32 1),
    TRef.nullary φ.c (constantI S_ 1 0#1),
    TRef.nullary φ.c_0 (constantI S_ 32 0#32),
    TRef.quaternary arg0 φ.v0 φ.c φ.c_0 φ.v1_0 (fun x y u v j => (Host.reduce2 reducer_argmax_i1_i32 x y u v reducesTo_S16x32768_S16_d1 h_S_ j).1),
    TRef.quaternary arg0 φ.v0 φ.c φ.c_0 φ.v1_1 (fun x y u v j => (Host.reduce2 reducer_argmax_i1_i32 x y u v reducesTo_S16x32768_S16_d1 h_S_ j).2) ]

/-- The operations from `main_v0` to `main_v3`. -/
def seg0 : List (HloOp τ sig (Elt F)) :=
  [ unary main_arg0 main_v0 ((extractStridedSlice S16x1 ![0, 0] · slices_S16x3_S16x1_0_0) : (⟨S16x3, .i32⟩ : BufTy).Contents (Elt F) → (⟨S16x1, .i32⟩ : BufTy).Contents (Elt F)),
    reshape main_v0 main_v1 (rfl : (.i32 : EltTy) = .i32) shapeCasts_S16x1_S16 ] ++ (fn_take.ops (.of main_arg4) (.of main_v1) main_call0 ++ ([ unary main_v2 main_v3 (broadcastInDim S16x1x64 ![0, 2] bcast_S16x64_S16x1x64_0_2 : (⟨S16x64, .f32⟩ : BufTy).Contents (Elt F) → (⟨S16x1x64, .f32⟩ : BufTy).Contents (Elt F)) ]))

/-- The operations from `main_v4` to `main_v7`. -/
def seg1 : List (HloOp τ sig (Elt F)) :=
  [ unary main_arg0 main_v4 ((extractStridedSlice S16x1 ![0, 0] · slices_S16x3_S16x1_0_0) : (⟨S16x3, .i32⟩ : BufTy).Contents (Elt F) → (⟨S16x1, .i32⟩ : BufTy).Contents (Elt F)),
    reshape main_v4 main_v5 (rfl : (.i32 : EltTy) = .i32) shapeCasts_S16x1_S16 ] ++ (fn_take.ops (.of main_arg5) (.of main_v5) main_call1 ++ ([ unary main_v6 main_v7 (broadcastInDim S16x1x64 ![0, 2] bcast_S16x64_S16x1x64_0_2 : (⟨S16x64, .f32⟩ : BufTy).Contents (Elt F) → (⟨S16x1x64, .f32⟩ : BufTy).Contents (Elt F)) ]))

/-- The operations from `main_v8` to `main_v11`. -/
def seg2 : List (HloOp τ sig (Elt F)) :=
  [ unary main_arg0 main_v8 ((extractStridedSlice S16x1 ![0, 1] · slices_S16x3_S16x1_0_1) : (⟨S16x3, .i32⟩ : BufTy).Contents (Elt F) → (⟨S16x1, .i32⟩ : BufTy).Contents (Elt F)),
    reshape main_v8 main_v9 (rfl : (.i32 : EltTy) = .i32) shapeCasts_S16x1_S16 ] ++ (fn_take_0.ops (.of main_arg6) (.of main_v9) main_call2 ++ ([ unary main_v10 main_v11 (broadcastInDim S16x1x64 ![0, 2] bcast_S16x64_S16x1x64_0_2 : (⟨S16x64, .f32⟩ : BufTy).Contents (Elt F) → (⟨S16x1x64, .f32⟩ : BufTy).Contents (Elt F)) ]))

/-- The operations from `main_v12` to `main_v15`. -/
def seg3 : List (HloOp τ sig (Elt F)) :=
  [ unary main_arg0 main_v12 ((extractStridedSlice S16x1 ![0, 1] · slices_S16x3_S16x1_0_1) : (⟨S16x3, .i32⟩ : BufTy).Contents (Elt F) → (⟨S16x1, .i32⟩ : BufTy).Contents (Elt F)),
    reshape main_v12 main_v13 (rfl : (.i32 : EltTy) = .i32) shapeCasts_S16x1_S16 ] ++ (fn_take_0.ops (.of main_arg7) (.of main_v13) main_call3 ++ ([ unary main_v14 main_v15 (broadcastInDim S16x1x64 ![0, 2] bcast_S16x64_S16x1x64_0_2 : (⟨S16x64, .f32⟩ : BufTy).Contents (Elt F) → (⟨S16x1x64, .f32⟩ : BufTy).Contents (Elt F)) ]))

/-- The operations from `main_v16` to `main_v40`. -/
def seg4 : List (HloOp τ sig (Elt F)) :=
  [ unary main_arg4 main_v16 (broadcastInDim S1x32768x64 ![1, 2] bcast_S32768x64_S1x32768x64_1_2 : (⟨S32768x64, .f32⟩ : BufTy).Contents (Elt F) → (⟨S1x32768x64, .f32⟩ : BufTy).Contents (Elt F)),
    unary main_arg5 main_v17 (broadcastInDim S1x32768x64 ![1, 2] bcast_S32768x64_S1x32768x64_1_2 : (⟨S32768x64, .f32⟩ : BufTy).Contents (Elt F) → (⟨S1x32768x64, .f32⟩ : BufTy).Contents (Elt F)),
    binary main_v11 main_v3 main_v18 (mulf : (⟨S16x1x64, .f32⟩ : BufTy).Contents (Elt F) → (⟨S16x1x64, .f32⟩ : BufTy).Contents (Elt F) → (⟨S16x1x64, .f32⟩ : BufTy).Contents (Elt F)),
    unary main_v18 main_v19 (broadcastInDim S16x32768x64 ![0, 1, 2] bcast_S16x1x64_S16x32768x64_0_1_2 : (⟨S16x1x64, .f32⟩ : BufTy).Contents (Elt F) → (⟨S16x32768x64, .f32⟩ : BufTy).Contents (Elt F)),
    unary main_v16 main_v20 (broadcastInDim S16x32768x64 ![0, 1, 2] bcast_S1x32768x64_S16x32768x64_0_1_2 : (⟨S1x32768x64, .f32⟩ : BufTy).Contents (Elt F) → (⟨S16x32768x64, .f32⟩ : BufTy).Contents (Elt F)),
    binary main_v19 main_v20 main_v21 (mulf : (⟨S16x32768x64, .f32⟩ : BufTy).Contents (Elt F) → (⟨S16x32768x64, .f32⟩ : BufTy).Contents (Elt F) → (⟨S16x32768x64, .f32⟩ : BufTy).Contents (Elt F)),
    nullary main_cst (constant S_ .f32 0x00000000#32),
    binary main_v21 main_cst main_v22 ((fun x v => Host.reduceAdd x v reducesTo_S16x32768x64_S16x32768_d2 h_S_) : (⟨S16x32768x64, .f32⟩ : BufTy).Contents (Elt F) → (⟨S_, .f32⟩ : BufTy).Contents (Elt F) → (⟨S16x32768, .f32⟩ : BufTy).Contents (Elt F)),
    binary main_v11 main_v7 main_v23 (mulf : (⟨S16x1x64, .f32⟩ : BufTy).Contents (Elt F) → (⟨S16x1x64, .f32⟩ : BufTy).Contents (Elt F) → (⟨S16x1x64, .f32⟩ : BufTy).Contents (Elt F)),
    unary main_v23 main_v24 (broadcastInDim S16x32768x64 ![0, 1, 2] bcast_S16x1x64_S16x32768x64_0_1_2 : (⟨S16x1x64, .f32⟩ : BufTy).Contents (Elt F) → (⟨S16x32768x64, .f32⟩ : BufTy).Contents (Elt F)),
    unary main_v17 main_v25 (broadcastInDim S16x32768x64 ![0, 1, 2] bcast_S1x32768x64_S16x32768x64_0_1_2 : (⟨S1x32768x64, .f32⟩ : BufTy).Contents (Elt F) → (⟨S16x32768x64, .f32⟩ : BufTy).Contents (Elt F)),
    binary main_v24 main_v25 main_v26 (mulf : (⟨S16x32768x64, .f32⟩ : BufTy).Contents (Elt F) → (⟨S16x32768x64, .f32⟩ : BufTy).Contents (Elt F) → (⟨S16x32768x64, .f32⟩ : BufTy).Contents (Elt F)),
    nullary main_cst_0 (constant S_ .f32 0x00000000#32),
    binary main_v26 main_cst_0 main_v27 ((fun x v => Host.reduceAdd x v reducesTo_S16x32768x64_S16x32768_d2 h_S_) : (⟨S16x32768x64, .f32⟩ : BufTy).Contents (Elt F) → (⟨S_, .f32⟩ : BufTy).Contents (Elt F) → (⟨S16x32768, .f32⟩ : BufTy).Contents (Elt F)),
    binary main_v15 main_v3 main_v28 (mulf : (⟨S16x1x64, .f32⟩ : BufTy).Contents (Elt F) → (⟨S16x1x64, .f32⟩ : BufTy).Contents (Elt F) → (⟨S16x1x64, .f32⟩ : BufTy).Contents (Elt F)),
    unary main_v28 main_v29 (broadcastInDim S16x32768x64 ![0, 1, 2] bcast_S16x1x64_S16x32768x64_0_1_2 : (⟨S16x1x64, .f32⟩ : BufTy).Contents (Elt F) → (⟨S16x32768x64, .f32⟩ : BufTy).Contents (Elt F)),
    unary main_v17 main_v30 (broadcastInDim S16x32768x64 ![0, 1, 2] bcast_S1x32768x64_S16x32768x64_0_1_2 : (⟨S1x32768x64, .f32⟩ : BufTy).Contents (Elt F) → (⟨S16x32768x64, .f32⟩ : BufTy).Contents (Elt F)),
    binary main_v29 main_v30 main_v31 (mulf : (⟨S16x32768x64, .f32⟩ : BufTy).Contents (Elt F) → (⟨S16x32768x64, .f32⟩ : BufTy).Contents (Elt F) → (⟨S16x32768x64, .f32⟩ : BufTy).Contents (Elt F)),
    nullary main_cst_1 (constant S_ .f32 0x00000000#32),
    binary main_v31 main_cst_1 main_v32 ((fun x v => Host.reduceAdd x v reducesTo_S16x32768x64_S16x32768_d2 h_S_) : (⟨S16x32768x64, .f32⟩ : BufTy).Contents (Elt F) → (⟨S_, .f32⟩ : BufTy).Contents (Elt F) → (⟨S16x32768, .f32⟩ : BufTy).Contents (Elt F)),
    binary main_v15 main_v7 main_v33 (mulf : (⟨S16x1x64, .f32⟩ : BufTy).Contents (Elt F) → (⟨S16x1x64, .f32⟩ : BufTy).Contents (Elt F) → (⟨S16x1x64, .f32⟩ : BufTy).Contents (Elt F)),
    unary main_v33 main_v34 (broadcastInDim S16x32768x64 ![0, 1, 2] bcast_S16x1x64_S16x32768x64_0_1_2 : (⟨S16x1x64, .f32⟩ : BufTy).Contents (Elt F) → (⟨S16x32768x64, .f32⟩ : BufTy).Contents (Elt F)),
    unary main_v16 main_v35 (broadcastInDim S16x32768x64 ![0, 1, 2] bcast_S1x32768x64_S16x32768x64_0_1_2 : (⟨S1x32768x64, .f32⟩ : BufTy).Contents (Elt F) → (⟨S16x32768x64, .f32⟩ : BufTy).Contents (Elt F)),
    binary main_v34 main_v35 main_v36 (mulf : (⟨S16x32768x64, .f32⟩ : BufTy).Contents (Elt F) → (⟨S16x32768x64, .f32⟩ : BufTy).Contents (Elt F) → (⟨S16x32768x64, .f32⟩ : BufTy).Contents (Elt F)),
    nullary main_cst_2 (constant S_ .f32 0x00000000#32),
    binary main_v36 main_cst_2 main_v37 ((fun x v => Host.reduceAdd x v reducesTo_S16x32768x64_S16x32768_d2 h_S_) : (⟨S16x32768x64, .f32⟩ : BufTy).Contents (Elt F) → (⟨S_, .f32⟩ : BufTy).Contents (Elt F) → (⟨S16x32768, .f32⟩ : BufTy).Contents (Elt F)),
    binary main_v22 main_v27 main_v38 (addf : (⟨S16x32768, .f32⟩ : BufTy).Contents (Elt F) → (⟨S16x32768, .f32⟩ : BufTy).Contents (Elt F) → (⟨S16x32768, .f32⟩ : BufTy).Contents (Elt F)),
    binary main_v38 main_v32 main_v39 (addf : (⟨S16x32768, .f32⟩ : BufTy).Contents (Elt F) → (⟨S16x32768, .f32⟩ : BufTy).Contents (Elt F) → (⟨S16x32768, .f32⟩ : BufTy).Contents (Elt F)),
    binary main_v39 main_v37 main_v40 (subf : (⟨S16x32768, .f32⟩ : BufTy).Contents (Elt F) → (⟨S16x32768, .f32⟩ : BufTy).Contents (Elt F) → (⟨S16x32768, .f32⟩ : BufTy).Contents (Elt F)) ]

/-- The operations from `main_cst_3` to `main_call5`. -/
def seg5 : List (HloOp τ sig (Elt F)) :=
  [ nullary main_cst_3 (constant S_ .f32 0xFF800000#32),
    unary main_cst_3 main_v41 (broadcastInDim S16x32768 ![] bcast_S_S16x32768 : (⟨S_, .f32⟩ : BufTy).Contents (Elt F) → (⟨S16x32768, .f32⟩ : BufTy).Contents (Elt F)) ] ++ (fn_where_1.ops (.of main_arg2) (.of main_v41) (.of main_v40) main_call4 ++ (fn_where_1.ops (.of main_arg3) (.of main_v41) (.of main_v42) main_call5))

/-- The operations from `main_v44` to `main_v51`. -/
def seg6 : List (HloOp τ sig (Elt F)) :=
  [ unary main_arg0 main_v44 ((extractStridedSlice S16x1 ![0, 2] · slices_S16x3_S16x1_0_2) : (⟨S16x3, .i32⟩ : BufTy).Contents (Elt F) → (⟨S16x1, .i32⟩ : BufTy).Contents (Elt F)),
    reshape main_v44 main_v45 (rfl : (.i32 : EltTy) = .i32) shapeCasts_S16x1_S16,
    unary main_v40 main_values ((fun x => (Host.topK S16x32768 1 (FloatOps.cmpfTotal .gt) x sliceFits_S16x32768_S16x32768).1) : (⟨S16x32768, .f32⟩ : BufTy).Contents (Elt F) → (⟨S16x32768, .f32⟩ : BufTy).Contents (Elt F)),
    unary main_v40 main_indices ((fun x => (Host.topK S16x32768 1 (FloatOps.cmpfTotal .gt) x sliceFits_S16x32768_S16x32768).2) : (⟨S16x32768, .f32⟩ : BufTy).Contents (Elt F) → (⟨S16x32768, .i32⟩ : BufTy).Contents (Elt F)),
    unary main_v45 main_v46 (broadcastInDim S16x1 ![0] bcast_S16_S16x1_0 : (⟨S16, .i32⟩ : BufTy).Contents (Elt F) → (⟨S16x1, .i32⟩ : BufTy).Contents (Elt F)),
    unary main_v46 main_v47 (broadcastInDim S16x32768 ![0, 1] bcast_S16x1_S16x32768_0_1 : (⟨S16x1, .i32⟩ : BufTy).Contents (Elt F) → (⟨S16x32768, .i32⟩ : BufTy).Contents (Elt F)),
    binary main_indices main_v47 main_v48 (cmpi .eq : (⟨S16x32768, .i32⟩ : BufTy).Contents (Elt F) → (⟨S16x32768, .i32⟩ : BufTy).Contents (Elt F) → (⟨S16x32768, .i1⟩ : BufTy).Contents (Elt F)) ] ++ (fn_argmax.ops (.of main_v48) main_call6 ++ ([ nullary main_c (constantI S_ 32 1#32),
    unary main_c main_v50 (broadcastInDim S16 ![] bcast_S_S16 : (⟨S_, .i32⟩ : BufTy).Contents (Elt F) → (⟨S16, .i32⟩ : BufTy).Contents (Elt F)),
    binary main_v49 main_v50 main_v51 (addi : (⟨S16, .i32⟩ : BufTy).Contents (Elt F) → (⟨S16, .i32⟩ : BufTy).Contents (Elt F) → (⟨S16, .i32⟩ : BufTy).Contents (Elt F)) ]))

/-- The operations from `main_values_4` to `main_v57`. -/
def seg7 : List (HloOp τ sig (Elt F)) :=
  [ unary main_v42 main_values_4 ((fun x => (Host.topK S16x32768 1 (FloatOps.cmpfTotal .gt) x sliceFits_S16x32768_S16x32768).1) : (⟨S16x32768, .f32⟩ : BufTy).Contents (Elt F) → (⟨S16x32768, .f32⟩ : BufTy).Contents (Elt F)),
    unary main_v42 main_indices_5 ((fun x => (Host.topK S16x32768 1 (FloatOps.cmpfTotal .gt) x sliceFits_S16x32768_S16x32768).2) : (⟨S16x32768, .f32⟩ : BufTy).Contents (Elt F) → (⟨S16x32768, .i32⟩ : BufTy).Contents (Elt F)),
    unary main_v45 main_v52 (broadcastInDim S16x1 ![0] bcast_S16_S16x1_0 : (⟨S16, .i32⟩ : BufTy).Contents (Elt F) → (⟨S16x1, .i32⟩ : BufTy).Contents (Elt F)),
    unary main_v52 main_v53 (broadcastInDim S16x32768 ![0, 1] bcast_S16x1_S16x32768_0_1 : (⟨S16x1, .i32⟩ : BufTy).Contents (Elt F) → (⟨S16x32768, .i32⟩ : BufTy).Contents (Elt F)),
    binary main_indices_5 main_v53 main_v54 (cmpi .eq : (⟨S16x32768, .i32⟩ : BufTy).Contents (Elt F) → (⟨S16x32768, .i32⟩ : BufTy).Contents (Elt F) → (⟨S16x32768, .i1⟩ : BufTy).Contents (Elt F)) ] ++ (fn_argmax.ops (.of main_v54) main_call7 ++ ([ nullary main_c_6 (constantI S_ 32 1#32),
    unary main_c_6 main_v56 (broadcastInDim S16 ![] bcast_S_S16 : (⟨S_, .i32⟩ : BufTy).Contents (Elt F) → (⟨S16, .i32⟩ : BufTy).Contents (Elt F)),
    binary main_v55 main_v56 main_v57 (addi : (⟨S16, .i32⟩ : BufTy).Contents (Elt F) → (⟨S16, .i32⟩ : BufTy).Contents (Elt F) → (⟨S16, .i32⟩ : BufTy).Contents (Elt F)) ]))

/-- The operations from `main_values_7` to `main_v63`. -/
def seg8 : List (HloOp τ sig (Elt F)) :=
  [ unary main_v43 main_values_7 ((fun x => (Host.topK S16x32768 1 (FloatOps.cmpfTotal .gt) x sliceFits_S16x32768_S16x32768).1) : (⟨S16x32768, .f32⟩ : BufTy).Contents (Elt F) → (⟨S16x32768, .f32⟩ : BufTy).Contents (Elt F)),
    unary main_v43 main_indices_8 ((fun x => (Host.topK S16x32768 1 (FloatOps.cmpfTotal .gt) x sliceFits_S16x32768_S16x32768).2) : (⟨S16x32768, .f32⟩ : BufTy).Contents (Elt F) → (⟨S16x32768, .i32⟩ : BufTy).Contents (Elt F)),
    unary main_v45 main_v58 (broadcastInDim S16x1 ![0] bcast_S16_S16x1_0 : (⟨S16, .i32⟩ : BufTy).Contents (Elt F) → (⟨S16x1, .i32⟩ : BufTy).Contents (Elt F)),
    unary main_v58 main_v59 (broadcastInDim S16x32768 ![0, 1] bcast_S16x1_S16x32768_0_1 : (⟨S16x1, .i32⟩ : BufTy).Contents (Elt F) → (⟨S16x32768, .i32⟩ : BufTy).Contents (Elt F)),
    binary main_indices_8 main_v59 main_v60 (cmpi .eq : (⟨S16x32768, .i32⟩ : BufTy).Contents (Elt F) → (⟨S16x32768, .i32⟩ : BufTy).Contents (Elt F) → (⟨S16x32768, .i1⟩ : BufTy).Contents (Elt F)) ] ++ (fn_argmax.ops (.of main_v60) main_call8 ++ ([ nullary main_c_9 (constantI S_ 32 1#32),
    unary main_c_9 main_v62 (broadcastInDim S16 ![] bcast_S_S16 : (⟨S_, .i32⟩ : BufTy).Contents (Elt F) → (⟨S16, .i32⟩ : BufTy).Contents (Elt F)),
    binary main_v61 main_v62 main_v63 (addi : (⟨S16, .i32⟩ : BufTy).Contents (Elt F) → (⟨S16, .i32⟩ : BufTy).Contents (Elt F) → (⟨S16, .i32⟩ : BufTy).Contents (Elt F)) ]))

/-- The operations from `main_v64` to `main_v86`. -/
def seg9 : List (HloOp τ sig (Elt F)) :=
  [ unary main_v51 main_v64 (sitofp .f32 : (⟨S16, .i32⟩ : BufTy).Contents (Elt F) → (⟨S16, .f32⟩ : BufTy).Contents (Elt F)),
    nullary main_cst_10 (constant S_ .f32 0x00000000#32),
    binary main_v64 main_cst_10 main_v65 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_11 (constant S_ .f32 0x3F800000#32),
    unary main_cst_11 main_v66 (broadcastInDim S16 ![] bcast_S_S16 : (⟨S_, .f32⟩ : BufTy).Contents (Elt F) → (⟨S16, .f32⟩ : BufTy).Contents (Elt F)),
    binary main_v66 main_v64 main_v67 (Host.divf : (⟨S16, .f32⟩ : BufTy).Contents (Elt F) → (⟨S16, .f32⟩ : BufTy).Contents (Elt F) → (⟨S16, .f32⟩ : BufTy).Contents (Elt F)),
    nullary main_cst_12 (constant S_ .f32 0x00000000#32),
    binary main_v67 main_cst_12 main_v68 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_13 (constant S_ .f32 0x3F800000#32),
    unary main_cst_13 main_v69 (broadcastInDim S16 ![] bcast_S_S16 : (⟨S_, .f32⟩ : BufTy).Contents (Elt F) → (⟨S16, .f32⟩ : BufTy).Contents (Elt F)),
    binary main_v64 main_v69 main_v70 (cmpf .ole : (⟨S16, .f32⟩ : BufTy).Contents (Elt F) → (⟨S16, .f32⟩ : BufTy).Contents (Elt F) → (⟨S16, .i1⟩ : BufTy).Contents (Elt F)),
    unary main_v70 main_v71 (uitofp .f32 : (⟨S16, .i1⟩ : BufTy).Contents (Elt F) → (⟨S16, .f32⟩ : BufTy).Contents (Elt F)),
    nullary main_cst_14 (constant S_ .f32 0x00000000#32),
    binary main_v71 main_cst_14 main_v72 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_15 (constant S_ .f32 0x40400000#32),
    unary main_cst_15 main_v73 (broadcastInDim S16 ![] bcast_S_S16 : (⟨S_, .f32⟩ : BufTy).Contents (Elt F) → (⟨S16, .f32⟩ : BufTy).Contents (Elt F)),
    binary main_v64 main_v73 main_v74 (cmpf .ole : (⟨S16, .f32⟩ : BufTy).Contents (Elt F) → (⟨S16, .f32⟩ : BufTy).Contents (Elt F) → (⟨S16, .i1⟩ : BufTy).Contents (Elt F)),
    unary main_v74 main_v75 (uitofp .f32 : (⟨S16, .i1⟩ : BufTy).Contents (Elt F) → (⟨S16, .f32⟩ : BufTy).Contents (Elt F)),
    nullary main_cst_16 (constant S_ .f32 0x00000000#32),
    binary main_v75 main_cst_16 main_v76 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_17 (constant S_ .f32 0x41200000#32),
    unary main_cst_17 main_v77 (broadcastInDim S16 ![] bcast_S_S16 : (⟨S_, .f32⟩ : BufTy).Contents (Elt F) → (⟨S16, .f32⟩ : BufTy).Contents (Elt F)),
    binary main_v64 main_v77 main_v78 (cmpf .ole : (⟨S16, .f32⟩ : BufTy).Contents (Elt F) → (⟨S16, .f32⟩ : BufTy).Contents (Elt F) → (⟨S16, .i1⟩ : BufTy).Contents (Elt F)),
    unary main_v78 main_v79 (uitofp .f32 : (⟨S16, .i1⟩ : BufTy).Contents (Elt F) → (⟨S16, .f32⟩ : BufTy).Contents (Elt F)),
    nullary main_cst_18 (constant S_ .f32 0x00000000#32),
    binary main_v79 main_cst_18 main_v80 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    unary main_v65 main_v81 (broadcastInDim S1 ![] bcast_S_S1 : (⟨S_, .f32⟩ : BufTy).Contents (Elt F) → (⟨S1, .f32⟩ : BufTy).Contents (Elt F)),
    unary main_v68 main_v82 (broadcastInDim S1 ![] bcast_S_S1 : (⟨S_, .f32⟩ : BufTy).Contents (Elt F) → (⟨S1, .f32⟩ : BufTy).Contents (Elt F)),
    unary main_v72 main_v83 (broadcastInDim S1 ![] bcast_S_S1 : (⟨S_, .f32⟩ : BufTy).Contents (Elt F) → (⟨S1, .f32⟩ : BufTy).Contents (Elt F)),
    unary main_v76 main_v84 (broadcastInDim S1 ![] bcast_S_S1 : (⟨S_, .f32⟩ : BufTy).Contents (Elt F) → (⟨S1, .f32⟩ : BufTy).Contents (Elt F)),
    unary main_v80 main_v85 (broadcastInDim S1 ![] bcast_S_S1 : (⟨S_, .f32⟩ : BufTy).Contents (Elt F) → (⟨S1, .f32⟩ : BufTy).Contents (Elt F)),
    nary ![main_v81, main_v82, main_v83, main_v84, main_v85] main_v86 (fun u => (concatenate S5 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩, ⟨S1, (u 4 : (⟨S1, .f32⟩ : BufTy).Contents (Elt F))⟩] concatenates_S1_S1_S1_S1_S1_S5_d0 : (⟨S5, .f32⟩ : BufTy).Contents (Elt F))) ]

/-- The operations from `main_v87` to `main_v92`. -/
def seg10 : List (HloOp τ sig (Elt F)) :=
  [ unary main_v57 main_v87 (sitofp .f32 : (⟨S16, .i32⟩ : BufTy).Contents (Elt F) → (⟨S16, .f32⟩ : BufTy).Contents (Elt F)),
    nullary main_cst_19 (constant S_ .f32 0x00000000#32),
    binary main_v87 main_cst_19 main_v88 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_20 (constant S_ .f32 0x3F800000#32),
    unary main_cst_20 main_v89 (broadcastInDim S16 ![] bcast_S_S16 : (⟨S_, .f32⟩ : BufTy).Contents (Elt F) → (⟨S16, .f32⟩ : BufTy).Contents (Elt F)),
    binary main_v89 main_v87 main_v90 (Host.divf : (⟨S16, .f32⟩ : BufTy).Contents (Elt F) → (⟨S16, .f32⟩ : BufTy).Contents (Elt F) → (⟨S16, .f32⟩ : BufTy).Contents (Elt F)),
    nullary main_cst_21 (constant S_ .f32 0x00000000#32),
    binary main_v90 main_cst_21 main_v91 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_22 (constant S_ .f32 0x3F800000#32),
    unary main_cst_22 main_v92 (broadcastInDim S16 ![] bcast_S_S16 : (⟨S_, .f32⟩ : BufTy).Contents (Elt F) → (⟨S16, .f32⟩ : BufTy).Contents (Elt F)) ]

/-- The operations from `main_v93` to `main_v109`. -/
def seg11 : List (HloOp τ sig (Elt F)) :=
  [ binary main_v87 main_v92 main_v93 (cmpf .ole : (⟨S16, .f32⟩ : BufTy).Contents (Elt F) → (⟨S16, .f32⟩ : BufTy).Contents (Elt F) → (⟨S16, .i1⟩ : BufTy).Contents (Elt F)),
    unary main_v93 main_v94 (uitofp .f32 : (⟨S16, .i1⟩ : BufTy).Contents (Elt F) → (⟨S16, .f32⟩ : BufTy).Contents (Elt F)),
    nullary main_cst_23 (constant S_ .f32 0x00000000#32),
    binary main_v94 main_cst_23 main_v95 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_24 (constant S_ .f32 0x40400000#32),
    unary main_cst_24 main_v96 (broadcastInDim S16 ![] bcast_S_S16 : (⟨S_, .f32⟩ : BufTy).Contents (Elt F) → (⟨S16, .f32⟩ : BufTy).Contents (Elt F)),
    binary main_v87 main_v96 main_v97 (cmpf .ole : (⟨S16, .f32⟩ : BufTy).Contents (Elt F) → (⟨S16, .f32⟩ : BufTy).Contents (Elt F) → (⟨S16, .i1⟩ : BufTy).Contents (Elt F)),
    unary main_v97 main_v98 (uitofp .f32 : (⟨S16, .i1⟩ : BufTy).Contents (Elt F) → (⟨S16, .f32⟩ : BufTy).Contents (Elt F)),
    nullary main_cst_25 (constant S_ .f32 0x00000000#32),
    binary main_v98 main_cst_25 main_v99 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_26 (constant S_ .f32 0x41200000#32),
    unary main_cst_26 main_v100 (broadcastInDim S16 ![] bcast_S_S16 : (⟨S_, .f32⟩ : BufTy).Contents (Elt F) → (⟨S16, .f32⟩ : BufTy).Contents (Elt F)),
    binary main_v87 main_v100 main_v101 (cmpf .ole : (⟨S16, .f32⟩ : BufTy).Contents (Elt F) → (⟨S16, .f32⟩ : BufTy).Contents (Elt F) → (⟨S16, .i1⟩ : BufTy).Contents (Elt F)),
    unary main_v101 main_v102 (uitofp .f32 : (⟨S16, .i1⟩ : BufTy).Contents (Elt F) → (⟨S16, .f32⟩ : BufTy).Contents (Elt F)),
    nullary main_cst_27 (constant S_ .f32 0x00000000#32),
    binary main_v102 main_cst_27 main_v103 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    unary main_v88 main_v104 (broadcastInDim S1 ![] bcast_S_S1 : (⟨S_, .f32⟩ : BufTy).Contents (Elt F) → (⟨S1, .f32⟩ : BufTy).Contents (Elt F)),
    unary main_v91 main_v105 (broadcastInDim S1 ![] bcast_S_S1 : (⟨S_, .f32⟩ : BufTy).Contents (Elt F) → (⟨S1, .f32⟩ : BufTy).Contents (Elt F)),
    unary main_v95 main_v106 (broadcastInDim S1 ![] bcast_S_S1 : (⟨S_, .f32⟩ : BufTy).Contents (Elt F) → (⟨S1, .f32⟩ : BufTy).Contents (Elt F)),
    unary main_v99 main_v107 (broadcastInDim S1 ![] bcast_S_S1 : (⟨S_, .f32⟩ : BufTy).Contents (Elt F) → (⟨S1, .f32⟩ : BufTy).Contents (Elt F)),
    unary main_v103 main_v108 (broadcastInDim S1 ![] bcast_S_S1 : (⟨S_, .f32⟩ : BufTy).Contents (Elt F) → (⟨S1, .f32⟩ : BufTy).Contents (Elt F)),
    nary ![main_v104, main_v105, main_v106, main_v107, main_v108] main_v109 (fun u => (concatenate S5 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩, ⟨S1, (u 4 : (⟨S1, .f32⟩ : BufTy).Contents (Elt F))⟩] concatenates_S1_S1_S1_S1_S1_S5_d0 : (⟨S5, .f32⟩ : BufTy).Contents (Elt F))) ]

/-- The operations from `main_v110` to `main_v132`. -/
def seg12 : List (HloOp τ sig (Elt F)) :=
  [ unary main_v63 main_v110 (sitofp .f32 : (⟨S16, .i32⟩ : BufTy).Contents (Elt F) → (⟨S16, .f32⟩ : BufTy).Contents (Elt F)),
    nullary main_cst_28 (constant S_ .f32 0x00000000#32),
    binary main_v110 main_cst_28 main_v111 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_29 (constant S_ .f32 0x3F800000#32),
    unary main_cst_29 main_v112 (broadcastInDim S16 ![] bcast_S_S16 : (⟨S_, .f32⟩ : BufTy).Contents (Elt F) → (⟨S16, .f32⟩ : BufTy).Contents (Elt F)),
    binary main_v112 main_v110 main_v113 (Host.divf : (⟨S16, .f32⟩ : BufTy).Contents (Elt F) → (⟨S16, .f32⟩ : BufTy).Contents (Elt F) → (⟨S16, .f32⟩ : BufTy).Contents (Elt F)),
    nullary main_cst_30 (constant S_ .f32 0x00000000#32),
    binary main_v113 main_cst_30 main_v114 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_31 (constant S_ .f32 0x3F800000#32),
    unary main_cst_31 main_v115 (broadcastInDim S16 ![] bcast_S_S16 : (⟨S_, .f32⟩ : BufTy).Contents (Elt F) → (⟨S16, .f32⟩ : BufTy).Contents (Elt F)),
    binary main_v110 main_v115 main_v116 (cmpf .ole : (⟨S16, .f32⟩ : BufTy).Contents (Elt F) → (⟨S16, .f32⟩ : BufTy).Contents (Elt F) → (⟨S16, .i1⟩ : BufTy).Contents (Elt F)),
    unary main_v116 main_v117 (uitofp .f32 : (⟨S16, .i1⟩ : BufTy).Contents (Elt F) → (⟨S16, .f32⟩ : BufTy).Contents (Elt F)),
    nullary main_cst_32 (constant S_ .f32 0x00000000#32),
    binary main_v117 main_cst_32 main_v118 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_33 (constant S_ .f32 0x40400000#32),
    unary main_cst_33 main_v119 (broadcastInDim S16 ![] bcast_S_S16 : (⟨S_, .f32⟩ : BufTy).Contents (Elt F) → (⟨S16, .f32⟩ : BufTy).Contents (Elt F)),
    binary main_v110 main_v119 main_v120 (cmpf .ole : (⟨S16, .f32⟩ : BufTy).Contents (Elt F) → (⟨S16, .f32⟩ : BufTy).Contents (Elt F) → (⟨S16, .i1⟩ : BufTy).Contents (Elt F)),
    unary main_v120 main_v121 (uitofp .f32 : (⟨S16, .i1⟩ : BufTy).Contents (Elt F) → (⟨S16, .f32⟩ : BufTy).Contents (Elt F)),
    nullary main_cst_34 (constant S_ .f32 0x00000000#32),
    binary main_v121 main_cst_34 main_v122 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_35 (constant S_ .f32 0x41200000#32),
    unary main_cst_35 main_v123 (broadcastInDim S16 ![] bcast_S_S16 : (⟨S_, .f32⟩ : BufTy).Contents (Elt F) → (⟨S16, .f32⟩ : BufTy).Contents (Elt F)),
    binary main_v110 main_v123 main_v124 (cmpf .ole : (⟨S16, .f32⟩ : BufTy).Contents (Elt F) → (⟨S16, .f32⟩ : BufTy).Contents (Elt F) → (⟨S16, .i1⟩ : BufTy).Contents (Elt F)),
    unary main_v124 main_v125 (uitofp .f32 : (⟨S16, .i1⟩ : BufTy).Contents (Elt F) → (⟨S16, .f32⟩ : BufTy).Contents (Elt F)),
    nullary main_cst_36 (constant S_ .f32 0x00000000#32),
    binary main_v125 main_cst_36 main_v126 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    unary main_v111 main_v127 (broadcastInDim S1 ![] bcast_S_S1 : (⟨S_, .f32⟩ : BufTy).Contents (Elt F) → (⟨S1, .f32⟩ : BufTy).Contents (Elt F)),
    unary main_v114 main_v128 (broadcastInDim S1 ![] bcast_S_S1 : (⟨S_, .f32⟩ : BufTy).Contents (Elt F) → (⟨S1, .f32⟩ : BufTy).Contents (Elt F)),
    unary main_v118 main_v129 (broadcastInDim S1 ![] bcast_S_S1 : (⟨S_, .f32⟩ : BufTy).Contents (Elt F) → (⟨S1, .f32⟩ : BufTy).Contents (Elt F)),
    unary main_v122 main_v130 (broadcastInDim S1 ![] bcast_S_S1 : (⟨S_, .f32⟩ : BufTy).Contents (Elt F) → (⟨S1, .f32⟩ : BufTy).Contents (Elt F)),
    unary main_v126 main_v131 (broadcastInDim S1 ![] bcast_S_S1 : (⟨S_, .f32⟩ : BufTy).Contents (Elt F) → (⟨S1, .f32⟩ : BufTy).Contents (Elt F)),
    nary ![main_v127, main_v128, main_v129, main_v130, main_v131] main_v132 (fun u => (concatenate S5 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩, ⟨S1, (u 4 : (⟨S1, .f32⟩ : BufTy).Contents (Elt F))⟩] concatenates_S1_S1_S1_S1_S1_S5_d0 : (⟨S5, .f32⟩ : BufTy).Contents (Elt F))) ]

/-- The operations from `main_v133` to `main_v136`. -/
def seg13 : List (HloOp τ sig (Elt F)) :=
  [ unary main_v86 main_v133 (broadcastInDim S1x5 ![1] bcast_S5_S1x5_1 : (⟨S5, .f32⟩ : BufTy).Contents (Elt F) → (⟨S1x5, .f32⟩ : BufTy).Contents (Elt F)),
    unary main_v109 main_v134 (broadcastInDim S1x5 ![1] bcast_S5_S1x5_1 : (⟨S5, .f32⟩ : BufTy).Contents (Elt F) → (⟨S1x5, .f32⟩ : BufTy).Contents (Elt F)),
    unary main_v132 main_v135 (broadcastInDim S1x5 ![1] bcast_S5_S1x5_1 : (⟨S5, .f32⟩ : BufTy).Contents (Elt F) → (⟨S1x5, .f32⟩ : BufTy).Contents (Elt F)),
    nary ![main_v133, main_v134, main_v135] main_v136 (fun u => (concatenate S3x5 0 [⟨S1x5, (u 0 : (⟨S1x5, .f32⟩ : BufTy).Contents (Elt F))⟩, ⟨S1x5, (u 1 : (⟨S1x5, .f32⟩ : BufTy).Contents (Elt F))⟩, ⟨S1x5, (u 2 : (⟨S1x5, .f32⟩ : BufTy).Contents (Elt F))⟩] concatenates_S1x5_S1x5_S1x5_S3x5_d0 : (⟨S3x5, .f32⟩ : BufTy).Contents (Elt F))) ]

theorem main_part0_eq (c : Dev nD) : main_part0 (F := F) c = seq (seg0 ++ (seg1 ++ (seg2 ++ (seg3 ++ (seg4 ++ (seg5 ++ (seg6))))))) := rfl

theorem main_part1_eq (c : Dev nD) : main_part1 (F := F) c = seq (seg7 ++ (seg8 ++ (seg9 ++ (seg10)))) := rfl

theorem main_part2_eq (c : Dev nD) : main_part2 (F := F) c = seq (seg11 ++ (seg12 ++ (seg13))) := rfl

/-- All the operations. -/
def ops : List (HloOp τ sig (Elt F)) :=
  (seg0 ++ (seg1 ++ (seg2 ++ (seg3 ++ (seg4 ++ (seg5 ++ (seg6))))))) ++ ((seg7 ++ (seg8 ++ (seg9 ++ (seg10)))) ++ ((seg11 ++ (seg12 ++ (seg13)))))

theorem main_eq (c : Dev nD) : main (F := F) c = seq ops := by
  simp only [ops]
  rw [seq_append (seg0 ++ (seg1 ++ (seg2 ++ (seg3 ++ (seg4 ++ (seg5 ++ (seg6))))))), seq_append (seg7 ++ (seg8 ++ (seg9 ++ (seg10)))), ← main_part0_eq c, ← main_part1_eq c, ← main_part2_eq c]
  rfl

/-! ## What the operations touch -/

/-- The number of a buffer. -/
abbrev num (r : Ref sig .tc) : ℕ := r.idx.val

/-- An operation over the device's buffers that writes one, whose number is in `[lo, hi)`. -/
def Ok (lo hi : ℕ) (op : HloOp τ sig (Elt F)) : Prop :=
  op.bufs ⊆ tcRefs τ sig ∧ op.fresh = ∅ ∧ ∃ r : Ref sig .tc, op.writes = {Proc.devRef .tc r} ∧ lo ≤ num r ∧ num r < hi

section Kinds
variable {lo hi : ℕ} {x a b c e y : Ref sig .tc}
theorem ok_nullary (v : y.ty.Contents (Elt F)) (hy) (h : lo ≤ num y ∧ num y < hi) :
    Ok lo hi (nullary (τ := τ) y v hy) := ⟨nullary_bufs_sub .., rfl, y, nullary_writes .., h⟩
theorem ok_unary (f : x.ty.Contents (Elt F) → y.ty.Contents (Elt F)) (hx hy) (h : lo ≤ num y ∧ num y < hi) :
    Ok lo hi (unary (τ := τ) x y f hx hy) := ⟨unary_bufs_sub .., rfl, y, unary_writes .., h⟩
theorem ok_binary (f : a.ty.Contents (Elt F) → b.ty.Contents (Elt F) → y.ty.Contents (Elt F)) (ha hb hy)
    (h : lo ≤ num y ∧ num y < hi) :
    Ok lo hi (binary (τ := τ) a b y f ha hb hy) := ⟨binary_bufs_sub .., rfl, y, binary_writes .., h⟩
theorem ok_ternary (f : c.ty.Contents (Elt F) → a.ty.Contents (Elt F) → b.ty.Contents (Elt F) → y.ty.Contents (Elt F))
    (hc ha hb hy) (h : lo ≤ num y ∧ num y < hi) :
    Ok lo hi (ternary (τ := τ) c a b y f hc ha hb hy) := ⟨ternary_bufs_sub .., rfl, y, ternary_writes .., h⟩
theorem ok_quaternary (f : a.ty.Contents (Elt F) → b.ty.Contents (Elt F) → c.ty.Contents (Elt F) → e.ty.Contents (Elt F) → y.ty.Contents (Elt F))
    (ha hb hc he hy) (h : lo ≤ num y ∧ num y < hi) :
    Ok lo hi (quaternary (τ := τ) a b c e y f ha hb hc he hy) := ⟨quaternary_bufs_sub .., rfl, y, quaternary_writes .., h⟩
theorem ok_reshape (he hn hx hy) (h : lo ≤ num y ∧ num y < hi) :
    Ok lo hi (reshape (τ := τ) (Val := Elt F) x y he hn hx hy) := ⟨reshape_bufs_sub .., rfl, y, reshape_writes .., h⟩
theorem ok_nary {n : ℕ} (xs : Fin n → Ref sig .tc) (f : ((k : Fin n) → (xs k).ty.Contents (Elt F)) → y.ty.Contents (Elt F)) (hxs hy)
    (h : lo ≤ num y ∧ num y < hi) :
    Ok lo hi (nary (τ := τ) xs y f hxs hy) := ⟨nary_bufs_sub .., rfl, y, nary_writes .., h⟩
end Kinds

/-- A buffer outside the numbers a list writes keeps its contents through it. -/
theorem keep {lo hi : ℕ} {l : List (HloOp τ sig (Elt F))} (h : l.Forall (Ok lo hi)) (V : Valuation τ sig (Elt F)) (r : Ref sig .tc)
    (hr : num r < lo ∨ hi ≤ num r) : after l V (Proc.devRef .tc r) = V (Proc.devRef .tc r) := by
  refine after_of_forall_not_mem _ _ fun op hop hw => ?_
  obtain ⟨-, -, q, e, h1, h2⟩ := List.forall_iff_forall_mem.mp h op hop
  rw [e, Finset.mem_singleton] at hw
  obtain rfl : r = q := Proc.devRef_injective (τ := τ) _ hw
  omega

theorem seg0_ok : (seg0 : List (HloOp τ sig (Elt F))).Forall (Ok 8 34) := by
  unfold seg0; simp only [List.cons_append, List.nil_append, List.Forall]; repeat' with_reducible apply And.intro
  all_goals first | apply ok_unary | apply ok_binary | apply ok_nullary | apply ok_ternary | apply ok_reshape | apply ok_nary | apply ok_quaternary
  all_goals decide

theorem seg1_ok : (seg1 : List (HloOp τ sig (Elt F))).Forall (Ok 34 60) := by
  unfold seg1; simp only [List.cons_append, List.nil_append, List.Forall]; repeat' with_reducible apply And.intro
  all_goals first | apply ok_unary | apply ok_binary | apply ok_nullary | apply ok_ternary | apply ok_reshape | apply ok_nary | apply ok_quaternary
  all_goals decide

theorem seg2_ok : (seg2 : List (HloOp τ sig (Elt F))).Forall (Ok 60 86) := by
  unfold seg2; simp only [List.cons_append, List.nil_append, List.Forall]; repeat' with_reducible apply And.intro
  all_goals first | apply ok_unary | apply ok_binary | apply ok_nullary | apply ok_ternary | apply ok_reshape | apply ok_nary | apply ok_quaternary
  all_goals decide

theorem seg3_ok : (seg3 : List (HloOp τ sig (Elt F))).Forall (Ok 86 112) := by
  unfold seg3; simp only [List.cons_append, List.nil_append, List.Forall]; repeat' with_reducible apply And.intro
  all_goals first | apply ok_unary | apply ok_binary | apply ok_nullary | apply ok_ternary | apply ok_reshape | apply ok_nary | apply ok_quaternary
  all_goals decide

theorem seg4_ok : (seg4 : List (HloOp τ sig (Elt F))).Forall (Ok 112 141) := by
  unfold seg4; simp only [List.cons_append, List.nil_append, List.Forall]; repeat' with_reducible apply And.intro
  all_goals first | apply ok_unary | apply ok_binary | apply ok_nullary | apply ok_ternary | apply ok_reshape | apply ok_nary | apply ok_quaternary
  all_goals decide

theorem seg5_ok : (seg5 : List (HloOp τ sig (Elt F))).Forall (Ok 141 145) := by
  unfold seg5; simp only [List.cons_append, List.nil_append, List.Forall]; repeat' with_reducible apply And.intro
  all_goals first | apply ok_unary | apply ok_binary | apply ok_nullary | apply ok_ternary | apply ok_reshape | apply ok_nary | apply ok_quaternary
  all_goals decide

theorem seg6_ok : (seg6 : List (HloOp τ sig (Elt F))).Forall (Ok 145 160) := by
  unfold seg6; simp only [List.cons_append, List.nil_append, List.Forall]; repeat' with_reducible apply And.intro
  all_goals first | apply ok_unary | apply ok_binary | apply ok_nullary | apply ok_ternary | apply ok_reshape | apply ok_nary | apply ok_quaternary
  all_goals decide

theorem seg7_ok : (seg7 : List (HloOp τ sig (Elt F))).Forall (Ok 160 173) := by
  unfold seg7; simp only [List.cons_append, List.nil_append, List.Forall]; repeat' with_reducible apply And.intro
  all_goals first | apply ok_unary | apply ok_binary | apply ok_nullary | apply ok_ternary | apply ok_reshape | apply ok_nary | apply ok_quaternary
  all_goals decide

theorem seg8_ok : (seg8 : List (HloOp τ sig (Elt F))).Forall (Ok 173 186) := by
  unfold seg8; simp only [List.cons_append, List.nil_append, List.Forall]; repeat' with_reducible apply And.intro
  all_goals first | apply ok_unary | apply ok_binary | apply ok_nullary | apply ok_ternary | apply ok_reshape | apply ok_nary | apply ok_quaternary
  all_goals decide

theorem seg9_ok : (seg9 : List (HloOp τ sig (Elt F))).Forall (Ok 186 218) := by
  unfold seg9; simp only [List.cons_append, List.nil_append, List.Forall]; repeat' with_reducible apply And.intro
  all_goals first | apply ok_unary | apply ok_binary | apply ok_nullary | apply ok_ternary | apply ok_reshape | apply ok_nary | apply ok_quaternary
  all_goals decide

theorem seg10_ok : (seg10 : List (HloOp τ sig (Elt F))).Forall (Ok 218 228) := by
  unfold seg10; simp only [List.cons_append, List.nil_append, List.Forall]; repeat' with_reducible apply And.intro
  all_goals first | apply ok_unary | apply ok_binary | apply ok_nullary | apply ok_ternary | apply ok_reshape | apply ok_nary | apply ok_quaternary
  all_goals decide

theorem seg11_ok : (seg11 : List (HloOp τ sig (Elt F))).Forall (Ok 228 250) := by
  unfold seg11; simp only [List.cons_append, List.nil_append, List.Forall]; repeat' with_reducible apply And.intro
  all_goals first | apply ok_unary | apply ok_binary | apply ok_nullary | apply ok_ternary | apply ok_reshape | apply ok_nary | apply ok_quaternary
  all_goals decide

theorem seg12_ok : (seg12 : List (HloOp τ sig (Elt F))).Forall (Ok 250 282) := by
  unfold seg12; simp only [List.cons_append, List.nil_append, List.Forall]; repeat' with_reducible apply And.intro
  all_goals first | apply ok_unary | apply ok_binary | apply ok_nullary | apply ok_ternary | apply ok_reshape | apply ok_nary | apply ok_quaternary
  all_goals decide

theorem seg13_ok : (seg13 : List (HloOp τ sig (Elt F))).Forall (Ok 282 286) := by
  unfold seg13; simp only [List.cons_append, List.nil_append, List.Forall]; repeat' with_reducible apply And.intro
  all_goals first | apply ok_unary | apply ok_binary | apply ok_nullary | apply ok_ternary | apply ok_reshape | apply ok_nary | apply ok_quaternary
  all_goals decide

/-- Every operation: over the device's buffers, and writing none of the arguments'. -/
theorem ops_ok : ∀ op ∈ (ops : List (HloOp τ sig (Elt F))), ∃ lo hi, 8 ≤ lo ∧ Ok lo hi op := fun op h => by
  simp only [ops, List.mem_append, or_assoc] at h
  have key : ∀ {lo hi : ℕ} {l : List (HloOp τ sig (Elt F))}, l.Forall (Ok lo hi) → 8 ≤ lo → op ∈ l → ∃ lo hi, 8 ≤ lo ∧ Ok lo hi op :=
    fun hl h8 hop => ⟨_, _, h8, List.forall_iff_forall_mem.mp hl op hop⟩
  rcases h with h | h | h | h | h | h | h | h | h | h | h | h | h | h
  all_goals first | exact key seg0_ok (by decide) h | exact key seg1_ok (by decide) h | exact key seg2_ok (by decide) h | exact key seg3_ok (by decide) h | exact key seg4_ok (by decide) h | exact key seg5_ok (by decide) h | exact key seg6_ok (by decide) h | exact key seg7_ok (by decide) h | exact key seg8_ok (by decide) h | exact key seg9_ok (by decide) h | exact key seg10_ok (by decide) h | exact key seg11_ok (by decide) h | exact key seg12_ok (by decide) h | exact key seg13_ok (by decide) h

theorem keep_arg (V : Valuation τ sig (Elt F)) (r : Ref sig .tc) (hr : num r < 8) :
    after (ops (F := F)) V (Proc.devRef .tc r) = V (Proc.devRef .tc r) := by
  refine after_of_forall_not_mem _ _ fun op hop hw => ?_
  obtain ⟨lo, hi, h8, -, -, q, e, h1, h2⟩ := ops_ok op hop
  rw [e, Finset.mem_singleton] at hw
  obtain rfl : r = q := Proc.devRef_injective (τ := τ) _ hw
  omega

/-! ## The run -/

theorem scopedRefs_eq : (Finset.univ.filter fun b : Ref sig .tc => b.isScoped) = ∅ := by decide
theorem scopedSems_eq : (Finset.univ.filter fun sm : SemLoc sig => sm.isScoped .tc) = ∅ := by decide

/-- The reference's run: every buffer ends with what its operations leave. -/
theorem run (m : (ℓ : Loc nD τ sig) → Buf (Elt F) ℓ) (ρ : Dev nD → PrngReg) :
    θ_run defs (onTc main) ⟨m, fun _ => 0, ρ⟩ fun r => ∀ (d : Dev nD) (b : Ref sig .tc),
      r.2.mem (d.tc.loc b) = after (ops (F := F)) (launchContents m d) (Proc.devRef .tc b) :=
  run_seq scopedRefs_eq scopedSems_eq defs main (fun _ => ops) main_eq
    (fun _ => (List.forall_iff_forall_mem).mpr fun op h => by obtain ⟨_, _, _, h1, _⟩ := ops_ok op h; exact h1) m ρ
    fun _ op h => by obtain ⟨_, _, _, _, h2, _⟩ := ops_ok op h; exact h2

/-- The frame: every argument keeps its contents, and no counter is left up. -/
theorem frame (m : (ℓ : Loc nD τ sig) → Buf (Elt F) ℓ) (ρ : Dev nD → PrngReg) :
    θ_run defs (onTc (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 := by
  refine (θ_run defs _ _).mono (fun r h => ⟨fun c => ?_, sem_eq_zero_of_no_sems (by decide) _⟩) (run m ρ)
  have arg : ∀ b : Ref sig .tc, num b < 8 → r.2.mem ((c.tc : Thread nD τ).loc b) = m ((c.tc : Thread nD τ).loc b) :=
    fun b hb => (h c b).trans (keep_arg _ b hb)
  exact ⟨arg _ (by decide), arg _ (by decide), arg _ (by decide), arg _ (by decide), arg _ (by decide), arg _ (by decide),
    arg _ (by decide), arg _ (by decide)⟩

end Cert.ReferenceIdeal.Lines

end
-- ==== Proof.Frames.lean ====
module

public import proofs.«01_k».proof.Defs
public import proofs.«01_k».proof.Proof.Kern
public import proofs.«01_k».proof.Proof.Pre
public import proofs.«01_k».proof.Proof.PreFinite
public import proofs.«01_k».proof.Proof.RefRun

@[expose] public section

noncomputable section

/-! The frames: each program runs, its arguments end unchanged and no counter is left up. -/

namespace Cert.Frames

open Idealize.ShloMosaic Idealize.SL.Sem

attribute [local instance] Cert.Kernel.Gen.facts Cert.KernelIdeal.Gen.facts Cert.ReferenceIdeal.Gen.facts Cert.Pre.facts Cert.PreFinite.facts

theorem kernel : Cert.quiescent_Kernel := fun m ρ hp =>
  Cert.Kern.frame m ρ (Cert.Pre.inRange m fun c => Cert.Pre.small (hp c))

theorem kernelIdeal : Cert.quiescent_KernelIdeal := fun m ρ hp =>
  Cert.KernelIdeal.Body.frame m ρ (Cert.Pre.inRange m fun c => Cert.Pre.small (hp c))

theorem kernelIdealFinite : Cert.quiescent_KernelIdeal_pre_rows_in_range_finite := fun m ρ hp =>
  Cert.KernelIdeal.Body.frame m ρ (Cert.Pre.inRange m fun c => Cert.PreFinite.small (hp c).1)

theorem referenceFinite : Cert.quiescent_ReferenceIdeal_pre_rows_in_range_finite := fun m ρ _ => Cert.ReferenceIdeal.Lines.frame m ρ

theorem reference : Cert.quiescent_ReferenceIdeal := fun m ρ _ => Cert.ReferenceIdeal.Lines.frame m ρ

end Cert.Frames

end
-- ==== Proof.KerBlocks.lean ====
module

public import proofs.«01_k».proof.Proof.Body
public import proofs.«01_k».proof.Proof.KerVal

@[expose] public section

set_option maxRecDepth 16384

noncomputable section

/-! What the windows' blocks hold, in terms of the arguments. -/

namespace Cert.KernelIdeal.Blocks

open Idealize.ShloMosaic Idealize.ShloMosaic.TcCoe
open Cert.KernelIdeal Cert.KernelIdeal.Gen Cert.KernelIdeal.Body

variable {F : FTy → Type} [FloatOps F]

variable (m : (ℓ : Loc nD τ sig) → Buf (Elt F) ℓ) (c : Dev nD)

theorem point_lt (t : Fin cfg0.N) : t.val < 4 := lt_of_lt_of_eq t.isLt N_0

/-- Row `k` of block `t` among all the rows. -/
def at4 (t : Fin cfg0.N) (k : Fin 8192) : Fin 32768 := ⟨8192 * t.val + k.val, by have := point_lt t; omega⟩

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem emb0 (t : Fin cfg0.N) (j : S16x3.Idx) : ((cfg0.win 0).blk t).view.emb j = j := by
  obtain ⟨e0, e1⟩ := idx0 t
  funext a; apply Fin.ext
  match a with
  | ⟨0, _⟩ => show win0_0.index t (0 : Fin 2) * 16 + 1 * (j 0).val = (j 0).val; omega
  | ⟨1, _⟩ => show win0_0.index t (1 : Fin 2) * 3 + 1 * (j 1).val = (j 1).val; omega
theorem emb1 (t : Fin cfg0.N) (j : S500x128.Idx) : ((cfg0.win 1).blk t).view.emb j = j := by
  obtain ⟨e0, e1⟩ := idx1 t
  funext a; apply Fin.ext
  match a with
  | ⟨0, _⟩ => show win0_1.index t (0 : Fin 2) * 500 + 1 * (j 0).val = (j 0).val; omega
  | ⟨1, _⟩ => show win0_1.index t (1 : Fin 2) * 128 + 1 * (j 1).val = (j 1).val; omega
theorem emb2 (t : Fin cfg0.N) (k : Fin 8192) (d : Fin 64) : ((cfg0.win 2).blk t).view.emb (ix2 k d) = ix2 (at4 t k) d := by
  obtain ⟨e0, e1⟩ := idx2 t
  funext a; apply Fin.ext
  match a with
  | ⟨0, _⟩ => show win0_2.index t (0 : Fin 2) * 8192 + 1 * k.val = 8192 * t.val + k.val; omega
  | ⟨1, _⟩ => show win0_2.index t (1 : Fin 2) * 64 + 1 * d.val = d.val; omega
theorem emb3 (t : Fin cfg0.N) (k : Fin 8192) (d : Fin 64) : ((cfg0.win 3).blk t).view.emb (ix2 k d) = ix2 (at4 t k) d := by
  obtain ⟨e0, e1⟩ := idx3 t
  funext a; apply Fin.ext
  match a with
  | ⟨0, _⟩ => show win0_3.index t (0 : Fin 2) * 8192 + 1 * k.val = 8192 * t.val + k.val; omega
  | ⟨1, _⟩ => show win0_3.index t (1 : Fin 2) * 64 + 1 * d.val = d.val; omega
theorem emb4 (t : Fin cfg0.N) (b : Fin 16) (k : Fin 8192) : ((cfg0.win 4).blk t).view.emb (ix2 b k) = ix2 b (at4 t k) := by
  obtain ⟨e0, e1⟩ := idx4 t
  funext a; apply Fin.ext
  match a with
  | ⟨0, _⟩ => show win0_4.index t (0 : Fin 2) * 16 + 1 * b.val = b.val; omega
  | ⟨1, _⟩ => show win0_4.index t (1 : Fin 2) * 8192 + 1 * k.val = 8192 * t.val + k.val; omega
theorem emb5 (t : Fin cfg0.N) (b : Fin 16) (k : Fin 8192) : ((cfg0.win 5).blk t).view.emb (ix2 b k) = ix2 b (at4 t k) := by
  obtain ⟨e0, e1⟩ := idx5 t
  funext a; apply Fin.ext
  match a with
  | ⟨0, _⟩ => show win0_5.index t (0 : Fin 2) * 16 + 1 * b.val = b.val; omega
  | ⟨1, _⟩ => show win0_5.index t (1 : Fin 2) * 8192 + 1 * k.val = 8192 * t.val + k.val; omega
theorem emb6 (t : Fin cfg0.N) (j : S16x128.Idx) : ((cfg0.win 6).blk t).view.emb j = j := by
  obtain ⟨e0, e1⟩ := idx6 t
  funext a; apply Fin.ext
  match a with
  | ⟨0, _⟩ => show win0_6.index t (0 : Fin 2) * 16 + 1 * (j 0).val = (j 0).val; omega
  | ⟨1, _⟩ => show win0_6.index t (1 : Fin 2) * 128 + 1 * (j 1).val = (j 1).val; omega
theorem emb7 (t : Fin cfg0.N) (j : S3x5.Idx) : ((cfg0.win 7).blk t).view.emb j = j := by
  obtain ⟨e0, e1⟩ := idx7 t
  funext a; apply Fin.ext
  match a with
  | ⟨0, _⟩ => show win0_7.index t (0 : Fin 2) * 3 + 1 * (j 0).val = (j 0).val; omega
  | ⟨1, _⟩ => show win0_7.index t (1 : Fin 2) * 5 + 1 * (j 1).val = (j 1).val; omega

/-! ## The arguments -/

abbrev arg0 : Vec F S16x3 .i32 := m ((c : Thread nD τ).loc main_arg0)
abbrev arg2 : Vec F S16x32768 .i1 := m ((c : Thread nD τ).loc main_arg2)
abbrev arg3 : Vec F S16x32768 .i1 := m ((c : Thread nD τ).loc main_arg3)
abbrev arg4 : Vec F S32768x64 .f32 := m ((c : Thread nD τ).loc main_arg4)
abbrev arg5 : Vec F S32768x64 .f32 := m ((c : Thread nD τ).loc main_arg5)
abbrev arg6 : Vec F S500x64 .f32 := m ((c : Thread nD τ).loc main_arg6)
abbrev arg7 : Vec F S500x64 .f32 := m ((c : Thread nD τ).loc main_arg7)

theorem trip_eq (t : Fin cfg0.N) : iblk m c 0 t = arg0 m c := by
  funext j; show V m c main_arg0 (((cfg0.win 0).blk t).view.emb j) = _; rw [emb0, V_main_arg0]
theorem blkR_apply (t : Fin cfg0.N) (k : Fin 8192) (d : Fin 64) : (iblk m c 2 t : Vec F S8192x64 .f32) (ix2 k d) = arg4 m c (ix2 (at4 t k) d) := by
  show V m c main_arg4 (((cfg0.win 2).blk t).view.emb (ix2 k d)) = _; rw [emb2, V_main_arg4]
theorem blkI_apply (t : Fin cfg0.N) (k : Fin 8192) (d : Fin 64) : (iblk m c 3 t : Vec F S8192x64 .f32) (ix2 k d) = arg5 m c (ix2 (at4 t k) d) := by
  show V m c main_arg5 (((cfg0.win 3).blk t).view.emb (ix2 k d)) = _; rw [emb3, V_main_arg5]

/-- The relations' table: the two arguments side by side. -/
theorem V_rels : V m c main_v0 = concatenate S500x128 1 [⟨S500x64, arg6 m c⟩, ⟨S500x64, arg7 m c⟩] concatenates_S500x64_S500x64_S500x128_d1 := by
  show StableHlo.after (List.flatten [hostOps0]) (fun b => m (c, b)) (Proc.devRef .tc main_v0) = _
  simp only [hostOps0, List.flatten_cons, List.flatten_nil, List.append_nil, List.cons_append, List.nil_append]
  after_results_simp
/-- The label byte: the first argument's bit and twice the second's. -/
theorem V_labels : V m c main_v6 = trunci 8 (addi (extui 32 (arg2 m c) natLt_1_32)
    (muli (broadcastInDim S16x32768 ![] bcast_S_S16x32768 (constantI S_ 32 2#32)) (extui 32 (arg3 m c) natLt_1_32))) natLt_8_32 := by
  show StableHlo.after (List.flatten [hostOps0]) (fun b => m (c, b)) (Proc.devRef .tc main_v6) = _
  simp only [hostOps0, List.flatten_cons, List.flatten_nil, List.append_nil, List.cons_append, List.nil_append]
  after_results_simp

theorem rels_apply (t : Fin cfg0.N) (j : S500x128.Idx) : (iblk m c 1 t : Vec F S500x128 .f32) j
    = concatenate S500x128 1 [⟨S500x64, arg6 m c⟩, ⟨S500x64, arg7 m c⟩] concatenates_S500x64_S500x64_S500x128_d1 j := by
  show V m c main_v0 (((cfg0.win 1).blk t).view.emb j) = _; rw [emb1, V_rels]
theorem blkL_apply (t : Fin cfg0.N) (b : Fin 16) (k : Fin 8192) : (iblk m c 4 t : Vec F S16x8192 .i8) (ix2 b k)
    = (trunci 8 (addi (extui 32 (arg2 m c) natLt_1_32)
        (muli (broadcastInDim S16x32768 ![] bcast_S_S16x32768 (constantI S_ 32 2#32)) (extui 32 (arg3 m c) natLt_1_32))) natLt_8_32 : Vec F S16x32768 .i8) (ix2 b (at4 t k)) := by
  show V m c main_v6 (((cfg0.win 4).blk t).view.emb (ix2 b k)) = _; rw [emb4, V_labels]

end Cert.KernelIdeal.Blocks

end
-- ==== Proof.KerScore.lean ====
module

public import proofs.«01_k».proof.Proof.KerBlocks
public import proofs.«01_k».proof.Proof.Spec

@[expose] public section

set_option maxRecDepth 16384

noncomputable section

/-! The kernel's scores and counters are the specification's. -/

namespace Cert.KernelIdeal.Score

open Idealize.ShloMosaic Idealize.ShloMosaic.TcCoe
open Cert.KernelIdeal Cert.KernelIdeal.Gen Cert.KernelIdeal.Body Cert.KernelIdeal.Blocks Cert.KernelIdeal.Val

/-! ## The left factors -/

theorem rowN_apply (x : Vec Ideal S8192x64 .f32) (w : BitVec 32) (h : w.toNat < 500) (d : Fin 64) :
    rowN x w h (ix2 0 d) = x (ix2 ⟨w.toNat, by omega⟩ d) := by
  refine congrArg x ?_
  funext a
  match a with
  | ⟨0, _⟩ => exact Fin.ext (by show w.toNat + 1 * 0 = w.toNat; omega)
  | ⟨1, _⟩ => exact Fin.ext (by show 0 + 1 * d.val = d.val; omega)

theorem rowR_apply (x : Vec Ideal S500x128 .f32) (w : BitVec 32) (h : w.toNat < 500) (d : Fin 128) :
    rowR x w h (ix2 0 d) = x (ix2 ⟨w.toNat, h⟩ d) := by
  refine congrArg x ?_
  funext a
  match a with
  | ⟨0, _⟩ => exact Fin.ext (by show w.toNat + 1 * 0 = w.toNat; omega)
  | ⟨1, _⟩ => exact Fin.ext (by show 0 + 1 * d.val = d.val; omega)

/-- Column `d` of the first half of a relation's row, and of the second. -/
def lo (d : Fin 64) : Fin 128 := ⟨d.val, by omega⟩
def hi (d : Fin 64) : Fin 128 := ⟨64 + d.val, by omega⟩

theorem pay10_apply (u v : Vec Ideal S1x64 .f32) (r : Vec Ideal S1x128 .f32) (d : Fin 64) :
    k0_pay10 u v r (ix2 0 d) = r (ix2 0 (lo d)) * u (ix2 0 d) - r (ix2 0 (hi d)) * v (ix2 0 d) := by
  unfold lo hi
  pointwise [k0_pay10, k0_pay7, k0_pay8, k0_pay9]

theorem pay11_apply (u v : Vec Ideal S1x64 .f32) (r : Vec Ideal S1x128 .f32) (d : Fin 64) :
    k0_pay11 u v r (ix2 0 d) = r (ix2 0 (lo d)) * v (ix2 0 d) + r (ix2 0 (hi d)) * u (ix2 0 d) := by
  unfold lo hi
  pointwise [k0_pay11, k0_pay7, k0_pay8, k0_pay9]

theorem rels_lo (p q : Vec Ideal S500x64 .f32) (r : Fin 500) (d : Fin 64) :
    concatenate S500x128 1 [⟨S500x64, p⟩, ⟨S500x64, q⟩] concatenates_S500x64_S500x64_S500x128_d1 (ix2 r (lo d)) = p (ix2 r d) := by
  unfold lo
  pointwise

theorem rels_hi (p q : Vec Ideal S500x64 .f32) (r : Fin 500) (d : Fin 64) :
    concatenate S500x128 1 [⟨S500x64, p⟩, ⟨S500x64, q⟩] concatenates_S500x64_S500x64_S500x128_d1 (ix2 r (hi d)) = q (ix2 r d) := by
  unfold hi
  pointwise

/-! ## The label byte -/

/-- The byte of the two bits. -/
def byte (p q : BitVec 1) : BitVec 8 := BitVec.setWidth 8 (BitVec.setWidth 32 p + 2#32 * BitVec.setWidth 32 q)

theorem byte_apply (p q : Vec Ideal S16x32768 .i1) (j : S16x32768.Idx) :
    (trunci 8 (addi (extui 32 p natLt_1_32)
        (muli (broadcastInDim S16x32768 ![] bcast_S_S16x32768 (constantI S_ 32 2#32)) (extui 32 q natLt_1_32))) natLt_8_32 : Vec Ideal S16x32768 .i8) j
      = byte (p j) (q j) := by
  unfold byte
  pointwise
  rfl

theorem byte_low : ∀ p q : BitVec 1, IntOp.cmpi .ne (IntOp.andi (byte p q) 1#8) 0#8 = p := by decide
theorem byte_any : ∀ p q : BitVec 1, IntOp.cmpi .ne (byte p q) 0#8 = p ||| q := by decide
theorem masked_twice (p q : BitVec 1) (x : EReal) : Spec.masked q (Spec.masked p x) = Spec.masked (p ||| q) x := by
  have h : ∀ p q : BitVec 1, (p ||| q = 1#1) ↔ (q = 1#1 ∨ p = 1#1) := by decide
  unfold Spec.masked
  by_cases h1 : q = 1#1
  · rw [if_pos h1, if_pos ((h p q).mpr (.inl h1))]
  · by_cases h2 : p = 1#1
    · rw [if_neg h1, if_pos h2, if_pos ((h p q).mpr (.inr h2))]
    · rw [if_neg h1, if_neg h2, if_neg fun h3 => ((h p q).mp h3).elim h1 h2]

/-! ## The scores -/

variable (m : (ℓ : Loc nD τ sig) → Buf (Elt Ideal) ℓ) (hw : InRange m) (c : Dev nD)

/-- The arguments on a core. -/
def args : Spec.Args := ⟨arg0 m c, arg2 m c, arg3 m c, arg4 m c, arg5 m c, arg6 m c, arg7 m c⟩

include hw in
theorem args_small : (args m c).Small := fun y => by
  have := hw c y
  rwa [trip_eq] at this

theorem node_lt (w : BitVec 32) (h : w.toNat < 500) : at4 (tp 0) ⟨w.toNat, by omega⟩ = Spec.node w := by
  refine Fin.ext ?_
  show 8192 * (0 % 4) + w.toNat = w.toNat % 32768
  omega
theorem rel_lt (w : BitVec 32) (h : w.toNat < 500) : (⟨w.toNat, h⟩ : Fin 500) = Spec.rel w :=
  Fin.ext (Nat.mod_eq_of_lt h).symm

/-- The named rows of a triplet. -/
abbrev hr (b : Fin 16) (d : Fin 64) : EReal := (args m c).nodeR (ix2 (Spec.node ((args m c).trip (ix2 b 0))) d)
abbrev hi' (b : Fin 16) (d : Fin 64) : EReal := (args m c).nodeI (ix2 (Spec.node ((args m c).trip (ix2 b 0))) d)
abbrev rr (b : Fin 16) (d : Fin 64) : EReal := (args m c).relR (ix2 (Spec.rel ((args m c).trip (ix2 b 1))) d)
abbrev ri (b : Fin 16) (d : Fin 64) : EReal := (args m c).relI (ix2 (Spec.rel ((args m c).trip (ix2 b 1))) d)

theorem word_trip (b : Fin 16) (k : Fin 3) : word (trip m c) b k = (args m c).trip (ix2 b k) := by
  rw [word_eq]
  exact congrFun (trip_eq m c (tp 0)) _

theorem row_re (b : Fin 16) (d : Fin 64) (h) : rowN (blkR m c 0) (word (trip m c) b 0) h (ix2 0 d) = hr m c b d := by
  rw [rowN_apply]
  refine (blkR_apply m c (tp 0) _ d).trans ?_
  rw [node_lt _ h, word_trip]; rfl
theorem row_im (b : Fin 16) (d : Fin 64) (h) : rowN (blkI m c 0) (word (trip m c) b 0) h (ix2 0 d) = hi' m c b d := by
  rw [rowN_apply]
  refine (blkI_apply m c (tp 0) _ d).trans ?_
  rw [node_lt _ h, word_trip]; rfl
theorem row_rr (b : Fin 16) (d : Fin 64) (h) : rowR (rels m c) (word (trip m c) b 1) h (ix2 0 (lo d)) = rr m c b d := by
  rw [rowR_apply]
  refine (rels_apply m c (tp 0) _).trans ((rels_lo _ _ _ d).trans ?_)
  rw [rel_lt, word_trip]; rfl
theorem row_ri (b : Fin 16) (d : Fin 64) (h) : rowR (rels m c) (word (trip m c) b 1) h (ix2 0 (hi d)) = ri m c b d := by
  rw [rowR_apply]
  refine (rels_apply m c (tp 0) _).trans ((rels_hi _ _ _ d).trans ?_)
  rw [rel_lt, word_trip]; rfl

theorem aM_apply (b : Fin 16) (d : Fin 64) : aM m hw c (ix2 b d) = rr m c b d * hr m c b d - ri m c b d * hi' m c b d :=
  (pay10_apply _ _ _ d).trans (congrArg₂ (· - ·) (congrArg₂ (· * ·) (row_rr m c b d (hw c _)) (row_re m c b d (hw c _)))
    (congrArg₂ (· * ·) (row_ri m c b d (hw c _)) (row_im m c b d (hw c _))))
theorem bM_apply (b : Fin 16) (d : Fin 64) : bM m hw c (ix2 b d) = rr m c b d * hi' m c b d + ri m c b d * hr m c b d :=
  (pay11_apply _ _ _ d).trans (congrArg₂ (· + ·) (congrArg₂ (· * ·) (row_rr m c b d (hw c _)) (row_im m c b d (hw c _)))
    (congrArg₂ (· * ·) (row_ri m c b d (hw c _)) (row_re m c b d (hw c _))))

variable (hx : (args m c).Reals)

include hx in
theorem sB_block (t : Fin cfg0.N) (b : Fin 16) (k : Fin 8192) :
    sB (aM m hw c) (bM m hw c) (iblk m c 2 t) (iblk m c 3 t) (ix2 b k) = Spec.all (args m c) b (at4 t k) := by
  rw [sB_apply]
  refine Eq.trans ?_ (Spec.score_eq _ _ _ _ _ _ (fun d => hx.1 _) (fun d => hx.2.1 _) (fun d => hx.2.2.1 _) (fun d => hx.2.2.2 _) (fun d => hx.1 _) fun d => hx.2.1 _)
  refine congrArg₂ (· + ·) (Finset.sum_congr rfl fun d _ => ?_) (Finset.sum_congr rfl fun d _ => ?_)
  · exact congrArg₂ (· * ·) (aM_apply m hw c b d) (blkR_apply m c t k d)
  · exact congrArg₂ (· * ·) (bM_apply m hw c b d) (blkI_apply m c t k d)

theorem lab_low (t : Fin cfg0.N) (b : Fin 16) (k : Fin 8192) :
    k0_pay121 (F := Ideal) (iblk m c 4 t) (ix2 b k) = (args m c).tailMask (ix2 b (at4 t k)) := by
  rw [pay121_apply, blkL_apply, byte_apply, byte_low]; rfl
theorem lab_any (t : Fin cfg0.N) (b : Fin 16) (k : Fin 8192) :
    k0_pay122 (F := Ideal) (iblk m c 4 t) (ix2 b k) = (args m c).tailMask (ix2 b (at4 t k)) ||| (args m c).fullMask (ix2 b (at4 t k)) := by
  rw [pay122_apply, blkL_apply, byte_apply, byte_any]; rfl

include hx in
theorem fB_block (t : Fin cfg0.N) (b : Fin 16) (k : Fin 8192) :
    fB (aM m hw c) (bM m hw c) (iblk m c 2 t) (iblk m c 3 t) (iblk m c 4 t) (ix2 b k) = Spec.tails (args m c) b (at4 t k) := by
  rw [fB_apply, lab_low, sB_block m hw c hx]; rfl
include hx in
theorem tfB_block (t : Fin cfg0.N) (b : Fin 16) (k : Fin 8192) :
    tfB (aM m hw c) (bM m hw c) (iblk m c 2 t) (iblk m c 3 t) (iblk m c 4 t) (ix2 b k) = Spec.full (args m c) b (at4 t k) := by
  rw [tfB_apply, lab_any, sB_block m hw c hx]
  exact (masked_twice _ _ _).symm

end Cert.KernelIdeal.Score

end
-- ==== Proof.KerCount.lean ====
module

public import proofs.«01_k».proof.Proof.KerScore

@[expose] public section

set_option maxRecDepth 16384

noncomputable section

/-! The kernel's counters are the ranks less one. -/

namespace Cert.KernelIdeal.Score

open Idealize.ShloMosaic Idealize.ShloMosaic.TcCoe
open Cert.KernelIdeal Cert.KernelIdeal.Gen Cert.KernelIdeal.Body Cert.KernelIdeal.Blocks Cert.KernelIdeal.Val

variable (m : (ℓ : Loc nD τ sig) → Buf (Elt Ideal) ℓ) (hw : InRange m) (c : Dev nD) (hx : (args m c).Reals)

theorem lane (x : Vec Ideal S16x128 .i32) (k : Fin 128) (q : Fin 16) : col k x (ix2 q 0) = x (ix2 q k) := rfl

/-- A word for a bit. -/
def flag (b : BitVec 1) : BitVec 32 := BitVec.ofNat 32 (if b = 1#1 then 1 else 0)
theorem flag_select (b : BitVec 1) (x : EReal) : (if flag b = 0#32 then x else ⊥) = Spec.masked b x := by
  unfold Spec.masked flag
  by_cases h : b = 1#1
  · rw [if_pos h, if_pos h, if_neg (by decide)]
  · rw [if_neg h, if_neg h, if_pos (by decide)]

/-- The answer's column in the first block. -/
def pos (b : Fin 16) : Fin 8192 := ⟨((args m c).trip (ix2 b 2)).toNat % 8192, Nat.mod_lt _ (by decide)⟩

include hw in
theorem pos_at (b : Fin 16) : at4 (tp 0) (pos m c b) = Spec.answer (args m c) b := by
  have := args_small m hw c (ix2 b 2)
  refine Fin.ext ?_
  show 8192 * (0 % 4) + ((args m c).trip (ix2 b 2)).toNat % 8192 = ((args m c).trip (ix2 b 2)).toNat % 32768
  omega
include hw in
theorem pos_word (b : Fin 16) : (args m c).trip (ix2 b 2) = BitVec.ofNat 32 (pos m c b).val := by
  have h := args_small m hw c (ix2 b 2)
  refine BitVec.eq_of_toNat_eq ?_
  show _ = (BitVec.ofNat 32 (((args m c).trip (ix2 b 2)).toNat % 8192)).toNat
  rw [BitVec.toNat_ofNat]
  omega
include hw in
theorem answer_word (b : Fin 16) : (args m c).trip (ix2 b 2) = BitVec.ofNat 32 (Spec.answer (args m c) b).val := by
  have h := args_small m hw c (ix2 b 2)
  refine BitVec.eq_of_toNat_eq ?_
  show _ = (BitVec.ofNat 32 (((args m c).trip (ix2 b 2)).toNat % 32768)).toNat
  rw [BitVec.toNat_ofNat]
  omega

theorem col_first (q : Fin 16) (k : Fin 8192) : k0_pay126 (grid0.coords (tp 0)) (ix2 q k) = BitVec.ofNat 32 k.val := by
  rw [col_index, point_coord]
  show BitVec.ofNat 32 (8192 * (0 % 4) + k.val) = _
  congr 1; omega

theorem init8 (q : Fin 16) : col 8 (cntInit (trip m c)) (ix2 q 0) = (args m c).trip (ix2 q 2) := by
  show (if (8 : ℕ) = 8 then word (trip m c) q 2 else 0#32) = _
  rw [if_pos rfl, word_trip]

include hx in
theorem scC_apply (q : Fin 16) : scC m hw c (ix2 q 0) = Spec.all (args m c) q (Spec.answer (args m c) q) := by
  unfold scC
  rw [scoreC_apply, init8, pos_word m hw c]
  refine (fold_at (fun k => sB (aM m hw c) (bM m hw c) (blkR m c 0) (blkI m c 0) (ix2 q k)) (fun k => k0_pay126 (grid0.coords (tp 0)) (ix2 q k)) (pos m c q) (col_first q)).trans ?_
  rw [sB_block m hw c hx, pos_at m hw c]

/-- The columns that no point after the first writes: the answer's word and the two masks' bits there. -/
structure Fixed (n : Vec Ideal S16x128 .i32) : Prop where
  c8 : ∀ q, col 8 n (ix2 q 0) = (args m c).trip (ix2 q 2)
  c9 : ∀ q, col 9 n (ix2 q 0) = flag ((args m c).tailMask (ix2 q (Spec.answer (args m c) q)))
  c10 : ∀ q, col 10 n (ix2 q 0) = flag ((args m c).tailMask (ix2 q (Spec.answer (args m c) q)) ||| (args m c).fullMask (ix2 q (Spec.answer (args m c) q)))

include hw in
theorem fixed_first : Fixed m c (cntFirst (grid0.coords (tp 0)) (blkL m c 0) (cntInit (trip m c))) where
  c8 q := by
    unfold cntFirst
    rw [col_putc_other 10 8 (by decide), col_putc_other 9 8 (by decide), init8]
  c9 q := by
    unfold cntFirst
    rw [col_putc_other 10 9 (by decide), col_putc_same, maskT_apply, init8, pos_word m hw c,
      count_at (fun k => k0_pay121 (blkL m c 0) (ix2 q k)) (fun k => k0_pay126 (grid0.coords (tp 0)) (ix2 q k)) (pos m c q) (col_first q),
      lab_low, pos_at m hw c]
    rfl
  c10 q := by
    unfold cntFirst
    rw [col_putc_same, maskF_apply, init8, pos_word m hw c,
      count_at (fun k => k0_pay122 (blkL m c 0) (ix2 q k)) (fun k => k0_pay126 (grid0.coords (tp 0)) (ix2 q k)) (pos m c q) (col_first q),
      lab_any, pos_at m hw c]
    rfl

section Step
variable (i : grid0.Coords) (a b : Vec Ideal S16x64 .f32) (nr ni : Vec Ideal S8192x64 .f32) (lab : Vec Ideal S16x8192 .i8)
  (sc : Vec Ideal S16x128 .f32) (n : Vec Ideal S16x128 .i32)

theorem step_other (k : Fin 128) (h0 : k ≠ 0) (h1 : k ≠ 1) (h2 : k ≠ 2) : col k (cntStep i a b nr ni lab sc n) = col k n := by
  unfold cntStep
  rw [col_putc_other 2 k h2, col_putc_other 1 k h1, col_putc_other 0 k h0]
theorem step0 : col 0 (cntStep i a b nr ni lab sc n) = next0 i a b nr ni (col 0 sc) (col 8 n) (col 0 n) := by
  unfold cntStep
  rw [col_putc_other 2 0 (by decide), col_putc_other 1 0 (by decide), col_putc_same]
theorem step1 : col 1 (cntStep i a b nr ni lab sc n) = next1 i a b nr ni lab (col 0 sc) (col 8 n) (col 9 n) (col 1 n) := by
  unfold cntStep
  rw [col_putc_other 2 1 (by decide), col_putc_same]
theorem step2 : col 2 (cntStep i a b nr ni lab sc n) = next2 i a b nr ni lab (col 0 sc) (col 8 n) (col 10 n) (col 2 n) := by
  unfold cntStep
  rw [col_putc_same]
end Step

theorem fixed_step (i a b nr ni lab sc) (n : Vec Ideal S16x128 .i32) (h : Fixed m c n) : Fixed m c (cntStep i a b nr ni lab sc n) where
  c8 q := (congrFun (step_other i a b nr ni lab sc n 8 (by decide) (by decide) (by decide)) _).trans (h.c8 q)
  c9 q := (congrFun (step_other i a b nr ni lab sc n 9 (by decide) (by decide) (by decide)) _).trans (h.c9 q)
  c10 q := (congrFun (step_other i a b nr ni lab sc n 10 (by decide) (by decide) (by decide)) _).trans (h.c10 q)

/-- How many columns of block `t` are ahead of the answer in the row of scores `r` of triplet `q`. -/
def part (r : Fin 3) (q : Fin 16) (t : Fin cfg0.N) : ℕ :=
  aheadIn (fun k => Spec.rows (args m c) r q (at4 t k)) (Spec.rows (args m c) r q (Spec.answer (args m c) q))
    (fun k => BitVec.ofNat 32 (8192 * t.val + k.val)) ((args m c).trip (ix2 q 2))

/-- The counter's column of a row of scores. -/
def colOf (r : Fin 3) : Fin 128 := ⟨r.val, by omega⟩

include hx in
theorem step_part (t : Fin cfg0.N) (n : Vec Ideal S16x128 .i32) (h : Fixed m c n) (r : Fin 3) (q : Fin 16) :
    col (colOf r) (cntStep (grid0.coords t) (aM m hw c) (bM m hw c) (iblk m c 2 t) (iblk m c 3 t) (iblk m c 4 t) (scX m hw c) n) (ix2 q 0)
      = col (colOf r) n (ix2 q 0) + BitVec.ofNat 32 (part m c r q t) := by
  have hc : (fun k => k0_pay126 (grid0.coords t) (ix2 q k)) = fun k : Fin 8192 => BitVec.ofNat 32 (8192 * t.val + k.val) := by
    funext k; rw [col_index, point_coord]
  match r with
  | 0 =>
    refine (congrFun (step0 _ _ _ _ _ _ _ _) _).trans ((next0_apply _ _ _ _ _ _ _ _ q).trans ?_)
    rw [hc, h.c8, col_scX, scC_apply m hw c hx, show (fun k => sB (aM m hw c) (bM m hw c) (iblk m c 2 t) (iblk m c 3 t) (ix2 q k)) = fun k => Spec.all (args m c) q (at4 t k) from funext fun k => sB_block m hw c hx t q k]
    rfl
  | 1 =>
    refine (congrFun (step1 _ _ _ _ _ _ _ _) _).trans ((next1_apply _ _ _ _ _ _ _ _ _ _ q).trans ?_)
    rw [hc, h.c8, h.c9, flag_select, col_scX, scC_apply m hw c hx, show (fun k => fB (aM m hw c) (bM m hw c) (iblk m c 2 t) (iblk m c 3 t) (iblk m c 4 t) (ix2 q k)) = fun k => Spec.tails (args m c) q (at4 t k) from funext fun k => fB_block m hw c hx t q k]
    rfl
  | 2 =>
    refine (congrFun (step2 _ _ _ _ _ _ _ _) _).trans ((next2_apply _ _ _ _ _ _ _ _ _ _ q).trans ?_)
    rw [hc, h.c8, h.c10, flag_select, ← masked_twice, col_scX, scC_apply m hw c hx, show (fun k => tfB (aM m hw c) (bM m hw c) (iblk m c 2 t) (iblk m c 3 t) (iblk m c 4 t) (ix2 q k)) = fun k => Spec.full (args m c) q (at4 t k) from funext fun k => tfB_block m hw c hx t q k]
    rfl

include hw in
theorem first_zero (r : Fin 3) (q : Fin 16) : col (colOf r) (cntFirst (grid0.coords (tp 0)) (blkL m c 0) (cntInit (trip m c))) (ix2 q 0) = 0#32 := by
  have h : ∀ r : Fin 3, colOf r ≠ 9 ∧ colOf r ≠ 10 ∧ (colOf r).val ≠ 8 := by decide
  unfold cntFirst
  rw [col_putc_other 10 _ (h r).2.1, col_putc_other 9 _ (h r).1]
  exact if_neg (h r).2.2

theorem fixed_at (n : ℕ) : Fixed m c (cntAt m hw c n) := by
  induction n with
  | zero => exact fixed_step m c _ _ _ _ _ _ _ _ (fixed_first m hw c)
  | succ n ih => exact fixed_step m c _ _ _ _ _ _ _ _ ih

include hx in
theorem cnt_last (r : Fin 3) (q : Fin 16) :
    col (colOf r) (cntAt m hw c 3) (ix2 q 0) = BitVec.ofNat 32 (Rank.above (Spec.rows (args m c) r q) (Spec.answer (args m c) q)) := by
  have e : ∀ n, col (colOf r) (cntAt m hw c (n + 1)) (ix2 q 0) = col (colOf r) (cntAt m hw c n) (ix2 q 0) + BitVec.ofNat 32 (part m c r q (tp (n + 1))) :=
    fun n => step_part m hw c hx (tp (n + 1)) _ (fixed_at m hw c n) r q
  have e0 : col (colOf r) (cntAt m hw c 0) (ix2 q 0) = 0#32 + BitVec.ofNat 32 (part m c r q (tp 0)) :=
    (step_part m hw c hx (tp 0) _ (fixed_first m hw c) r q).trans (by rw [first_zero m hw c])
  rw [e 2, e 1, e 0, e0, above_blocks, Fin.sum_univ_four, BitVec.ofNat_add, BitVec.ofNat_add, BitVec.ofNat_add, ← answer_word m hw c, BitVec.zero_add]
  rfl

end Cert.KernelIdeal.Score

end
-- ==== Proof.KerOut.lean ====
module

public import proofs.«01_k».proof.Proof.KerCount
public import proofs.«01_k».proof.Proof.Run

@[expose] public section

set_option maxRecDepth 16384

noncomputable section

/-! The kernel's results are the specification's. -/

namespace Cert.KernelIdeal.Out

open Idealize.ShloMosaic Idealize.ShloMosaic.TcCoe Idealize.ShloMosaic.Tactic Idealize.ShloMosaic.Pipeline
open Cert Cert.KernelIdeal Cert.KernelIdeal.Gen Cert.KernelIdeal.Body Cert.KernelIdeal.Blocks Cert.KernelIdeal.Val Cert.KernelIdeal.Score

variable (m : (ℓ : Loc nD τ sig) → Buf (Elt Ideal) ℓ) (hw : InRange m) (c : Dev nD) (hx : (args m c).Reals)

/-- An array that is not window 6's ends at what the exact data say. -/
theorem exact_of (w : Fin cfg0.W) (h : mark w = false) {G : Buf (Elt Ideal) ((cfg0.win w).arr.view.loc (c.tc : Thread nD τ))}
    (hG : (rdat m hw c).ArrAt w cfg0.N G) : G = (dat m hw c).arrAt w cfg0.N :=
  ((dat m hw c).toR_arrAt_iff w _ G).mp (((dat m hw c).toR.override_arrAt (by simp only [h]) _ G).mp hG)

/-! ## The masked scores -/

include hx in
theorem block5 (t : Fin cfg0.N) (y : S16x8192.Idx) : ((dat m hw c).after 5 t : Vec Ideal S16x8192 .f32) y
    = (fun j : S16x32768.Idx => Spec.full (args m c) (j 0) (j 1)) (((cfg0.win 5).blk t).view.emb y) := by
  rw [after5]
  obtain ⟨b, k, rfl⟩ : ∃ b k, y = ix2 b k := ⟨y 0, y 1, ValueIdx.eq_ix2 y⟩
  exact (tfB_block m hw c hx t b k).trans (congrArg (fun j : S16x32768.Idx => Spec.full (args m c) (j 0) (j 1)) (emb5 t b k)).symm

include hx in
theorem array5 : (dat m hw c).arrAt 5 cfg0.N = fun j : S16x32768.Idx => Spec.full (args m c) (j 0) (j 1) :=
  (dat m hw c).arrAt_eq_of_covers 5 _ (by decide +kernel) fun t _ y => block5 m hw c hx t y

/-! ## The sums of metrics -/

include hx in
theorem block7 (t : Fin cfg0.N) (ht : t.val = 3) (y : S3x5.Idx) : ((dat m hw c).after 7 t : Vec Ideal S3x5 .f32) y
    = (fun j : S3x5.Idx => Spec.metrics (args m c) (j 0) (j 1)) (((cfg0.win 7).blk t).view.emb y) := by
  rw [after7, ht]
  obtain ⟨r, k, rfl⟩ : ∃ r k, y = ix2 r k := ⟨y 0, y 1, ValueIdx.eq_ix2 y⟩
  refine (metOut_apply _ r k).trans (Eq.trans ?_ (congrArg (fun j : S3x5.Idx => Spec.metrics (args m c) (j 0) (j 1)) (emb7 t (ix2 r k))).symm)
  exact Finset.sum_congr rfl fun q _ => congrArg (fun w => metric (w + 1#32) k) (cnt_last m hw c hx r q)

include hx in
theorem array7 : (dat m hw c).arrAt 7 cfg0.N = fun j : S3x5.Idx => Spec.metrics (args m c) (j 0) (j 1) :=
  (dat m hw c).arrAt_eq_of_covers 7 _ (by decide +kernel) fun t hf y =>
    block7 m hw c hx t (by have := (flush0_7 t).mp hf; have := point_lt t; omega) y

/-! ## The ranks -/

/-- The rank of a row of scores, at its column of the ranks' block. -/
theorem ranksOut_apply (r n : Vec Ideal S16x128 .i32) (k : Fin 3) (q : Fin 16) :
    ranksOut r n (ix2 q (colOf k)) = col (colOf k) n (ix2 q 0) + 1#32 :=
  match k with
  | ⟨0, _⟩ => rank0_apply _ q
  | ⟨1, _⟩ => rank1_apply _ q
  | ⟨2, _⟩ => rank2_apply _ q

include hx in
theorem array6 {G : Buf (Elt Ideal) ((cfg0.win 6).arr.view.loc (c.tc : Thread nD τ))} (hG : (rdat m hw c).ArrAt 6 cfg0.N G)
    (k : Fin 3) (q : Fin 16) : (G : Vec Ideal S16x128 .i32) (ix2 q (colOf k)) = Spec.rank (args m c) k q := by
  obtain ⟨X, hX, e⟩ := hG.emb_eq_of_wholeAt (t₀ := tp 3) (by decide +kernel)
  obtain ⟨r, hr⟩ := (dat m hw c).toRRel_leaves (fgt := mark) rfl hX rfl
  refine (e (ix2 q (colOf k))).trans ?_
  rw [hr]
  exact (ranksOut_apply r _ k q).trans (congrArg (· + 1#32) (cnt_last m hw c hx k q))

/-- Column `k` of the ranks' block, as a vector. -/
def cut0 (x : IVec S16x128 32) : IVec S16 32 := shapeCast S16 (extractStridedSlice S16x1 ![0, 0] x slices_S16x128_S16x1_0_0) shapeCasts_S16x1_S16
def cut1 (x : IVec S16x128 32) : IVec S16 32 := shapeCast S16 (extractStridedSlice S16x1 ![0, 1] x slices_S16x128_S16x1_0_1) shapeCasts_S16x1_S16
def cut2 (x : IVec S16x128 32) : IVec S16 32 := shapeCast S16 (extractStridedSlice S16x1 ![0, 2] x slices_S16x128_S16x1_0_2) shapeCasts_S16x1_S16
theorem cut0_apply (x : IVec S16x128 32) (q : Fin 16) : cut0 x (ix1 q) = x (ix2 q 0) := by
  pointwise [cut0]
theorem cut1_apply (x : IVec S16x128 32) (q : Fin 16) : cut1 x (ix1 q) = x (ix2 q 1) := by
  pointwise [cut1]
theorem cut2_apply (x : IVec S16x128 32) (q : Fin 16) : cut2 x (ix1 q) = x (ix2 q 2) := by
  pointwise [cut2]

section
variable (V : Valuation τ sig (Elt Ideal))
theorem host9 : StableHlo.after (List.flatten [hostOps1]) V (Proc.devRef .tc main_v9) = cut0 (V (Proc.devRef .tc main_v7_1)) := by
  simp only [hostOps1, List.flatten_cons, List.flatten_nil, List.append_nil, List.cons_append, List.nil_append]
  after_results_simp
  rfl
theorem host11 : StableHlo.after (List.flatten [hostOps1]) V (Proc.devRef .tc main_v11) = cut1 (V (Proc.devRef .tc main_v7_1)) := by
  simp only [hostOps1, List.flatten_cons, List.flatten_nil, List.append_nil, List.cons_append, List.nil_append]
  after_results_simp
  rfl
theorem host13 : StableHlo.after (List.flatten [hostOps1]) V (Proc.devRef .tc main_v13) = cut2 (V (Proc.devRef .tc main_v7_1)) := by
  simp only [hostOps1, List.flatten_cons, List.flatten_nil, List.append_nil, List.cons_append, List.nil_append]
  after_results_simp
  rfl
end

/-! ## The results -/

/-- What a final state holds of the results. -/
structure Results (x : Spec.Args) (mem : (ℓ : Loc nD τ sig) → Buf (Elt Ideal) ℓ) : Prop where
  full : mem ((c.tc : Thread nD τ).loc main_v7_0) = fun j : S16x32768.Idx => Spec.full x (j 0) (j 1)
  rank0 : mem ((c.tc : Thread nD τ).loc main_v9) = fun j : S16.Idx => Spec.rank x 0 (j 0)
  rank1 : mem ((c.tc : Thread nD τ).loc main_v11) = fun j : S16.Idx => Spec.rank x 1 (j 0)
  rank2 : mem ((c.tc : Thread nD τ).loc main_v13) = fun j : S16.Idx => Spec.rank x 2 (j 0)
  met : mem ((c.tc : Thread nD τ).loc main_v7_2) = fun j : S3x5.Idx => Spec.metrics x (j 0) (j 1)

include hx in
theorem results (mem : (ℓ : Loc nD τ sig) → Buf (Elt Ideal) ℓ) (h : Final m hw c mem) : Results c (args m c) mem := by
  obtain ⟨hA, A, hA', hr⟩ := h
  have e6 : withArrays spec0 c (V0 m c) A (Proc.devRef .tc main_v7_1) = A 6 := withArrays_arr spec0 launch0.win.arr_inj c (V0 m c) A 6
  have key : ∀ (k : Fin 3) (q : Fin 16), (withArrays spec0 c (V0 m c) A (Proc.devRef .tc main_v7_1) : Vec Ideal S16x128 .i32) (ix2 q (colOf k))
      = Spec.rank (args m c) k q := fun k q => (congrFun e6 _).trans (array6 m hw c hx (hA' 6) k q)
  refine ⟨(exact_of m hw c 5 rfl (hA 5)).trans (array5 m hw c hx), ?_, ?_, ?_, (exact_of m hw c 7 rfl (hA 7)).trans (array7 m hw c hx)⟩
  · refine ((hr main_v9 (bypasses _ (mem_restRefs_of main_v9 (by decide) (by decide)))).trans (host9 _)).trans (funext fun j : S16.Idx => ?_)
    exact (congrArg _ (ValueIdx.eq_ix1 j)).trans ((cut0_apply _ (j 0)).trans (key 0 (j 0)))
  · refine ((hr main_v11 (bypasses _ (mem_restRefs_of main_v11 (by decide) (by decide)))).trans (host11 _)).trans (funext fun j : S16.Idx => ?_)
    exact (congrArg _ (ValueIdx.eq_ix1 j)).trans ((cut1_apply _ (j 0)).trans (key 1 (j 0)))
  · refine ((hr main_v13 (bypasses _ (mem_restRefs_of main_v13 (by decide) (by decide)))).trans (host13 _)).trans (funext fun j : S16.Idx => ?_)
    exact (congrArg _ (ValueIdx.eq_ix1 j)).trans ((cut2_apply _ (j 0)).trans (key 2 (j 0)))

end Cert.KernelIdeal.Out

end
-- ==== Proof.RefPure.lean ====
module

public import proofs.«01_k».proof.Proof.RefRun
public import proofs.«01_k».proof.Proof.Spec
public import Idealize.ShloMosaic.Lib.Pointwise
public import Idealize.ShloMosaic.Lib.Routing.Ops

@[expose] public section

set_option maxRecDepth 16384

noncomputable section

/-! The reference's values as functions, read at an index. -/

namespace Cert.ReferenceIdeal.Pure

open Idealize.ShloMosaic
open Cert.ReferenceIdeal Cert.ReferenceIdeal.Gen

/-! ## The rows a column of words names -/

/-- Column `0`, `1` or `2` of the triplets. -/
def col0 (x : IVec S16x3 32) : IVec S16 32 := shapeCast S16 (extractStridedSlice S16x1 ![0, 0] x slices_S16x3_S16x1_0_0) shapeCasts_S16x1_S16
def col1 (x : IVec S16x3 32) : IVec S16 32 := shapeCast S16 (extractStridedSlice S16x1 ![0, 1] x slices_S16x3_S16x1_0_1) shapeCasts_S16x1_S16
def col2 (x : IVec S16x3 32) : IVec S16 32 := shapeCast S16 (extractStridedSlice S16x1 ![0, 2] x slices_S16x3_S16x1_0_2) shapeCasts_S16x1_S16

theorem col0_apply (x : IVec S16x3 32) (b : Fin 16) : col0 x (ix1 b) = x (ix2 b 0) := by
  pointwise [col0]
theorem col1_apply (x : IVec S16x3 32) (b : Fin 16) : col1 x (ix1 b) = x (ix2 b 1) := by
  pointwise [col1]
theorem col2_apply (x : IVec S16x3 32) (b : Fin 16) : col2 x (ix1 b) = x (ix2 b 2) := by
  pointwise [col2]

/-- The words, a negative one counted from the end of a table of `k` rows, as a column. -/
def wrap (k : BitVec 32) (w : IVec S16 32) : IVec S16x1 32 :=
  broadcastInDim S16x1 ![0] bcast_S16_S16x1_0 (select (cmpi .slt w (broadcastInDim S16 ![] bcast_S_S16 (constantI S_ 32 0#32)))
    (addi w (broadcastInDim S16 ![] bcast_S_S16 (constantI S_ 32 k))) w)
/-- Which words lie between zero and `k`. -/
def within (k : BitVec 32) (i : IVec S16x1 32) : IVec S16 1 :=
  Host.reduce IntOp.andi (andi (cmpi .sge i (broadcastInDim S16x1 ![] bcast_S_S16x1 (constantI S_ 32 0#32)))
    (cmpi .sle i (broadcastInDim S16x1 ![0, 1] bcast_S1x1_S16x1_0_1 (broadcastInDim S1x1 ![1] bcast_S1_S1x1_1 (constantI S1 32 k)))))
    (constantI S_ 1 1#1) reducesTo_S16x1_S16_d1 h_S_
/-- The rows where the mask holds, something else elsewhere. -/
def chosen (p : IVec S16 1) (x : FVec Ideal S16x64 .f32) : FVec Ideal S16x64 .f32 :=
  select (broadcastInDim S16x64 ![0] bcast_S16_S16x64_0 p) x (broadcastInDim S16x64 ![] bcast_S_S16x64 (constant S_ .f32 0x7FC00000#32))
def takeN (x : FVec Ideal S32768x64 .f32) (w : IVec S16 32) : FVec Ideal S16x64 .f32 :=
  chosen (within 32767#32 (wrap 32768#32 w)) (Host.gather gather_S32768x64_S16x1_S16x64_1_0_n_n_0_1_164 x (wrap 32768#32 w))
def takeR (x : FVec Ideal S500x64 .f32) (w : IVec S16 32) : FVec Ideal S16x64 .f32 :=
  chosen (within 499#32 (wrap 500#32 w)) (Host.gather gather_S500x64_S16x1_S16x64_1_0_n_n_0_1_164 x (wrap 500#32 w))

theorem wrap_apply (k : BitVec 32) (w : IVec S16 32) (b : Fin 16) (h : (w (ix1 b)).toNat < 500) : wrap k w (ix2 b 0) = w (ix1 b) := by
  pointwise [wrap]
  generalize w (ix1 b) = v at h ⊢
  have e : IntOp.cmpi .slt v 0#32 = 0#1 := by
    show BitVec.ofBool (v.slt 0#32) = 0#1
    rw [show v.slt 0#32 = false from by
      rw [BitVec.slt_eq_decide, BitVec.toInt_eq_toNat_of_lt (by omega)]
      simp]
    rfl
  rw [e]
  rfl

theorem within_apply (k : BitVec 32) (i : IVec S16x1 32) (b : Fin 16) (h : (i (ix2 b 0)).toNat ≤ k.toNat) (hk : k.toNat < 2 ^ 31) : within k i (ix1 b) = 1#1 := by
  pointwise [within]
  rw [Finset.univ_unique, Finset.fold_singleton]
  show IntOp.andi (IntOp.andi (IntOp.cmpi .sge (i (ix2 b 0)) 0#32) (IntOp.cmpi .sle (i (ix2 b 0)) k)) 1#1 = 1#1
  generalize i (ix2 b 0) = v at h
  have hv := BitVec.toInt_eq_toNat_of_lt (x := v) (by omega)
  have hk' := BitVec.toInt_eq_toNat_of_lt (x := k) (by omega)
  have e1 : IntOp.cmpi .sge v 0#32 = 1#1 := by
    show BitVec.ofBool ((0#32).sle v) = 1#1
    rw [BitVec.sle_eq_decide, hv]
    simp
  have e2 : IntOp.cmpi .sle v k = 1#1 := by
    show BitVec.ofBool (v.sle k) = 1#1
    rw [BitVec.sle_eq_decide, hv, hk', decide_eq_true (by exact_mod_cast h)]
    rfl
  rw [e1, e2]
  rfl

theorem chosen_apply (p : IVec S16 1) (x : FVec Ideal S16x64 .f32) (b : Fin 16) (d : Fin 64) (h : p (ix1 b) = 1#1) : chosen p x (ix2 b d) = x (ix2 b d) := by
  pointwise [chosen]
  rw [h]
  rfl

theorem takeN_apply (x : FVec Ideal S32768x64 .f32) (w : IVec S16 32) (b : Fin 16) (d : Fin 64) (h : (w (ix1 b)).toNat < 500) :
    takeN x w (ix2 b d) = x (ix2 (Spec.node (w (ix1 b))) d) := by
  unfold takeN
  rw [chosen_apply _ _ _ _ (within_apply _ _ _ (by rw [wrap_apply _ _ _ h]; show _ ≤ 32767; omega) (by decide))]
  refine Routing.gather_row _ rfl rfl rfl rfl rfl x _ b d (Spec.node (w (ix1 b))) ?_ (by decide)
  refine (wrap_apply _ w b h).trans (BitVec.eq_of_toNat_eq ?_)
  show _ = (BitVec.ofNat 32 ((w (ix1 b)).toNat % 32768)).toNat
  rw [BitVec.toNat_ofNat]; omega
theorem takeR_apply (x : FVec Ideal S500x64 .f32) (w : IVec S16 32) (b : Fin 16) (d : Fin 64) (h : (w (ix1 b)).toNat < 500) :
    takeR x w (ix2 b d) = x (ix2 (Spec.rel (w (ix1 b))) d) := by
  unfold takeR
  rw [chosen_apply _ _ _ _ (within_apply _ _ _ (by rw [wrap_apply _ _ _ h]; show _ ≤ 499; omega) (by decide))]
  refine Routing.gather_row _ rfl rfl rfl rfl rfl x _ b d (Spec.rel (w (ix1 b))) ?_ (by decide)
  refine (wrap_apply _ w b h).trans (BitVec.eq_of_toNat_eq ?_)
  show _ = (BitVec.ofNat 32 ((w (ix1 b)).toNat % 500)).toNat
  rw [BitVec.toNat_ofNat]; omega

/-! ## The scores and the masks -/

def lift (x : FVec Ideal S16x64 .f32) : FVec Ideal S16x1x64 .f32 := broadcastInDim S16x1x64 ![0, 2] bcast_S16x64_S16x1x64_0_2 x
/-- One of the score's four sums: two rows' product against a table. -/
def dots (u v : FVec Ideal S16x1x64 .f32) (x : FVec Ideal S32768x64 .f32) : FVec Ideal S16x32768 .f32 :=
  Host.reduceAdd (mulf (broadcastInDim S16x32768x64 ![0, 1, 2] bcast_S16x1x64_S16x32768x64_0_1_2 (mulf u v))
    (broadcastInDim S16x32768x64 ![0, 1, 2] bcast_S1x32768x64_S16x32768x64_0_1_2 (broadcastInDim S1x32768x64 ![1, 2] bcast_S32768x64_S1x32768x64_1_2 x)))
    (constant S_ .f32 0x00000000#32) reducesTo_S16x32768x64_S16x32768_d2 h_S_

theorem dots_apply (u v : FVec Ideal S16x64 .f32) (x : FVec Ideal S32768x64 .f32) (b : Fin 16) (n : Fin 32768) :
    dots (lift u) (lift v) x (ix2 b n) = ∑ d : Fin 64, u (ix2 b d) * v (ix2 b d) * x (ix2 n d) := by
  pointwise [dots, lift]

def hide (p : IVec S16x32768 1) (x : FVec Ideal S16x32768 .f32) : FVec Ideal S16x32768 .f32 :=
  select p (broadcastInDim S16x32768 ![] bcast_S_S16x32768 (constant S_ .f32 0xFF800000#32)) x
theorem hide_apply (p : IVec S16x32768 1) (x : FVec Ideal S16x32768 .f32) (j : S16x32768.Idx) : hide p x j = Spec.masked (p j) (x j) := by
  unfold Spec.masked
  rw [← Cert.KernelIdeal.Val.ofBits_ninf]
  rfl

/-! ## The metrics -/

def asFloat (r : IVec S16 32) : FVec Ideal S16 .f32 := sitofp .f32 r
def total (x : FVec Ideal S16 .f32) : FVec Ideal S1 .f32 :=
  broadcastInDim S1 ![] bcast_S_S1 (Host.reduceAdd x (constant S_ .f32 0x00000000#32) reducesTo_S16_S_d0 h_S_)
def upTo (k : BitVec 32) (x : FVec Ideal S16 .f32) : FVec Ideal S16 .f32 :=
  uitofp .f32 (cmpf .ole x (broadcastInDim S16 ![] bcast_S_S16 (constant S_ .f32 k)))
def inv (x : FVec Ideal S16 .f32) : FVec Ideal S16 .f32 :=
  Host.divf (broadcastInDim S16 ![] bcast_S_S16 (constant S_ .f32 0x3F800000#32)) x
def five (r : IVec S16 32) : FVec Ideal S5 .f32 :=
  concatenate S5 0 [⟨S1, total (asFloat r)⟩, ⟨S1, total (inv (asFloat r))⟩, ⟨S1, total (upTo 0x3F800000#32 (asFloat r))⟩,
    ⟨S1, total (upTo 0x40400000#32 (asFloat r))⟩, ⟨S1, total (upTo 0x41200000#32 (asFloat r))⟩] concatenates_S1_S1_S1_S1_S1_S5_d0
def table (p q r : FVec Ideal S5 .f32) : FVec Ideal S3x5 .f32 :=
  concatenate S3x5 0 [⟨S1x5, broadcastInDim S1x5 ![1] bcast_S5_S1x5_1 p⟩, ⟨S1x5, broadcastInDim S1x5 ![1] bcast_S5_S1x5_1 q⟩,
    ⟨S1x5, broadcastInDim S1x5 ![1] bcast_S5_S1x5_1 r⟩] concatenates_S1x5_S1x5_S1x5_S3x5_d0

theorem total_apply (x : FVec Ideal S16 .f32) : total x (ix1 0) = ∑ q : Fin 16, x (ix1 q) := by
  pointwise [total]

theorem total_metric (r : IVec S16 32) (x : FVec Ideal S16 .f32) (k : Fin 5) (h : ∀ q, x (ix1 q) = Cert.KernelIdeal.Val.metric (r (ix1 q)) k) :
    total x (ix1 0) = ∑ q : Fin 16, Cert.KernelIdeal.Val.metric (r (ix1 q)) k :=
  (total_apply x).trans (Finset.sum_congr rfl fun q _ => h q)

theorem upTo_apply (k : BitVec 32) (r : IVec S16 32) (q : Fin 16) : upTo k (asFloat r) (ix1 q)
    = (((BitVec.ofBool (decide ((((r (ix1 q)).toInt : ℝ) : EReal) ≤ Ideal.ofBits .f32 k))).toNat : ℝ) : EReal) := by
  rfl

theorem ofBits_one : Ideal.ofBits .f32 0x3F800000#32 = 1 := by
  have : (constant S_ .f32 0x3F800000#32 : FVec Ideal S_ .f32) = fun _ => 1 := by
    funext j; pointwise
  exact congrFun this (Shape.Idx.first (by decide))

theorem inv_apply (r : IVec S16 32) (q : Fin 16) : inv (asFloat r) (ix1 q) = Ideal.div 1 (((r (ix1 q)).toInt : ℝ) : EReal) := by
  rw [← ofBits_one]
  rfl

theorem upTo_one (r : IVec S16 32) (q : Fin 16) : upTo 0x3F800000#32 (asFloat r) (ix1 q)
    = (((BitVec.ofBool (decide ((((r (ix1 q)).toInt : ℝ) : EReal) ≤ 1))).toNat : ℝ) : EReal) := by
  rw [upTo_apply, ofBits_one]

theorem five_apply (r : IVec S16 32) (k : Fin 5) : five r (ix1 k) = ∑ q : Fin 16, Cert.KernelIdeal.Val.metric (r (ix1 q)) k := by
  unfold five
  pointwise
  match k with
  | ⟨0, _⟩ => exact total_metric r _ 0 fun q => rfl
  | ⟨1, _⟩ => exact total_metric r _ 1 fun q => inv_apply r q
  | ⟨2, _⟩ => exact total_metric r _ 2 fun q => upTo_one r q
  | ⟨3, _⟩ => exact total_metric r _ 3 fun q => upTo_apply _ r q
  | ⟨4, _⟩ => exact total_metric r _ 4 fun q => upTo_apply _ r q

theorem table_apply (p : Fin 3 → FVec Ideal S5 .f32) (r : Fin 3) (k : Fin 5) : table (p 0) (p 1) (p 2) (ix2 r k) = p r (ix1 k) := by
  unfold table
  pointwise
  match r with
  | ⟨0, _⟩ => rfl
  | ⟨1, _⟩ => rfl
  | ⟨2, _⟩ => rfl

end Cert.ReferenceIdeal.Pure

end
-- ==== Proof.RefVals.lean ====
module

public import proofs.«01_k».proof.Proof.RefPure

@[expose] public section

set_option maxRecDepth 16384
set_option maxHeartbeats 4000000

noncomputable section

/-! What each stretch of the reference's operations leaves in the buffer it finishes. -/

namespace Cert.ReferenceIdeal.Vals

open Idealize.ShloMosaic Idealize.ShloMosaic.TcCoe Idealize.SL.Sem Idealize.ShloMosaic.StableHlo
open Cert.ReferenceIdeal Cert.ReferenceIdeal.Gen Cert.ReferenceIdeal.Lines Cert.ReferenceIdeal.Pure

variable (V : Valuation τ sig (Elt Ideal))

theorem seg0_val : after seg0 V (Proc.devRef .tc main_v3) = lift (takeN (V (Proc.devRef .tc main_arg4)) (col0 (V (Proc.devRef .tc main_arg0)))) := by
  simp only [seg0, fn_take.ops, fn_where.ops, List.cons_append, List.nil_append, TRef.binary, TRef.nullary, TRef.ternary, TRef.unary, TRef.quaternary, TRef.toBuf, TRef.ofBuf, cast_eq]
  after_results_simp
  rfl

theorem seg1_val : after seg1 V (Proc.devRef .tc main_v7) = lift (takeN (V (Proc.devRef .tc main_arg5)) (col0 (V (Proc.devRef .tc main_arg0)))) := by
  simp only [seg1, fn_take.ops, fn_where.ops, List.cons_append, List.nil_append, TRef.binary, TRef.nullary, TRef.ternary, TRef.unary, TRef.quaternary, TRef.toBuf, TRef.ofBuf, cast_eq]
  after_results_simp
  rfl

theorem seg2_val : after seg2 V (Proc.devRef .tc main_v11) = lift (takeR (V (Proc.devRef .tc main_arg6)) (col1 (V (Proc.devRef .tc main_arg0)))) := by
  simp only [seg2, fn_take_0.ops, fn_where.ops, List.cons_append, List.nil_append, TRef.binary, TRef.nullary, TRef.ternary, TRef.unary, TRef.quaternary, TRef.toBuf, TRef.ofBuf, cast_eq]
  after_results_simp
  rfl

theorem seg3_val : after seg3 V (Proc.devRef .tc main_v15) = lift (takeR (V (Proc.devRef .tc main_arg7)) (col1 (V (Proc.devRef .tc main_arg0)))) := by
  simp only [seg3, fn_take_0.ops, fn_where.ops, List.cons_append, List.nil_append, TRef.binary, TRef.nullary, TRef.ternary, TRef.unary, TRef.quaternary, TRef.toBuf, TRef.ofBuf, cast_eq]
  after_results_simp
  rfl

theorem seg4_val : after seg4 V (Proc.devRef .tc main_v40) = subf (addf (addf (dots (V (Proc.devRef .tc main_v11)) (V (Proc.devRef .tc main_v3)) (V (Proc.devRef .tc main_arg4))) (dots (V (Proc.devRef .tc main_v11)) (V (Proc.devRef .tc main_v7)) (V (Proc.devRef .tc main_arg5)))) (dots (V (Proc.devRef .tc main_v15)) (V (Proc.devRef .tc main_v3)) (V (Proc.devRef .tc main_arg5)))) (dots (V (Proc.devRef .tc main_v15)) (V (Proc.devRef .tc main_v7)) (V (Proc.devRef .tc main_arg4))) := by
  simp only [seg4, List.cons_append, List.nil_append, TRef.binary, TRef.nullary, TRef.ternary, TRef.unary, TRef.quaternary, TRef.toBuf, TRef.ofBuf, cast_eq]
  after_results_simp
  rfl

theorem seg5_tails : after seg5 V (Proc.devRef .tc main_v42) = hide (V (Proc.devRef .tc main_arg2)) (V (Proc.devRef .tc main_v40)) := by
  simp only [seg5, fn_where_1.ops, List.cons_append, List.nil_append, TRef.binary, TRef.nullary, TRef.ternary, TRef.unary, TRef.quaternary, TRef.toBuf, TRef.ofBuf, cast_eq]
  after_results_simp
  rfl

theorem seg5_full : after seg5 V (Proc.devRef .tc main_v43) = hide (V (Proc.devRef .tc main_arg3)) (hide (V (Proc.devRef .tc main_arg2)) (V (Proc.devRef .tc main_v40))) := by
  simp only [seg5, fn_where_1.ops, List.cons_append, List.nil_append, TRef.binary, TRef.nullary, TRef.ternary, TRef.unary, TRef.quaternary, TRef.toBuf, TRef.ofBuf, cast_eq]
  after_results_simp
  rfl

theorem seg6_answer : after seg6 V (Proc.devRef .tc main_v45) = col2 (V (Proc.devRef .tc main_arg0)) := by
  simp only [seg6, fn_argmax.ops, List.cons_append, List.nil_append, TRef.binary, TRef.nullary, TRef.ternary, TRef.unary, TRef.quaternary, TRef.toBuf, TRef.ofBuf, cast_eq]
  after_results_simp
  rfl

theorem seg6_rank : after seg6 V (Proc.devRef .tc main_v51) = Cert.Rank.rankRef (V (Proc.devRef .tc main_v40)) (col2 (V (Proc.devRef .tc main_arg0))) := by
  simp only [seg6, fn_argmax.ops, List.cons_append, List.nil_append, TRef.binary, TRef.nullary, TRef.ternary, TRef.unary, TRef.quaternary, TRef.toBuf, TRef.ofBuf, cast_eq]
  after_results_simp
  rfl

theorem seg7_rank : after seg7 V (Proc.devRef .tc main_v57) = Cert.Rank.rankRef (V (Proc.devRef .tc main_v42)) (V (Proc.devRef .tc main_v45)) := by
  simp only [seg7, fn_argmax.ops, List.cons_append, List.nil_append, TRef.binary, TRef.nullary, TRef.ternary, TRef.unary, TRef.quaternary, TRef.toBuf, TRef.ofBuf, cast_eq]
  after_results_simp
  rfl

theorem seg8_rank : after seg8 V (Proc.devRef .tc main_v63) = Cert.Rank.rankRef (V (Proc.devRef .tc main_v43)) (V (Proc.devRef .tc main_v45)) := by
  simp only [seg8, fn_argmax.ops, List.cons_append, List.nil_append, TRef.binary, TRef.nullary, TRef.ternary, TRef.unary, TRef.quaternary, TRef.toBuf, TRef.ofBuf, cast_eq]
  after_results_simp
  rfl

theorem seg9_met : after seg9 V (Proc.devRef .tc main_v86) = five (V (Proc.devRef .tc main_v51)) := by
  simp only [seg9, List.cons_append, List.nil_append, TRef.binary, TRef.nullary, TRef.ternary, TRef.unary, TRef.quaternary, TRef.toBuf, TRef.ofBuf, cast_eq]
  after_results_simp
  try dsimp only [Matrix.cons_val]
  try after_results_simp
  rfl

theorem seg10_met : after (seg10 ++ seg11) V (Proc.devRef .tc main_v109) = five (V (Proc.devRef .tc main_v57)) := by
  simp only [seg10, seg11, List.cons_append, List.nil_append, TRef.binary, TRef.nullary, TRef.ternary, TRef.unary, TRef.quaternary, TRef.toBuf, TRef.ofBuf, cast_eq]
  after_results_simp
  try dsimp only [Matrix.cons_val]
  try after_results_simp
  rfl

theorem seg12_met : after seg12 V (Proc.devRef .tc main_v132) = five (V (Proc.devRef .tc main_v63)) := by
  simp only [seg12, List.cons_append, List.nil_append, TRef.binary, TRef.nullary, TRef.ternary, TRef.unary, TRef.quaternary, TRef.toBuf, TRef.ofBuf, cast_eq]
  after_results_simp
  try dsimp only [Matrix.cons_val]
  try after_results_simp
  rfl

theorem seg13_met : after seg13 V (Proc.devRef .tc main_v136) = table (V (Proc.devRef .tc main_v86)) (V (Proc.devRef .tc main_v109)) (V (Proc.devRef .tc main_v132)) := by
  simp only [seg13, List.cons_append, List.nil_append, TRef.binary, TRef.nullary, TRef.ternary, TRef.unary, TRef.quaternary, TRef.toBuf, TRef.ofBuf, cast_eq]
  after_results_simp
  try dsimp only [Matrix.cons_val]
  try after_results_simp
  rfl

end Cert.ReferenceIdeal.Vals

end
-- ==== Proof.RefOut.lean ====
module

public import proofs.«01_k».proof.Proof.RefVals

@[expose] public section

set_option maxRecDepth 16384

noncomputable section

/-! The reference's results are the specification's. -/

namespace Cert.ReferenceIdeal.Vals

open Idealize.ShloMosaic Idealize.ShloMosaic.TcCoe Idealize.SL.Sem Idealize.ShloMosaic.StableHlo
open Cert Cert.ReferenceIdeal Cert.ReferenceIdeal.Gen Cert.ReferenceIdeal.Lines Cert.ReferenceIdeal.Pure

variable (V : Valuation τ sig (Elt Ideal))

/-! ## The contents after each stretch -/

def W1 : Valuation τ sig (Elt Ideal) := after seg0 V
def W2 : Valuation τ sig (Elt Ideal) := after seg1 (W1 V)
def W3 : Valuation τ sig (Elt Ideal) := after seg2 (W2 V)
def W4 : Valuation τ sig (Elt Ideal) := after seg3 (W3 V)
def W5 : Valuation τ sig (Elt Ideal) := after seg4 (W4 V)
def W6 : Valuation τ sig (Elt Ideal) := after seg5 (W5 V)
def W7 : Valuation τ sig (Elt Ideal) := after seg6 (W6 V)
def W8 : Valuation τ sig (Elt Ideal) := after seg7 (W7 V)
def W9 : Valuation τ sig (Elt Ideal) := after seg8 (W8 V)
def W10 : Valuation τ sig (Elt Ideal) := after seg9 (W9 V)
def W11 : Valuation τ sig (Elt Ideal) := after seg10 (W10 V)
def W12 : Valuation τ sig (Elt Ideal) := after seg11 (W11 V)
def W13 : Valuation τ sig (Elt Ideal) := after seg12 (W12 V)
def W14 : Valuation τ sig (Elt Ideal) := after seg13 (W13 V)

theorem after_ops : after ops V = W14 V := by
  unfold ops
  simp only [after_append]
  rfl

section
variable (r : Ref sig .tc)
theorem s1 (h : num r < 8 ∨ 34 ≤ num r) : W1 V (Proc.devRef .tc r) = V (Proc.devRef .tc r) := keep seg0_ok V r h
theorem s2 (h : num r < 34 ∨ 60 ≤ num r) : W2 V (Proc.devRef .tc r) = W1 V (Proc.devRef .tc r) := keep seg1_ok (W1 V) r h
theorem s3 (h : num r < 60 ∨ 86 ≤ num r) : W3 V (Proc.devRef .tc r) = W2 V (Proc.devRef .tc r) := keep seg2_ok (W2 V) r h
theorem s4 (h : num r < 86 ∨ 112 ≤ num r) : W4 V (Proc.devRef .tc r) = W3 V (Proc.devRef .tc r) := keep seg3_ok (W3 V) r h
theorem s5 (h : num r < 112 ∨ 141 ≤ num r) : W5 V (Proc.devRef .tc r) = W4 V (Proc.devRef .tc r) := keep seg4_ok (W4 V) r h
theorem s6 (h : num r < 141 ∨ 145 ≤ num r) : W6 V (Proc.devRef .tc r) = W5 V (Proc.devRef .tc r) := keep seg5_ok (W5 V) r h
theorem s7 (h : num r < 145 ∨ 160 ≤ num r) : W7 V (Proc.devRef .tc r) = W6 V (Proc.devRef .tc r) := keep seg6_ok (W6 V) r h
theorem s8 (h : num r < 160 ∨ 173 ≤ num r) : W8 V (Proc.devRef .tc r) = W7 V (Proc.devRef .tc r) := keep seg7_ok (W7 V) r h
theorem s9 (h : num r < 173 ∨ 186 ≤ num r) : W9 V (Proc.devRef .tc r) = W8 V (Proc.devRef .tc r) := keep seg8_ok (W8 V) r h
theorem s10 (h : num r < 186 ∨ 218 ≤ num r) : W10 V (Proc.devRef .tc r) = W9 V (Proc.devRef .tc r) := keep seg9_ok (W9 V) r h
theorem s11 (h : num r < 218 ∨ 228 ≤ num r) : W11 V (Proc.devRef .tc r) = W10 V (Proc.devRef .tc r) := keep seg10_ok (W10 V) r h
theorem s12 (h : num r < 228 ∨ 250 ≤ num r) : W12 V (Proc.devRef .tc r) = W11 V (Proc.devRef .tc r) := keep seg11_ok (W11 V) r h
theorem s13 (h : num r < 250 ∨ 282 ≤ num r) : W13 V (Proc.devRef .tc r) = W12 V (Proc.devRef .tc r) := keep seg12_ok (W12 V) r h
theorem s14 (h : num r < 282 ∨ 286 ≤ num r) : W14 V (Proc.devRef .tc r) = W13 V (Proc.devRef .tc r) := keep seg13_ok (W13 V) r h

/-- No stretch writes an argument. -/
theorem arg1 (h : num r < 8) : W1 V (Proc.devRef .tc r) = V (Proc.devRef .tc r) := s1 V r (.inl h)
theorem arg2 (h : num r < 8) : W2 V (Proc.devRef .tc r) = V (Proc.devRef .tc r) := (s2 V r (.inl (by omega))).trans (arg1 V r h)
theorem arg3 (h : num r < 8) : W3 V (Proc.devRef .tc r) = V (Proc.devRef .tc r) := (s3 V r (.inl (by omega))).trans (arg2 V r h)
theorem arg4 (h : num r < 8) : W4 V (Proc.devRef .tc r) = V (Proc.devRef .tc r) := (s4 V r (.inl (by omega))).trans (arg3 V r h)
theorem arg5 (h : num r < 8) : W5 V (Proc.devRef .tc r) = V (Proc.devRef .tc r) := (s5 V r (.inl (by omega))).trans (arg4 V r h)
theorem arg6 (h : num r < 8) : W6 V (Proc.devRef .tc r) = V (Proc.devRef .tc r) := (s6 V r (.inl (by omega))).trans (arg5 V r h)
theorem arg7 (h : num r < 8) : W7 V (Proc.devRef .tc r) = V (Proc.devRef .tc r) := (s7 V r (.inl (by omega))).trans (arg6 V r h)
theorem arg8 (h : num r < 8) : W8 V (Proc.devRef .tc r) = V (Proc.devRef .tc r) := (s8 V r (.inl (by omega))).trans (arg7 V r h)

/-- What an early stretch finished, the later ones keep. -/
theorem end13 (h : num r < 282) : W14 V (Proc.devRef .tc r) = W13 V (Proc.devRef .tc r) := s14 V r (.inl h)
theorem end12 (h : num r < 250) : W14 V (Proc.devRef .tc r) = W12 V (Proc.devRef .tc r) := (end13 V r (by omega)).trans (s13 V r (.inl h))
theorem end11 (h : num r < 228) : W14 V (Proc.devRef .tc r) = W11 V (Proc.devRef .tc r) := (end12 V r (by omega)).trans (s12 V r (.inl h))
theorem end10 (h : num r < 218) : W14 V (Proc.devRef .tc r) = W10 V (Proc.devRef .tc r) := (end11 V r (by omega)).trans (s11 V r (.inl h))
theorem end9 (h : num r < 186) : W14 V (Proc.devRef .tc r) = W9 V (Proc.devRef .tc r) := (end10 V r (by omega)).trans (s10 V r (.inl h))
theorem end8 (h : num r < 173) : W14 V (Proc.devRef .tc r) = W8 V (Proc.devRef .tc r) := (end9 V r (by omega)).trans (s9 V r (.inl h))
theorem end7 (h : num r < 160) : W14 V (Proc.devRef .tc r) = W7 V (Proc.devRef .tc r) := (end8 V r (by omega)).trans (s8 V r (.inl h))
theorem end6 (h : num r < 145) : W14 V (Proc.devRef .tc r) = W6 V (Proc.devRef .tc r) := (end7 V r (by omega)).trans (s7 V r (.inl h))
end

/-! ## The values -/

/-- The arguments. -/
def args : Spec.Args :=
  ⟨V (Proc.devRef .tc main_arg0), V (Proc.devRef .tc main_arg2), V (Proc.devRef .tc main_arg3), V (Proc.devRef .tc main_arg4), V (Proc.devRef .tc main_arg5), V (Proc.devRef .tc main_arg6), V (Proc.devRef .tc main_arg7)⟩

theorem val_v3 : W4 V (Proc.devRef .tc main_v3) = lift (takeN (V (Proc.devRef .tc main_arg4)) (col0 (V (Proc.devRef .tc main_arg0)))) := by
  refine (s4 V main_v3 (.inl (by decide))).trans ?_
  refine (s3 V main_v3 (.inl (by decide))).trans ?_
  refine (s2 V main_v3 (.inl (by decide))).trans ?_
  refine (seg0_val V).trans ?_
  rfl

theorem val_v7 : W4 V (Proc.devRef .tc main_v7) = lift (takeN (V (Proc.devRef .tc main_arg5)) (col0 (V (Proc.devRef .tc main_arg0)))) := by
  refine (s4 V main_v7 (.inl (by decide))).trans ?_
  refine (s3 V main_v7 (.inl (by decide))).trans ?_
  refine (seg1_val (W1 V)).trans ?_
  rw [arg1 V main_arg5 (by decide), arg1 V main_arg0 (by decide)]

theorem val_v11 : W4 V (Proc.devRef .tc main_v11) = lift (takeR (V (Proc.devRef .tc main_arg6)) (col1 (V (Proc.devRef .tc main_arg0)))) := by
  refine (s4 V main_v11 (.inl (by decide))).trans ?_
  refine (seg2_val (W2 V)).trans ?_
  rw [arg2 V main_arg6 (by decide), arg2 V main_arg0 (by decide)]

theorem val_v15 : W4 V (Proc.devRef .tc main_v15) = lift (takeR (V (Proc.devRef .tc main_arg7)) (col1 (V (Proc.devRef .tc main_arg0)))) := by
  refine (seg3_val (W3 V)).trans ?_
  rw [arg3 V main_arg7 (by decide), arg3 V main_arg0 (by decide)]

/-- All the scores. -/
theorem scores_apply (hs : (args V).Small) (b : Fin 16) (n : Fin 32768) :
    (W5 V (Proc.devRef .tc main_v40) : FVec Ideal S16x32768 .f32) (ix2 b n) = Spec.all (args V) b n := by
  refine (congrFun (seg4_val (W4 V)) (ix2 b n)).trans ?_
  rw [val_v3, val_v7, val_v11, val_v15, arg4 V main_arg4 (by decide), arg4 V main_arg5 (by decide)]
  refine (congrArg₂ (· - ·) (congrArg₂ (· + ·) (congrArg₂ (· + ·) (dots_apply _ _ _ b n) (dots_apply _ _ _ b n)) (dots_apply _ _ _ b n)) (dots_apply _ _ _ b n) :
    _ = (((_ + _) + _) - _ : EReal)).trans ?_
  have h0 : (col0 (V (Proc.devRef .tc main_arg0)) (ix1 b)).toNat < 500 := by rw [col0_apply]; exact hs _
  have h1 : (col1 (V (Proc.devRef .tc main_arg0)) (ix1 b)).toNat < 500 := by rw [col1_apply]; exact hs _
  simp only [takeN_apply _ _ b _ h0, takeR_apply _ _ b _ h1, col0_apply, col1_apply]
  rfl

theorem tails_apply (hs : (args V).Small) (b : Fin 16) (n : Fin 32768) :
    (W6 V (Proc.devRef .tc main_v42) : FVec Ideal S16x32768 .f32) (ix2 b n) = Spec.tails (args V) b n := by
  refine (congrFun (seg5_tails (W5 V)) (ix2 b n)).trans ((hide_apply _ _ _).trans ?_)
  rw [arg5 V main_arg2 (by decide), scores_apply V hs]
  rfl

theorem full_apply (hs : (args V).Small) (b : Fin 16) (n : Fin 32768) :
    (W6 V (Proc.devRef .tc main_v43) : FVec Ideal S16x32768 .f32) (ix2 b n) = Spec.full (args V) b n := by
  refine (congrFun (seg5_full (W5 V)) (ix2 b n)).trans ((hide_apply _ _ _).trans ?_)
  rw [hide_apply, arg5 V main_arg2 (by decide), arg5 V main_arg3 (by decide), scores_apply V hs]
  rfl

/-- A rank, of a row of scores and the answers' words. -/
theorem rank_of (hs : (args V).Small) (s : FVec Ideal S16x32768 .f32) (r : Fin 3) (h : ∀ b n, s (ix2 b n) = Spec.rows (args V) r b n) (b : Fin 16) :
    Rank.rankRef s (col2 (V (Proc.devRef .tc main_arg0))) (ix1 b) = Spec.rank (args V) r b := by
  have hc : col2 (V (Proc.devRef .tc main_arg0)) (ix1 b) = BitVec.ofNat 32 (Spec.answer (args V) b).val := by
    rw [col2_apply]
    have := hs (ix2 b 2)
    refine BitVec.eq_of_toNat_eq ?_
    show ((args V).trip (ix2 b 2)).toNat = (BitVec.ofNat 32 (((args V).trip (ix2 b 2)).toNat % 32768)).toNat
    rw [BitVec.toNat_ofNat]; omega
  refine (Rank.rankRef_apply s _ b (Spec.answer (args V) b) hc).trans ?_
  rw [show Rank.row s b = Spec.rows (args V) r b from funext fun n => h b n]
  rfl

theorem rank0 (hs : (args V).Small) (b : Fin 16) : (W7 V (Proc.devRef .tc main_v51) : IVec S16 32) (ix1 b) = Spec.rank (args V) 0 b := by
  refine (congrFun (seg6_rank (W6 V)) (ix1 b)).trans ?_
  rw [arg6 V main_arg0 (by decide), s6 V main_v40 (.inl (by decide))]
  exact rank_of V hs _ 0 (scores_apply V hs) b
theorem rank1 (hs : (args V).Small) (b : Fin 16) : (W8 V (Proc.devRef .tc main_v57) : IVec S16 32) (ix1 b) = Spec.rank (args V) 1 b := by
  refine (congrFun (seg7_rank (W7 V)) (ix1 b)).trans ?_
  rw [show W7 V (Proc.devRef .tc main_v45) = col2 (V (Proc.devRef .tc main_arg0)) from (seg6_answer (W6 V)).trans (by rw [arg6 V main_arg0 (by decide)]), s7 V main_v42 (.inl (by decide))]
  exact rank_of V hs _ 1 (tails_apply V hs) b
theorem rank2 (hs : (args V).Small) (b : Fin 16) : (W9 V (Proc.devRef .tc main_v63) : IVec S16 32) (ix1 b) = Spec.rank (args V) 2 b := by
  refine (congrFun (seg8_rank (W8 V)) (ix1 b)).trans ?_
  rw [s8 V main_v45 (.inl (by decide)), show W7 V (Proc.devRef .tc main_v45) = col2 (V (Proc.devRef .tc main_arg0)) from (seg6_answer (W6 V)).trans (by rw [arg6 V main_arg0 (by decide)]),
    s8 V main_v43 (.inl (by decide)), s7 V main_v43 (.inl (by decide))]
  exact rank_of V hs _ 2 (full_apply V hs) b

theorem five_rank (hs : (args V).Small) (x : IVec S16 32) (r : Fin 3) (h : ∀ b, x (ix1 b) = Spec.rank (args V) r b) (k : Fin 5) :
    five x (ix1 k) = Spec.metrics (args V) r k :=
  (five_apply x k).trans (Finset.sum_congr rfl fun q _ => by rw [h q])

theorem met0 (hs : (args V).Small) (k : Fin 5) : (W13 V (Proc.devRef .tc main_v86) : FVec Ideal S5 .f32) (ix1 k) = Spec.metrics (args V) 0 k := by
  rw [s13 V main_v86 (.inl (by decide)), s12 V main_v86 (.inl (by decide)), s11 V main_v86 (.inl (by decide))]
  refine (congrFun (seg9_met (W9 V)) (ix1 k)).trans ?_
  rw [s9 V main_v51 (.inl (by decide)), s8 V main_v51 (.inl (by decide))]
  exact five_rank V hs _ 0 (rank0 V hs) k
theorem met1 (hs : (args V).Small) (k : Fin 5) : (W13 V (Proc.devRef .tc main_v109) : FVec Ideal S5 .f32) (ix1 k) = Spec.metrics (args V) 1 k := by
  rw [s13 V main_v109 (.inl (by decide))]
  have e : W12 V (Proc.devRef .tc main_v109) = after (seg10 ++ seg11) (W10 V) (Proc.devRef .tc main_v109) := by
    rw [after_append]; rfl
  refine (congrFun (e.trans (seg10_met (W10 V))) (ix1 k)).trans ?_
  rw [s10 V main_v57 (.inl (by decide)), s9 V main_v57 (.inl (by decide))]
  exact five_rank V hs _ 1 (rank1 V hs) k
theorem met2 (hs : (args V).Small) (k : Fin 5) : (W13 V (Proc.devRef .tc main_v132) : FVec Ideal S5 .f32) (ix1 k) = Spec.metrics (args V) 2 k := by
  refine (congrFun (seg12_met (W12 V)) (ix1 k)).trans ?_
  rw [s12 V main_v63 (.inl (by decide)), s11 V main_v63 (.inl (by decide)), s10 V main_v63 (.inl (by decide))]
  exact five_rank V hs _ 2 (rank2 V hs) k

/-! ## The results -/

theorem out_full (hs : (args V).Small) : after ops V (Proc.devRef .tc main_v43) = fun j : S16x32768.Idx => Spec.full (args V) (j 0) (j 1) := by
  rw [after_ops, end6 V main_v43 (by decide)]
  funext j
  exact (congrArg _ (ValueIdx.eq_ix2 j)).trans (full_apply V hs (j 0) (j 1))
theorem out_rank0 (hs : (args V).Small) : after ops V (Proc.devRef .tc main_v51) = fun j : S16.Idx => Spec.rank (args V) 0 (j 0) := by
  rw [after_ops, end7 V main_v51 (by decide)]
  funext j
  exact (congrArg _ (ValueIdx.eq_ix1 j)).trans (rank0 V hs (j 0))
theorem out_rank1 (hs : (args V).Small) : after ops V (Proc.devRef .tc main_v57) = fun j : S16.Idx => Spec.rank (args V) 1 (j 0) := by
  rw [after_ops, end8 V main_v57 (by decide)]
  funext j
  exact (congrArg _ (ValueIdx.eq_ix1 j)).trans (rank1 V hs (j 0))
theorem out_rank2 (hs : (args V).Small) : after ops V (Proc.devRef .tc main_v63) = fun j : S16.Idx => Spec.rank (args V) 2 (j 0) := by
  rw [after_ops, end9 V main_v63 (by decide)]
  funext j
  exact (congrArg _ (ValueIdx.eq_ix1 j)).trans (rank2 V hs (j 0))
/-- The row of metrics of each of the three rankings. -/
def metRow (r : Fin 3) : FVec Ideal S5 .f32 :=
  match r with
  | ⟨0, _⟩ => W13 V (Proc.devRef .tc main_v86)
  | ⟨1, _⟩ => W13 V (Proc.devRef .tc main_v109)
  | ⟨2, _⟩ => W13 V (Proc.devRef .tc main_v132)

theorem metRow_apply (hs : (args V).Small) (r : Fin 3) (k : Fin 5) : metRow V r (ix1 k) = Spec.metrics (args V) r k :=
  match r with
  | ⟨0, _⟩ => met0 V hs k
  | ⟨1, _⟩ => met1 V hs k
  | ⟨2, _⟩ => met2 V hs k

theorem met_apply (hs : (args V).Small) (r : Fin 3) (k : Fin 5) :
    (W14 V (Proc.devRef .tc main_v136) : FVec Ideal S3x5 .f32) (ix2 r k) = Spec.metrics (args V) r k :=
  (congrFun (seg13_met (W13 V)) (ix2 r k)).trans ((table_apply (metRow V) r k).trans (metRow_apply V hs r k))

theorem out_met (hs : (args V).Small) : after ops V (Proc.devRef .tc main_v136) = fun j : S3x5.Idx => Spec.metrics (args V) (j 0) (j 1) := by
  rw [after_ops]
  funext (j : S3x5.Idx)
  exact (congrArg _ (ValueIdx.eq_ix2 j)).trans (met_apply V hs (j 0) (j 1))

end Cert.ReferenceIdeal.Vals

end
-- ==== Proof.Algebraic.lean ====
module

public import proofs.«01_k».proof.Defs
public import proofs.«01_k».proof.Proof.KerOut
public import proofs.«01_k».proof.Proof.RefOut
public import proofs.«01_k».proof.Proof.PreFinite

@[expose] public section

set_option maxRecDepth 16384

noncomputable section

/-! The kernel and the reference end with equal results: both are the specification's, of the same arguments. -/

namespace Cert.Algebraic

open Idealize.ShloMosaic Idealize.ShloMosaic.TcCoe Idealize.SL.Sem Idealize.ShloMosaic.StableHlo

attribute [local instance] Cert.KernelIdeal.Gen.facts Cert.ReferenceIdeal.Gen.facts Cert.PreFinite.facts

/-- The reference's arguments in a memory. -/
abbrev refArgs (m' : (ℓ : Loc Cert.ReferenceIdeal.nD Cert.ReferenceIdeal.τ Cert.ReferenceIdeal.sig) → Buf (Elt Ideal) ℓ)
    (c : Dev Cert.ReferenceIdeal.nD) : Spec.Args := Cert.ReferenceIdeal.Vals.args (launchContents m' c)

theorem args_eq {x y : Spec.Args} (h0 : x.trip = y.trip) (h2 : x.tailMask = y.tailMask) (h3 : x.fullMask = y.fullMask) (h4 : x.nodeR = y.nodeR)
    (h5 : x.nodeI = y.nodeI) (h6 : x.relR = y.relR) (h7 : x.relI = y.relI) : x = y := by
  obtain ⟨⟩ := x
  obtain ⟨⟩ := y
  dsimp only at h0 h2 h3 h4 h5 h6 h7
  subst h0 h2 h3 h4 h5 h6 h7
  rfl

theorem holds : Cert.algebraic_KernelIdeal_ReferenceIdeal_pre_rows_in_range_finite := by
  intro m g m' g' hp hagree
  have hw : Cert.KernelIdeal.Body.InRange m := Cert.Pre.inRange m fun c => Cert.PreFinite.small (hp c).1
  have hx : ∀ c, (Cert.KernelIdeal.Score.args m c).Reals := fun c =>
    ⟨Cert.PreFinite.finite4 (hp c).2.1, Cert.PreFinite.finite5 (hp c).2.2.1, Cert.PreFinite.finite6 (hp c).2.2.2.1, Cert.PreFinite.finite7 (hp c).2.2.2.2⟩
  have ha : ∀ c, refArgs m' c = Cert.KernelIdeal.Score.args m c := fun c => by
    obtain ⟨h0, -, h2, h3, h4, h5, h6, h7⟩ := hagree c
    exact args_eq h0 h2 h3 h4 h5 h6 h7
  refine ⟨fun c => fun j : Cert.KernelIdeal.S16x32768.Idx => Spec.full (Cert.KernelIdeal.Score.args m c) (j 0) (j 1),
    fun c => fun j : Cert.KernelIdeal.S16.Idx => Spec.rank (Cert.KernelIdeal.Score.args m c) 0 (j 0),
    fun c => fun j : Cert.KernelIdeal.S16.Idx => Spec.rank (Cert.KernelIdeal.Score.args m c) 1 (j 0),
    fun c => fun j : Cert.KernelIdeal.S16.Idx => Spec.rank (Cert.KernelIdeal.Score.args m c) 2 (j 0),
    fun c => fun j : Cert.KernelIdeal.S3x5.Idx => Spec.metrics (Cert.KernelIdeal.Score.args m c) (j 0) (j 1), ?_, ?_⟩
  · refine (θ_run _ _ _).mono (fun r h c => ?_) (Cert.KernelIdeal.Body.run m g hw)
    have hr := Cert.KernelIdeal.Out.results m hw c (hx c) r.2.mem (h.1 c)
    exact ⟨hr.full, hr.rank0, hr.rank1, hr.rank2, hr.met, Cert.KernelIdeal.Body.kept m hw c r.2.mem (h.1 c)⟩
  · refine (θ_run _ _ _).mono (fun r h c => ?_) (Cert.ReferenceIdeal.Lines.run m' g')
    have hs : (refArgs m' c).Small := (ha c).symm ▸ Cert.KernelIdeal.Score.args_small m hw c
    have arg : ∀ b : Ref Cert.ReferenceIdeal.sig .tc, Cert.ReferenceIdeal.Lines.num b < 8 → r.2.mem (c.tc.loc b) = m' (c.tc.loc b) :=
      fun b hb => (h c b).trans (Cert.ReferenceIdeal.Lines.keep_arg _ b hb)
    beta_reduce
    rw [← ha c]
    exact ⟨(h c _).trans (Cert.ReferenceIdeal.Vals.out_full _ hs), (h c _).trans (Cert.ReferenceIdeal.Vals.out_rank0 _ hs),
      (h c _).trans (Cert.ReferenceIdeal.Vals.out_rank1 _ hs), (h c _).trans (Cert.ReferenceIdeal.Vals.out_rank2 _ hs),
      (h c _).trans (Cert.ReferenceIdeal.Vals.out_met _ hs), arg _ (by decide), arg _ (by decide), arg _ (by decide), arg _ (by decide),
      arg _ (by decide), arg _ (by decide), arg _ (by decide), arg _ (by decide)⟩

end Cert.Algebraic

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

/-! The certificate: the frames (Proof/Frames.lean) and the equal results (Proof/Algebraic.lean); nothing was rewritten on the way to the
ideal program. -/

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre.facts, Cert.PreFinite.facts,
  Cert.Frames.kernel, Cert.Frames.kernelIdeal, Cert.Frames.kernelIdealFinite, Cert.Frames.reference, Cert.Frames.referenceFinite, trivial,
  Cert.Algebraic.holds⟩

end Cert.Proof

end
